-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)) (v3 : (c : Dev Cert.Kernel5Ideal.nD) → Buf (Elt Ideal) ((c.tc : Thread Cert.Kernel5Ideal.nD Cert.Kernel5Ideal.τ).loc Cert.Kernel5Ideal.main_v7_3)) (v4 : (c : Dev Cert.Kernel5Ideal.nD) → Buf (Elt Ideal) ((c.tc : Thread Cert.Kernel5Ideal.nD Cert.Kernel5Ideal.τ).loc Cert.Kernel5Ideal.main_v7_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_v7_3) = v3 c
          ∧ r.2.mem ((c.tc : Thread Cert.Kernel5Ideal.nD Cert.Kernel5Ideal.τ).loc Cert.Kernel5Ideal.main_v7_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_v38) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)) (v3 : (c : Dev Cert.Kernel8Ideal.nD) → Buf (Elt Ideal) ((c.tc : Thread Cert.Kernel8Ideal.nD Cert.Kernel8Ideal.τ).loc Cert.Kernel8Ideal.main_v7_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_v7_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v52) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v3) = v2 c
          ∧ r.2.mem ((c.tc : Thread Cert.Reference9Ideal.nD Cert.Reference9Ideal.τ).loc Cert.Reference9Ideal.main_v4) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_v27) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_arguments.lean ====
abbrev S8192x1536 : Shape := ⟨2, ![8192, 1536]⟩
abbrev S4x8x2048 : Shape := ⟨3, ![4, 8, 2048]⟩
abbrev S8192x512 : Shape := ⟨2, ![8192, 512]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S4x8x2048 : S_.BroadcastsInDim S4x8x2048 (![] : Fin 0 → Fin S4x8x2048.rank)
  bcast_S_S8192x512 : S_.BroadcastsInDim S8192x512 (![] : Fin 0 → Fin S8192x512.rank)

variable [Facts]

def fn {F : FTy → Type} [FloatOps F] (main_arg0 : FVec F S8192x1536 .bf16) (main_arg1 : FVec F S4x8x2048 .f32) (main_arg2 : FVec F S8192x512 .bf16) : IVec S8192x1536 1 × IVec S4x8x2048 1 × IVec S8192x512 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S4x8x2048 .f32 := Host.absf main_arg1
  let main_cst_0 : FVec F S_ .f32 := constant S_ .f32 0x7F800000#32
  let main_v5 : FVec F S4x8x2048 .f32 := broadcastInDim S4x8x2048 ![] bcast_S_S4x8x2048 main_cst_0
  let main_v6 : IVec S4x8x2048 1 := cmpf .olt main_v4 main_v5
  let main_v7 : FVec F S8192x512 .f32 := (extf .f32 · bitsLt_bf16_f32) main_arg2
  let main_v8 : FVec F S8192x512 .f32 := Host.absf main_v7
  let main_cst_1 : FVec F S_ .f32 := constant S_ .f32 0x7F800000#32
  let main_v9 : FVec F S8192x512 .f32 := broadcastInDim S8192x512 ![] bcast_S_S8192x512 main_cst_1
  let main_v10 : IVec S8192x512 1 := cmpf .olt main_v8 main_v9
  (main_v3, main_v6, main_v10)
-- ==== Kernel.lean ====
abbrev S8192x1536 : Shape := ⟨2, ![8192, 1536]⟩
abbrev S4x8x2048 : Shape := ⟨3, ![4, 8, 2048]⟩
abbrev S8192x512 : Shape := ⟨2, ![8192, 512]⟩
abbrev S4x2048x8x64 : Shape := ⟨4, ![4, 2048, 8, 64]⟩
abbrev S_ : Shape := ⟨0, ![]⟩
abbrev S4x8x2048x2048 : Shape := ⟨4, ![4, 8, 2048, 2048]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048x1 : Shape := ⟨4, ![4, 8, 2048, 1]⟩
abbrev S4x8x64x2048 : Shape := ⟨4, ![4, 8, 64, 2048]⟩
abbrev S8192x1024 : Shape := ⟨2, ![8192, 1024]⟩
abbrev S4x2048x8 : Shape := ⟨3, ![4, 2048, 8]⟩
abbrev S8192x8 : Shape := ⟨2, ![8192, 8]⟩
abbrev S8192x8x64 : Shape := ⟨3, ![8192, 8, 64]⟩
abbrev S32x4x1x512 : Shape := ⟨4, ![32, 4, 1, 512]⟩
abbrev S2048x256 : Shape := ⟨2, ![2048, 256]⟩
abbrev S512x256 : Shape := ⟨2, ![512, 256]⟩
abbrev S4x1x1x512 : Shape := ⟨4, ![4, 1, 1, 512]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1x512 : Shape := ⟨4, ![1, 1, 1, 512]⟩
abbrev S1x512 : Shape := ⟨2, ![1, 512]⟩

abbrev nBuf : Space → Nat
  | .hbm => 61
  | .vmem => 24
  | .smem => 0
  | _ => 0

abbrev bufTy : (tb : Table) → Fin (tcTables nBuf tb) → BufTy
  | .hbm, ⟨0, _⟩ => ⟨S8192x1536, .bf16⟩
  | .hbm, ⟨1, _⟩ => ⟨S4x8x2048, .f32⟩
  | .hbm, ⟨2, _⟩ => ⟨S8192x512, .bf16⟩
  | .hbm, ⟨3, _⟩ => ⟨S8192x512, .bf16⟩
  | .hbm, ⟨4, _⟩ => ⟨S4x2048x8x64, .bf16⟩
  | .hbm, ⟨5, _⟩ => ⟨S8192x512, .bf16⟩
  | .hbm, ⟨6, _⟩ => ⟨S4x2048x8x64, .bf16⟩
  | .hbm, ⟨7, _⟩ => ⟨S8192x512, .bf16⟩
  | .hbm, ⟨8, _⟩ => ⟨S4x2048x8x64, .bf16⟩
  | .hbm, ⟨9, _⟩ => ⟨S4x2048x8x64, .f32⟩
  | .hbm, ⟨10, _⟩ => ⟨S_, .f32⟩
  | .hbm, ⟨11, _⟩ => ⟨S4x2048x8x64, .f32⟩
  | .hbm, ⟨12, _⟩ => ⟨S4x2048x8x64, .f32⟩
  | .hbm, ⟨13, _⟩ => ⟨S4x2048x8x64, .f32⟩
  | .hbm, ⟨14, _⟩ => ⟨S4x8x2048x2048, .f32⟩
  | .hbm, ⟨15, _⟩ => ⟨S4x8x1x2048, .f32⟩
  | .hbm, ⟨16, _⟩ => ⟨S4x8x2048x2048, .f32⟩
  | .hbm, ⟨17, _⟩ => ⟨S4x8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S4x8x2048x2048, .i1⟩
  | .hbm, ⟨28, _⟩ => ⟨S4x8x2048x2048, .f32⟩
  | .hbm, ⟨29, _⟩ => ⟨S4x8x2048x2048, .f32⟩
  | .hbm, ⟨30, _⟩ => ⟨S_, .f32⟩
  | .hbm, ⟨31, _⟩ => ⟨S4x8x2048, .f32⟩
  | .hbm, ⟨32, _⟩ => ⟨S4x8x2048x1, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S4x8x2048, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x2048x8x64, .f32⟩
  | .hbm, ⟨44, _⟩ => ⟨S4x8x64x2048, .f32⟩
  | .hbm, ⟨45, _⟩ => ⟨S4x2048x8x64, .f32⟩
  | .hbm, ⟨46, _⟩ => ⟨S8192x512, .f32⟩
  | .hbm, ⟨47, _⟩ => ⟨S_, .i32⟩
  | .hbm, ⟨48, _⟩ => ⟨S_, .f32⟩
  | .hbm, ⟨49, _⟩ => ⟨S8192x1024, .f32⟩
  | .hbm, ⟨50, _⟩ => ⟨S8192x1024, .bf16⟩
  | .hbm, ⟨51, _⟩ => ⟨S4x2048x8, .f32⟩
  | .hbm, ⟨52, _⟩ => ⟨S8192x8, .f32⟩
  | .hbm, ⟨53, _⟩ => ⟨S8192x8x64, .f32⟩
  | .hbm, ⟨54, _⟩ => ⟨S8192x512, .f32⟩
  | .hbm, ⟨55, _⟩ => ⟨S32x4x1x512, .f32⟩
  | .hbm, ⟨56, _⟩ => ⟨S8192x512, .f32⟩
  | .hbm, ⟨57, _⟩ => ⟨S8192x512, .bf16⟩
  | .hbm, ⟨58, _⟩ => ⟨S8192x512, .bf16⟩
  | .hbm, ⟨59, _⟩ => ⟨S8192x512, .f32⟩
  | .hbm, ⟨60, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S4x1x1x512, .f32⟩
  | .local _ .vmem, ⟨7, _⟩ => ⟨S4x1x1x512, .f32⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .f32⟩
  | .local _ .vmem, ⟨15, _⟩ => ⟨S2048x256, .f32⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S2048x256, .f32⟩
  | .local _ .vmem, ⟨21, _⟩ => ⟨S2048x256, .f32⟩
  | .local _ .vmem, ⟨22, _⟩ => ⟨S512x256, .f32⟩
  | .local _ .vmem, ⟨23, _⟩ => ⟨S512x256, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call1_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev main_v44_3 : Ref sig .tc := ⟨.hbm, 59, rfl⟩
abbrev main_v44_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 2, 4], ![false, false, false]⟩

def k0_mult1 (i : grid0.Coords) : BitVec 32 :=
  let arg2 : BitVec 32 := BitVec.ofNat 32 (i 2).val
  let c512_i32 : BitVec 32 := 512#32
  let v12 : BitVec 32 := Scalar.muli arg2 c512_i32
  v12
def k0_off1 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v19 : Index := Scalar.indexCast v13
  let c0_8 : Index := 0#32
  ![v19.toNat, 0]
def k0_off2 (i : grid0.Coords) : Fin 2 → Nat :=
  let arg2 : BitVec 32 := BitVec.ofNat 32 (i 2).val
  let c512_i32 : BitVec 32 := 512#32
  let v12 : BitVec 32 := Scalar.muli arg2 c512_i32
  let v13 : BitVec 32 := v12
  let v161 : Index := Scalar.indexCast v13
  let c128_51 : Index := 128#32
  ![v161.toNat, 128]
@[reducible] def k0_t1_loop (i : grid0.Coords) : Scf.Loop 32 :=
  let arg2 : BitVec 32 := BitVec.ofNat 32 (i 2).val
  let c1_i32 : BitVec 32 := 1#32
  let v298 : BitVec 32 := Scalar.addi arg2 c1_i32
  let c4_i32 : BitVec 32 := 4#32
  let v299 : BitVec 32 := Scalar.subi c4_i32 v298
  let c1_i32_88 : BitVec 32 := 1#32
  let v301 : BitVec 32 := Scalar.divsi v299 c1_i32_88
  let v302 : BitVec 32 := Scalar.muli v301 c1_i32_88
  let v303 : BitVec 32 := Scalar.addi v298 v302
  let c1_i32_89 : BitVec 32 := 1#32
  ⟨v298, v303, c1_i32_89⟩
def k0_mult2 (i : grid0.Coords) (k0_t1 : Fin (k0_t1_loop i).trips) : BitVec 32 :=
  let arg2 : BitVec 32 := BitVec.ofNat 32 (i 2).val
  let c1_i32 : BitVec 32 := 1#32
  let v298 : BitVec 32 := Scalar.addi arg2 c1_i32
  let c1_i32_89 : BitVec 32 := 1#32
  let arg15 : BitVec 32 := Scf.iv v298 c1_i32_89 k0_t1
  let c512_i32_103 : BitVec 32 := 512#32
  let v342 : BitVec 32 := Scalar.muli arg15 c512_i32_103
  v342
def k0_off3 (i : grid0.Coords) (k0_t1 : Fin (k0_t1_loop i).trips) : Fin 2 → Nat :=
  let arg2 : BitVec 32 := BitVec.ofNat 32 (i 2).val
  let c1_i32 : BitVec 32 := 1#32
  let v298 : BitVec 32 := Scalar.addi arg2 c1_i32
  let c1_i32_89 : BitVec 32 := 1#32
  let arg15 : BitVec 32 := Scf.iv v298 c1_i32_89 k0_t1
  let c512_i32_103 : BitVec 32 := 512#32
  let v342 : BitVec 32 := Scalar.muli arg15 c512_i32_103
  let v343 : BitVec 32 := v342
  let v349 : Index := Scalar.indexCast v343
  let c0_110 : Index := 0#32
  ![v349.toNat, 0]
def k0_off4 (i : grid0.Coords) (k0_t1 : Fin (k0_t1_loop i).trips) : Fin 2 → Nat :=
  let arg2 : BitVec 32 := BitVec.ofNat 32 (i 2).val
  let c1_i32 : BitVec 32 := 1#32
  let v298 : BitVec 32 := Scalar.addi arg2 c1_i32
  let c1_i32_89 : BitVec 32 := 1#32
  let arg15 : BitVec 32 := Scf.iv v298 c1_i32_89 k0_t1
  let c512_i32_103 : BitVec 32 := 512#32
  let v342 : BitVec 32 := Scalar.muli arg15 c512_i32_103
  let v343 : BitVec 32 := v342
  let v487 : Index := Scalar.indexCast v343
  let c128_153 : Index := 128#32
  ![v487.toNat, 128]
@[reducible] def k0_t2_loop (i : grid0.Coords) : Scf.Loop 32 :=
  let arg2 : BitVec 32 := BitVec.ofNat 32 (i 2).val
  let c1_i32 : BitVec 32 := 1#32
  let v298 : BitVec 32 := Scalar.addi arg2 c1_i32
  let c4_i32 : BitVec 32 := 4#32
  let v299 : BitVec 32 := Scalar.subi c4_i32 v298
  let c1_i32_88 : BitVec 32 := 1#32
  let v301 : BitVec 32 := Scalar.divsi v299 c1_i32_88
  let v302 : BitVec 32 := Scalar.muli v301 c1_i32_88
  let v303 : BitVec 32 := Scalar.addi v298 v302
  let v300 : BitVec 32 := Scalar.addi v298 v299
  let c1_i32_90 : BitVec 32 := 1#32
  ⟨v303, v300, c1_i32_90⟩
def k0_mult3 (i : grid0.Coords) (k0_t2 : Fin (k0_t2_loop i).trips) : BitVec 32 :=
  let arg2 : BitVec 32 := BitVec.ofNat 32 (i 2).val
  let c1_i32 : BitVec 32 := 1#32
  let v298 : BitVec 32 := Scalar.addi arg2 c1_i32
  let c4_i32 : BitVec 32 := 4#32
  let v299 : BitVec 32 := Scalar.subi c4_i32 v298
  let c1_i32_88 : BitVec 32 := 1#32
  let v301 : BitVec 32 := Scalar.divsi v299 c1_i32_88
  let v302 : BitVec 32 := Scalar.muli v301 c1_i32_88
  let v303 : BitVec 32 := Scalar.addi v298 v302
  let c1_i32_90 : BitVec 32 := 1#32
  let arg15 : BitVec 32 := Scf.iv v303 c1_i32_90 k0_t2
  let c512_i32_103 : BitVec 32 := 512#32
  let v342 : BitVec 32 := Scalar.muli arg15 c512_i32_103
  v342
def k0_off5 (i : grid0.Coords) (k0_t2 : Fin (k0_t2_loop i).trips) : Fin 2 → Nat :=
  let arg2 : BitVec 32 := BitVec.ofNat 32 (i 2).val
  let c1_i32 : BitVec 32 := 1#32
  let v298 : BitVec 32 := Scalar.addi arg2 c1_i32
  let c4_i32 : BitVec 32 := 4#32
  let v299 : BitVec 32 := Scalar.subi c4_i32 v298
  let c1_i32_88 : BitVec 32 := 1#32
  let v301 : BitVec 32 := Scalar.divsi v299 c1_i32_88
  let v302 : BitVec 32 := Scalar.muli v301 c1_i32_88
  let v303 : BitVec 32 := Scalar.addi v298 v302
  let c1_i32_90 : BitVec 32 := 1#32
  let arg15 : BitVec 32 := Scf.iv v303 c1_i32_90 k0_t2
  let c512_i32_103 : BitVec 32 := 512#32
  let v342 : BitVec 32 := Scalar.muli arg15 c512_i32_103
  let v343 : BitVec 32 := v342
  let v349 : Index := Scalar.indexCast v343
  let c0_110 : Index := 0#32
  ![v349.toNat, 0]
def k0_off6 (i : grid0.Coords) (k0_t2 : Fin (k0_t2_loop i).trips) : Fin 2 → Nat :=
  let arg2 : BitVec 32 := BitVec.ofNat 32 (i 2).val
  let c1_i32 : BitVec 32 := 1#32
  let v298 : BitVec 32 := Scalar.addi arg2 c1_i32
  let c4_i32 : BitVec 32 := 4#32
  let v299 : BitVec 32 := Scalar.subi c4_i32 v298
  let c1_i32_88 : BitVec 32 := 1#32
  let v301 : BitVec 32 := Scalar.divsi v299 c1_i32_88
  let v302 : BitVec 32 := Scalar.muli v301 c1_i32_88
  let v303 : BitVec 32 := Scalar.addi v298 v302
  let c1_i32_90 : BitVec 32 := 1#32
  let arg15 : BitVec 32 := Scf.iv v303 c1_i32_90 k0_t2
  let c512_i32_103 : BitVec 32 := 512#32
  let v342 : BitVec 32 := Scalar.muli arg15 c512_i32_103
  let v343 : BitVec 32 := v342
  let v487 : Index := Scalar.indexCast v343
  let c128_153 : Index := 128#32
  ![v487.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8192x1536 : Shape := ⟨2, ![8192, 1536]⟩
abbrev S4x8x2048 : Shape := ⟨3, ![4, 8, 2048]⟩
abbrev S8192x512 : Shape := ⟨2, ![8192, 512]⟩
abbrev S4x2048x8x64 : Shape := ⟨4, ![4, 2048, 8, 64]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x64x2048 : Shape := ⟨4, ![4, 8, 64, 2048]⟩
abbrev S4x8x2048x64 : Shape := ⟨4, ![4, 8, 2048, 64]⟩
abbrev S4x2048x8 : Shape := ⟨3, ![4, 2048, 8]⟩
abbrev S8192x4x2x1 : Shape := ⟨4, ![8192, 4, 2, 1]⟩
abbrev S8192x4x2x64 : Shape := ⟨4, ![8192, 4, 2, 64]⟩

abbrev nBuf : Space → Nat
  | .hbm => 133
  | .vmem => 0
  | .smem => 0
  | _ => 0

abbrev hbmTy0_0 (i : Nat) : BufTy := match i % 128 with
  | 0 => ⟨S8192x1536, .bf16⟩
  | 1 => ⟨S4x8x2048, .f32⟩
  | 2 => ⟨S8192x512, .bf16⟩
  | 3 => ⟨S8192x512, .bf16⟩
  | 4 => ⟨S4x2048x8x64, .bf16⟩
  | 5 => ⟨S4x2048x8x64, .f32⟩
  | 6 => ⟨S8192x512, .bf16⟩
  | 7 => ⟨S4x2048x8x64, .bf16⟩
  | 8 => ⟨S4x2048x8x64, .f32⟩
  | 9 => ⟨S8192x512, .bf16⟩
  | 10 => ⟨S4x2048x8x64, .bf16⟩
  | 11 => ⟨S4x2048x8x64, .f32⟩
  | 12 => ⟨S_, .f32⟩
  | 13 => ⟨S4x2048x8x64, .f32⟩
  | 14 => ⟨S4x2048x8x64, .f32⟩
  | 15 => ⟨S4x8x2048x2048, .f32⟩
  | 16 => ⟨S4x8x2048x1, .f32⟩
  | 17 => ⟨S4x8x2048x2048, .f32⟩
  | 18 => ⟨S4x8x2048x2048, .f32⟩
  | 19 => ⟨S4x8x1x2048, .f32⟩
  | 20 => ⟨S4x8x2048x2048, .f32⟩
  | 21 => ⟨S4x8x2048x2048, .f32⟩
  | 22 => ⟨S2048, .i32⟩
  | 23 => ⟨S1x2048, .i32⟩
  | 24 => ⟨S2048, .i32⟩
  | 25 => ⟨S2048x1, .i32⟩
  | 26 => ⟨S2048x2048, .i32⟩
  | 27 => ⟨S2048x2048, .i32⟩
  | 28 => ⟨S2048x2048, .i1⟩
  | 29 => ⟨S_, .f32⟩
  | 30 => ⟨S_, .f32⟩
  | 31 => ⟨S4x8x2048x2048, .i1⟩
  | 32 => ⟨S4x8x2048x2048, .f32⟩
  | 33 => ⟨S4x8x2048x2048, .f32⟩
  | 34 => ⟨S_, .f32⟩
  | 35 => ⟨S4x8x2048x2048, .f32⟩
  | 36 => ⟨S_, .f32⟩
  | 37 => ⟨S4x8x2048, .f32⟩
  | 38 => ⟨S4x8x2048x1, .f32⟩
  | 39 => ⟨S4x8x2048x2048, .f32⟩
  | 40 => ⟨S4x8x2048x2048, .i1⟩
  | 41 => ⟨S4x8x2048x2048, .f32⟩
  | 42 => ⟨S_, .f32⟩
  | 43 => ⟨S4x8x2048, .f32⟩
  | 44 => ⟨S_, .f32⟩
  | 45 => ⟨S4x8x2048, .f32⟩
  | 46 => ⟨S4x8x2048, .f32⟩
  | 47 => ⟨S_, .f32⟩
  | 48 => ⟨S4x8x2048, .f32⟩
  | 49 => ⟨S4x8x2048, .i1⟩
  | 50 => ⟨S_, .f32⟩
  | 51 => ⟨S4x8x2048, .f32⟩
  | 52 => ⟨S4x8x2048, .i1⟩
  | 53 => ⟨S_, .f32⟩
  | 54 => ⟨S4x8x2048, .f32⟩
  | 55 => ⟨S_, .f32⟩
  | 56 => ⟨S4x8x2048, .f32⟩
  | 57 => ⟨S_, .f32⟩
  | 58 => ⟨S4x8x2048, .f32⟩
  | 59 => ⟨S4x8x2048, .f32⟩
  | 60 => ⟨S4x8x2048, .f32⟩
  | 61 => ⟨S4x8x2048x1, .f32⟩
  | 62 => ⟨S4x8x2048x2048, .f32⟩
  | 63 => ⟨S4x8x2048x2048, .f32⟩
  | 64 => ⟨S4x8x2048x2048, .f32⟩
  | 65 => ⟨S_, .f32⟩
  | 66 => ⟨S4x8x2048, .f32⟩
  | 67 => ⟨S4x8x2048x1, .f32⟩
  | 68 => ⟨S4x8x2048x2048, .f32⟩
  | 69 => ⟨S4x8x2048x2048, .f32⟩
  | 70 => ⟨S4x8x2048x1, .f32⟩
  | 71 => ⟨S_, .f32⟩
  | 72 => ⟨S4x8x2048x1, .f32⟩
  | 73 => ⟨S4x8x2048x1, .f32⟩
  | 74 => ⟨S4x8x64x2048, .f32⟩
  | 75 => ⟨S4x2048x8x64, .f32⟩
  | 76 => ⟨S8192x512, .f32⟩
  | 77 => ⟨S4x2048x8x64, .f32⟩
  | 78 => ⟨S4x8x64x2048, .f32⟩
  | 79 => ⟨S4x8x2048x2048, .f32⟩
  | 80 => ⟨S4x8x64x2048, .f32⟩
  | 81 => ⟨S4x2048x8x64, .f32⟩
  | 82 => ⟨S4x8x2048x2048, .f32⟩
  | 83 => ⟨S4x8x2048x2048, .f32⟩
  | 84 => ⟨S4x8x2048x2048, .f32⟩
  | 85 => ⟨S_, .f32⟩
  | 86 => ⟨S4x8x2048, .f32⟩
  | 87 => ⟨S4x8x2048x1, .f32⟩
  | 88 => ⟨S4x8x2048x1, .f32⟩
  | 89 => ⟨S4x8x2048x2048, .f32⟩
  | 90 => ⟨S4x8x2048x2048, .f32⟩
  | 91 => ⟨S_, .f32⟩
  | 92 => ⟨S4x8x2048, .f32⟩
  | 93 => ⟨S4x8x2048x2048, .f32⟩
  | 94 => ⟨S4x8x2048x2048, .f32⟩
  | 95 => ⟨S4x8x2048x2048, .f32⟩
  | 96 => ⟨S_, .f32⟩
  | 97 => ⟨S4x8x2048x2048, .f32⟩
  | 98 => ⟨S4x8x2048x2048, .f32⟩
  | 99 => ⟨S4x8x2048x2048, .f32⟩
  | 100 => ⟨S_, .f32⟩
  | 101 => ⟨S4x8x2048, .f32⟩
  | 102 => ⟨S4x8x1x2048, .f32⟩
  | 103 => ⟨S_, .f32⟩
  | 104 => ⟨S4x8x2048, .f32⟩
  | 105 => ⟨S_, .f32⟩
  | 106 => ⟨S4x8x2048, .f32⟩
  | 107 => ⟨S4x8x2048x1, .f32⟩
  | 108 => ⟨S_, .f32⟩
  | 109 => ⟨S4x8x2048, .f32⟩
  | 110 => ⟨S4x8x2048x64, .f32⟩
  | 111 => ⟨S4x2048x8x64, .f32⟩
  | 112 => ⟨S4x8x2048x64, .f32⟩
  | 113 => ⟨S4x2048x8x64, .f32⟩
  | 114 => ⟨S_, .f32⟩
  | 115 => ⟨S4x2048x8x64, .f32⟩
  | 116 => ⟨S4x2048x8x64, .f32⟩
  | 117 => ⟨S8192x512, .f32⟩
  | 118 => ⟨S8192x512, .f32⟩
  | 119 => ⟨S8192x512, .bf16⟩
  | 120 => ⟨S8192x512, .f32⟩
  | 121 => ⟨S8192x512, .bf16⟩
  | 122 => ⟨S4x2048x8, .f32⟩
  | 123 => ⟨S8192x4x2x1, .f32⟩
  | 124 => ⟨S8192x4x2x1, .f32⟩
  | 125 => ⟨S8192x4x2x64, .f32⟩
  | 126 => ⟨S8192x512, .f32⟩
  | 127 => ⟨S4x2048x8, .f32⟩
  | _ => ⟨S8192x1536, .bf16⟩

abbrev hbmTy0_1 (i : Nat) : BufTy := match i % 128 with
  | 0 => ⟨S8192x4x2x1, .f32⟩
  | 1 => ⟨S8192x4x2x1, .f32⟩
  | 2 => ⟨S8192x4x2x64, .f32⟩
  | 3 => ⟨S8192x512, .f32⟩
  | 4 => ⟨S8192x512, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩

abbrev nD : Nat := 1
abbrev τ : Topo := Topo.v7x

variable {F : FTy → Type} [FloatOps F]
-- ==== Kernel2.lean ====
abbrev S8192x1024 : Shape := ⟨2, ![8192, 1024]⟩
abbrev S2x8192x2816 : Shape := ⟨3, ![2, 8192, 2816]⟩
abbrev S1x8192x1024 : Shape := ⟨3, ![1, 8192, 1024]⟩
abbrev S_ : Shape := ⟨0, ![]⟩
abbrev S1x128 : Shape := ⟨2, ![1, 128]⟩
abbrev S2x2816x1024 : Shape := ⟨3, ![2, 2816, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x1024, .bf16⟩
  | .hbm, ⟨3, _⟩ => ⟨S_, .f32⟩
  | .hbm, ⟨4, _⟩ => ⟨S1x128, .f32⟩
  | .hbm, ⟨5, _⟩ => ⟨S2x2816x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .f32⟩
  | .local _ .vmem, ⟨5, _⟩ => ⟨S1x1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩
abbrev S2x2816x1024 : Shape := ⟨3, ![2, 2816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .bf16⟩
  | .hbm, ⟨9, _⟩ => ⟨S8192x2816, .bf16⟩
  | .hbm, ⟨10, _⟩ => ⟨S8192x2816, .f32⟩
  | .hbm, ⟨11, _⟩ => ⟨S1x8192x2816, .bf16⟩
  | .hbm, ⟨12, _⟩ => ⟨S8192x2816, .bf16⟩
  | .hbm, ⟨13, _⟩ => ⟨S8192x2816, .f32⟩
  | .hbm, ⟨14, _⟩ => ⟨S8192x5632, .f32⟩
  | .hbm, ⟨15, _⟩ => ⟨S5632x1024, .f32⟩
  | .hbm, ⟨16, _⟩ => ⟨S1024x5632, .f32⟩
  | .hbm, ⟨17, _⟩ => ⟨S5632x1024, .f32⟩
  | .hbm, ⟨18, _⟩ => ⟨S2x2816x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S1x8192x2816 : Shape := ⟨3, ![1, 8192, 2816]⟩
abbrev S1x8192x1024 : Shape := ⟨3, ![1, 8192, 1024]⟩
abbrev S_ : Shape := ⟨0, ![]⟩
abbrev S1x128 : Shape := ⟨2, ![1, 128]⟩
abbrev S1x2816x1024 : Shape := ⟨3, ![1, 2816, 1024]⟩
abbrev S1x2048x1408 : Shape := ⟨3, ![1, 2048, 1408]⟩
abbrev S1x2048x1024 : Shape := ⟨3, ![1, 2048, 1024]⟩
abbrev S1x1408x1024 : Shape := ⟨3, ![1, 1408, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S1x8192x2816, .bf16⟩
  | .hbm, ⟨3, _⟩ => ⟨S1x8192x1024, .bf16⟩
  | .hbm, ⟨4, _⟩ => ⟨S_, .f32⟩
  | .hbm, ⟨5, _⟩ => ⟨S1x128, .f32⟩
  | .hbm, ⟨6, _⟩ => ⟨S1x2816x1024, .f32⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .f32⟩
  | .local _ .vmem, ⟨5, _⟩ => ⟨S1x1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S5632x1024 : Shape := ⟨2, ![5632, 1024]⟩
abbrev S2x2816x1024 : Shape := ⟨3, ![2, 2816, 1024]⟩
abbrev S1x1024 : Shape := ⟨2, ![1, 1024]⟩
abbrev S_ : Shape := ⟨0, ![]⟩
abbrev S1x128 : Shape := ⟨2, ![1, 128]⟩
abbrev S2x8192x2816 : Shape := ⟨3, ![2, 8192, 2816]⟩
abbrev S512x1024 : Shape := ⟨2, ![512, 1024]⟩
abbrev S2x512x2816 : Shape := ⟨3, ![2, 512, 2816]⟩
abbrev S2 : Shape := ⟨1, ![2]⟩
abbrev S1 : Shape := ⟨1, ![1]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩
abbrev S1x512x1024 : Shape := ⟨3, ![1, 512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S5632x1024, .f32⟩
  | .hbm, ⟨6, _⟩ => ⟨S2x2816x1024, .f32⟩
  | .hbm, ⟨7, _⟩ => ⟨S2x2816x1024, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x128, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S2x8192x2816, .bf16⟩
  | .hbm, ⟨17, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S2x512x2816, .bf16⟩
  | .local _ .vmem, ⟨11, _⟩ => ⟨S2x512x2816, .bf16⟩
  | .local _ .vmem, ⟨12, _⟩ => ⟨S512x1024, .bf16⟩
  | .local _ .vmem, ⟨13, _⟩ => ⟨S512x1024, .bf16⟩
  | .local _ .vmem, ⟨14, _⟩ => ⟨S2x2816x1024, .bf16⟩
  | .local _ .vmem, ⟨15, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S8192x5632 : Shape := ⟨2, ![8192, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x2816 : Shape := ⟨3, ![1, 8192, 2816]⟩
abbrev S2x8192x2816 : Shape := ⟨3, ![2, 8192, 2816]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x8192x2816, .f32⟩
  | .hbm, ⟨55, _⟩ => ⟨S1x8192x2816, .f32⟩
  | .hbm, ⟨56, _⟩ => ⟨S2x8192x2816, .f32⟩
  | .hbm, ⟨57, _⟩ => ⟨S2x8192x2816, .bf16⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel6.lean ====
abbrev S8192x1024 : Shape := ⟨2, ![8192, 1024]⟩
abbrev S1x8192x1024 : Shape := ⟨3, ![1, 8192, 1024]⟩
abbrev S_ : Shape := ⟨0, ![]⟩
abbrev S1x128 : Shape := ⟨2, ![1, 128]⟩
abbrev S1x1024x1024 : Shape := ⟨3, ![1, 1024, 1024]⟩
abbrev S1x2048x512 : Shape := ⟨3, ![1, 2048, 512]⟩
abbrev S1x2048x1024 : Shape := ⟨3, ![1, 2048, 1024]⟩
abbrev S1x512x1024 : Shape := ⟨3, ![1, 512, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1x8192x1024, .bf16⟩
  | .hbm, ⟨4, _⟩ => ⟨S_, .f32⟩
  | .hbm, ⟨5, _⟩ => ⟨S1x128, .f32⟩
  | .hbm, ⟨6, _⟩ => ⟨S1x1024x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x1024, .f32⟩
  | .local _ .vmem, ⟨5, _⟩ => ⟨S1x512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x2944 : Shape := ⟨2, ![8192, 2944]⟩
abbrev S1x8192x1024 : Shape := ⟨3, ![1, 8192, 1024]⟩
abbrev S1x8192x2944 : Shape := ⟨3, ![1, 8192, 2944]⟩
abbrev S_ : Shape := ⟨0, ![]⟩
abbrev S1x128 : Shape := ⟨2, ![1, 128]⟩
abbrev S1x1024x2944 : Shape := ⟨3, ![1, 1024, 2944]⟩
abbrev S1x2048x512 : Shape := ⟨3, ![1, 2048, 512]⟩
abbrev S1x2048x2944 : Shape := ⟨3, ![1, 2048, 2944]⟩
abbrev S1x512x2944 : Shape := ⟨3, ![1, 512, 2944]⟩
abbrev S2048x512 : Shape := ⟨2, ![2048, 512]⟩
abbrev S2048x2944 : Shape := ⟨2, ![2048, 2944]⟩
abbrev S512x2944 : Shape := ⟨2, ![512, 2944]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2944, .bf16⟩
  | .hbm, ⟨2, _⟩ => ⟨S1x8192x1024, .bf16⟩
  | .hbm, ⟨3, _⟩ => ⟨S1x8192x2944, .bf16⟩
  | .hbm, ⟨4, _⟩ => ⟨S_, .f32⟩
  | .hbm, ⟨5, _⟩ => ⟨S1x128, .f32⟩
  | .hbm, ⟨6, _⟩ => ⟨S1x1024x2944, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x2944, .bf16⟩
  | .local _ .vmem, ⟨3, _⟩ => ⟨S1x2048x2944, .bf16⟩
  | .local _ .vmem, ⟨4, _⟩ => ⟨S1x512x2944, .f32⟩
  | .local _ .vmem, ⟨5, _⟩ => ⟨S1x512x2944, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x2944 : Shape := ⟨2, ![8192, 2944]⟩
abbrev S_ : Shape := ⟨0, ![]⟩
abbrev S1024x2944 : Shape := ⟨2, ![1024, 2944]⟩
abbrev S2944x1024 : Shape := ⟨2, ![2944, 1024]⟩
abbrev S1x1024x2944 : Shape := ⟨3, ![1, 1024, 2944]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2944, .bf16⟩
  | .hbm, ⟨2, _⟩ => ⟨S_, .f32⟩
  | .hbm, ⟨3, _⟩ => ⟨S1024x2944, .f32⟩
  | .hbm, ⟨4, _⟩ => ⟨S8192x1024, .f32⟩
  | .hbm, ⟨5, _⟩ => ⟨S8192x2944, .f32⟩
  | .hbm, ⟨6, _⟩ => ⟨S8192x2944, .f32⟩
  | .hbm, ⟨7, _⟩ => ⟨S2944x1024, .f32⟩
  | .hbm, ⟨8, _⟩ => ⟨S1024x2944, .f32⟩
  | .hbm, ⟨9, _⟩ => ⟨S1x1024x2944, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S5632x1024 : Shape := ⟨2, ![5632, 1024]⟩
abbrev S2x2816x1024 : Shape := ⟨3, ![2, 2816, 1024]⟩
abbrev S1x1024 : Shape := ⟨2, ![1, 1024]⟩
abbrev S_ : Shape := ⟨0, ![]⟩
abbrev S1x128 : Shape := ⟨2, ![1, 128]⟩
abbrev S2x8192x2816 : Shape := ⟨3, ![2, 8192, 2816]⟩
abbrev S512x1024 : Shape := ⟨2, ![512, 1024]⟩
abbrev S2x512x2816 : Shape := ⟨3, ![2, 512, 2816]⟩
abbrev S2 : Shape := ⟨1, ![2]⟩
abbrev S1 : Shape := ⟨1, ![1]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩
abbrev S1x512x1024 : Shape := ⟨3, ![1, 512, 1024]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1 : Shape := ⟨2, ![1, 1]⟩

abbrev nBuf : Space → Nat
  | .hbm => 18
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S5632x1024, .f32⟩
  | .hbm, ⟨7, _⟩ => ⟨S2x2816x1024, .f32⟩
  | .hbm, ⟨8, _⟩ => ⟨S2x2816x1024, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x128, .f32⟩
  | .hbm, ⟨14, _⟩ => ⟨S8192x1024, .f32⟩
  | .hbm, ⟨15, _⟩ => ⟨S1x128, .f32⟩
  | .hbm, ⟨16, _⟩ => ⟨S8192x1024, .f32⟩
  | .hbm, ⟨17, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S2x512x2816, .bf16⟩
  | .local _ .vmem, ⟨12, _⟩ => ⟨S2x512x2816, .bf16⟩
  | .local _ .vmem, ⟨13, _⟩ => ⟨S2x2816x1024, .bf16⟩
  | .local _ .vmem, ⟨14, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S1024x5632 : Shape := ⟨2, ![1024, 5632]⟩
abbrev S2816x1024 : Shape := ⟨2, ![2816, 1024]⟩
abbrev S1024 : Shape := ⟨1, ![1024]⟩
abbrev S8192x5632 : Shape := ⟨2, ![8192, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩
abbrev S1x8192x2816 : Shape := ⟨3, ![1, 8192, 2816]⟩
abbrev S2x8192x2816 : Shape := ⟨3, ![2, 8192, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S1x128, .f32⟩
  | .hbm, ⟨78, _⟩ => ⟨S1x8192x2816, .f32⟩
  | .hbm, ⟨79, _⟩ => ⟨S1x8192x2816, .f32⟩
  | .hbm, ⟨80, _⟩ => ⟨S2x8192x2816, .f32⟩
  | .hbm, ⟨81, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_cst_11 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_cst_13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel9.lean ====
abbrev S8192x1024 : Shape := ⟨2, ![8192, 1024]⟩
abbrev S1024x2944 : Shape := ⟨2, ![1024, 2944]⟩
abbrev S8192x768 : Shape := ⟨2, ![8192, 768]⟩
abbrev S8192x1536 : Shape := ⟨2, ![8192, 1536]⟩
abbrev S8192x512 : Shape := ⟨2, ![8192, 512]⟩
abbrev S8192x128 : Shape := ⟨2, ![8192, 128]⟩
abbrev S512x1024 : Shape := ⟨2, ![512, 1024]⟩
abbrev S512x768 : Shape := ⟨2, ![512, 768]⟩
abbrev S512x1536 : Shape := ⟨2, ![512, 1536]⟩
abbrev S512x512 : Shape := ⟨2, ![512, 512]⟩
abbrev S512x128 : Shape := ⟨2, ![512, 128]⟩
abbrev S1024x768 : Shape := ⟨2, ![1024, 768]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x2944, .f32⟩
  | .hbm, ⟨2, _⟩ => ⟨S1024x2944, .bf16⟩
  | .hbm, ⟨3, _⟩ => ⟨S8192x768, .f32⟩
  | .hbm, ⟨4, _⟩ => ⟨S8192x1536, .bf16⟩
  | .hbm, ⟨5, _⟩ => ⟨S8192x512, .f32⟩
  | .hbm, ⟨6, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1024x2944, .bf16⟩
  | .local _ .vmem, ⟨3, _⟩ => ⟨S512x768, .f32⟩
  | .local _ .vmem, ⟨4, _⟩ => ⟨S512x768, .f32⟩
  | .local _ .vmem, ⟨5, _⟩ => ⟨S512x1536, .bf16⟩
  | .local _ .vmem, ⟨6, _⟩ => ⟨S512x1536, .bf16⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x1024 : Shape := ⟨2, ![8192, 1024]⟩
abbrev S1024x2944 : Shape := ⟨2, ![1024, 2944]⟩
abbrev S8192x2944 : Shape := ⟨2, ![8192, 2944]⟩
abbrev S8192x768 : Shape := ⟨2, ![8192, 768]⟩
abbrev S8192x1536 : Shape := ⟨2, ![8192, 1536]⟩
abbrev S8192x512 : Shape := ⟨2, ![8192, 512]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2944, .f32⟩
  | .hbm, ⟨2, _⟩ => ⟨S8192x2944, .f32⟩
  | .hbm, ⟨3, _⟩ => ⟨S8192x768, .f32⟩
  | .hbm, ⟨4, _⟩ => ⟨S8192x1536, .f32⟩
  | .hbm, ⟨5, _⟩ => ⟨S8192x512, .f32⟩
  | .hbm, ⟨6, _⟩ => ⟨S8192x128, .f32⟩
  | .hbm, ⟨7, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.RunA.lean ====
/- The body of the backward kernel run at a point where the key block is the first of its sequence: it zeroes the two accumulated outputs and then adds to them. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's branch: the key block is the first of its sequence. -/
abbrev cond0_0 (i : grid0.Coords) : Prop := (Scalar.cmpi .ne (Scalar.extui (Scalar.cmpi .eq (BitVec.ofNat 32 (i 2).val) 0#32)) 0#32) = 1#1

set_option maxHeartbeats 4000000 in
/-- What the body leaves at a point where the key block is the first of its sequence: the stores through each output window, latest first. -/
@[irreducible] def runA (c : Dev nD) (i : grid0.Coords) (arg3 : Memref sig .tc .vmem S2048x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S4x1x1x512 .f32) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S2048x256 .bf16) (harg9 : arg9.IsWhole) (arg10 : Memref sig .tc .vmem S2048x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2048x256 .f32) (harg13 : arg13.IsWhole) (arg14 : Memref sig .tc .vmem S512x256 .f32) (harg14 : arg14.IsWhole) (hc0 : cond0_0 i) (x0 : Vec F S2048x256 .bf16) (x1 : Vec F S512x256 .bf16) (x2 : Vec F S512x256 .bf16) (x3 : Vec F S4x1x1x512 .f32) (x4 : Vec F S2048x256 .bf16) (x5 : Vec F S2048x256 .f32) (x6 : Vec F S2048x256 .bf16) :
    Σ' (L7 : List (View.Piece (Elt F) S2048x256 .f32)) (L8 : List (View.Piece (Elt F) S512x256 .bf16)) (L9 : List (View.Piece (Elt F) S512x256 .bf16)) (L10 : List (View.Piece (Elt F) S2048x256 .f32)), { L11 : List (View.Piece (Elt F) S512x256 .f32) // ∀ (E : Set ℕ) (K : PUnit → sProp 𝕄) (f7 : BufTy.Contents (Elt F) arg10.view.ty) (f8 : BufTy.Contents (Elt F) arg11.view.ty) (f9 : BufTy.Contents (Elt F) arg12.view.ty) (f10 : BufTy.Contents (Elt F) arg13.view.ty) (f11 : BufTy.Contents (Elt F) arg14.view.ty),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} f7) ∗ (arg11.view.loc (c : Thread nD τ) ↦[arg11.view.set]{fullShare} f8) ∗ (arg12.view.loc (c : Thread nD τ) ↦[arg12.view.set]{fullShare} f9) ∗ (arg13.view.loc (c : Thread nD τ) ↦[arg13.view.set]{fullShare} f10) ∗ (arg14.view.loc (c : Thread nD τ) ↦[arg14.view.set]{fullShare} f11)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} (arg10.view.writes (Elt F) arg10.view.junk L7)) ∗ (arg11.view.loc (c : Thread nD τ) ↦[arg11.view.set]{fullShare} (arg11.view.writes (Elt F) f8 L8)) ∗ (arg12.view.loc (c : Thread nD τ) ↦[arg12.view.set]{fullShare} (arg12.view.writes (Elt F) f9 L9)) ∗ (arg13.view.loc (c : Thread nD τ) ↦[arg13.view.set]{fullShare} (arg13.view.writes (Elt F) arg13.view.junk L10)) ∗ (arg14.view.loc (c : Thread nD τ) ↦[arg14.view.set]{fullShare} (arg14.view.writes (Elt F) f11 L11))) -∗ K ⟨⟩))
        ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K f7 f8 f9 f10 f11 => ?run⟩
  case run =>
    simp only [cc0_fox_bwd_eq_skeleton]; unfold cc0_fox_bwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, H7, H8, H9, H10, H11, Hk⟩
    obtain rfl := harg3.eq_unread hg0; obtain rfl := harg4.eq_unread hg1; obtain rfl := harg5.eq_unread hg2; obtain rfl := harg6.eq_unread hg3; obtain rfl := harg7.eq_unread hg4; obtain rfl := harg8.eq_unread hg5; obtain rfl := harg9.eq_unread hg6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    isplitl [H9]
    · iexact H9
    isplitl [H10]
    · iexact H10
    iexact H11

end Cert.KernelIdeal.Fox

end
-- ==== Proof.RunB.lean ====
/- The body of the backward kernel run at the other points: the two accumulated outputs are read as the point before left them. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder
public import proofs.«01_k».proof.Proof.RunA

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body leaves at a point where the key block is not the first of its sequence: the stores through each output window, latest first. -/
@[irreducible] def runB (c : Dev nD) (i : grid0.Coords) (arg3 : Memref sig .tc .vmem S2048x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S4x1x1x512 .f32) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S2048x256 .bf16) (harg9 : arg9.IsWhole) (arg10 : Memref sig .tc .vmem S2048x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2048x256 .f32) (harg13 : arg13.IsWhole) (arg14 : Memref sig .tc .vmem S512x256 .f32) (harg14 : arg14.IsWhole) (hc0 : ¬ cond0_0 i) (x0 : Vec F S2048x256 .bf16) (x1 : Vec F S512x256 .bf16) (x2 : Vec F S512x256 .bf16) (x3 : Vec F S4x1x1x512 .f32) (x4 : Vec F S2048x256 .bf16) (x5 : Vec F S2048x256 .f32) (x6 : Vec F S2048x256 .bf16) (y7 : Vec F S2048x256 .f32) (y10 : Vec F S2048x256 .f32) :
    Σ' (L7 : List (View.Piece (Elt F) S2048x256 .f32)) (L8 : List (View.Piece (Elt F) S512x256 .bf16)) (L9 : List (View.Piece (Elt F) S512x256 .bf16)) (L10 : List (View.Piece (Elt F) S2048x256 .f32)), { L11 : List (View.Piece (Elt F) S512x256 .f32) // ∀ (E : Set ℕ) (K : PUnit → sProp 𝕄) (f8 : BufTy.Contents (Elt F) arg11.view.ty) (f9 : BufTy.Contents (Elt F) arg12.view.ty) (f11 : BufTy.Contents (Elt F) arg14.view.ty),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} (harg10.unread y7)) ∗ (arg11.view.loc (c : Thread nD τ) ↦[arg11.view.set]{fullShare} f8) ∗ (arg12.view.loc (c : Thread nD τ) ↦[arg12.view.set]{fullShare} f9) ∗ (arg13.view.loc (c : Thread nD τ) ↦[arg13.view.set]{fullShare} (harg13.unread y10)) ∗ (arg14.view.loc (c : Thread nD τ) ↦[arg14.view.set]{fullShare} f11)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} (arg10.view.writes (Elt F) (harg10.unread y7) L7)) ∗ (arg11.view.loc (c : Thread nD τ) ↦[arg11.view.set]{fullShare} (arg11.view.writes (Elt F) f8 L8)) ∗ (arg12.view.loc (c : Thread nD τ) ↦[arg12.view.set]{fullShare} (arg12.view.writes (Elt F) f9 L9)) ∗ (arg13.view.loc (c : Thread nD τ) ↦[arg13.view.set]{fullShare} (arg13.view.writes (Elt F) (harg13.unread y10) L10)) ∗ (arg14.view.loc (c : Thread nD τ) ↦[arg14.view.set]{fullShare} (arg14.view.writes (Elt F) f11 L11))) -∗ K ⟨⟩))
        ⊢ wp frame (wpE (defs₀ (F := F)) Variants.none c none) E (cc0_fox_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K f8 f9 f11 => ?run⟩
  case run =>
    simp only [cc0_fox_bwd_eq_skeleton]; unfold cc0_fox_bwd_skel
    simp only [k0_part13_eq_skeleton, k0_part14_eq_skeleton, k0_part15_eq_skeleton, k0_part16_eq_skeleton, k0_part17_eq_skeleton, k0_part18_eq_skeleton, k0_part19_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, H7, H8, H9, H10, H11, Hk⟩
    obtain rfl := harg3.eq_unread hg0; obtain rfl := harg4.eq_unread hg1; obtain rfl := harg5.eq_unread hg2; obtain rfl := harg6.eq_unread hg3; obtain rfl := harg7.eq_unread hg4; obtain rfl := harg8.eq_unread hg5; obtain rfl := harg9.eq_unread hg6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexact H7
    isplitl [H8]
    · iexact H8
    isplitl [H9]
    · iexact H9
    isplitl [H10]
    · iexact H10
    iexact H11

end Cert.KernelIdeal.Fox

end
-- ==== Proof.Tile.lean ====
/- One tile of the backward kernel as a function of the blocks it reads: the scores of 512 queries against 512 keys for one head, and that head's share of each gradient. -/
module

public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Fox

open Idealize.ShloMosaic
open Cert.KernelIdeal.Gen

variable {F : FTy → Type} [FloatOps F] [Named F]

/-- The seven blocks a grid point reads: queries, keys, values, cumulative gates, forward result, log-sum-exp, cotangent. -/
structure Blocks (F : FTy → Type) where
  q : Vec F S2048x256 .bf16
  k : Vec F S512x256 .bf16
  v : Vec F S512x256 .bf16
  c : Vec F S4x1x1x512 .f32
  o : Vec F S2048x256 .bf16
  l : Vec F S2048x256 .f32
  g : Vec F S2048x256 .bf16

/-- Rows `512 a …` and columns `128 p …` of a whole-sequence block. -/
def rows {α : Type} (x : S2048x256.Idx → α) (a p : ℕ) : S512x128.Idx → α := fun y =>
  x (ix2 ⟨(512 * a + (y 0).val) % 2048, Nat.mod_lt _ (by decide)⟩ ⟨(128 * p + (y 1).val) % 256, Nat.mod_lt _ (by decide)⟩)

/-- Columns `128 p …` of a key block. -/
def cols {α : Type} (x : S512x256.Idx → α) (p : ℕ) : S512x128.Idx → α := fun y =>
  x (ix2 (y 0) ⟨(128 * p + (y 1).val) % 256, Nat.mod_lt _ (by decide)⟩)

/-- The gates of head `i` of a point's four. -/
def gates {α : Type} (x : S4x1x1x512.Idx → α) (i : ℕ) : S1x1x1x512.Idx → α := fun y =>
  x (ix4 ⟨i % 4, Nat.mod_lt _ (by decide)⟩ 0 0 (y 3))

/-- The lanes of head `h` of a pair. -/
def mine : Bool → IVec S1x128 1
  | false => k0_pay107
  | true => k0_pay108

/-- The lane at which head `h` of a pair keeps its log-sum-exp. -/
def at0 (h : Bool) : IVec S1x128 1 := cmpi .eq (iota .tc S1x128 32 [1] iota_S1x128_d1_w32) (broadcast S1x128 (match h with | false => 0#32 | true => 64#32))

/-- A mask over the lanes, on every row. -/
def wide (m : IVec S1x128 1) : IVec S512x128 1 := broadcastTo S512x128 (shapeCast S1x128 m shapeCasts_S1x128_S1x128) broadcasts_S1x128_S512x128

/-- An eighth. -/
def eighth (x : FVec F S512x128 .bf16) : FVec F S512x128 .bf16 := mulf x (broadcast S512x128 (Scalar.ofBits .bf16 0x3E00#16))

/-- The lanes of a mask, zero elsewhere. -/
def only (m : IVec S1x128 1) (x : FVec F S512x128 .bf16) : FVec F S512x128 .bf16 := select (wide m) x (broadcast S512x128 (Scalar.ofBits .bf16 0x0000#16))

/-- The lanes of a mask, one elsewhere. -/
def ones (m : IVec S1x128 1) (x : FVec F S512x128 .bf16) : FVec F S512x128 .bf16 :=
  select (wide m) x (broadcastTo S512x128 (shapeCast S1x128 k0_pay109 shapeCasts_S1x128_S1x128) broadcasts_S1x128_S512x128)

/-- The sum over a mask's lanes, one number a row. -/
def laneSum (m : IVec S1x128 1) (x : FVec F S512x128 .f32) : FVec F S512x1 .f32 :=
  shapeCast S512x1 (multiReduction .add [1] S512 (select (wide m) x (broadcast S512x128 (Scalar.ofBits .f32 0x00000000#32))) 0x00000000#32 reduces_S512x128_S512 (.inl rfl) rfl) shapeCasts_S512_S512x1

/-- The scores of one head: scaled queries against keys, less the keys' gates. -/
def scoreT (h : Bool) (q k : FVec F S512x128 .bf16) (c : FVec F S1x1x1x512 .f32) : FVec F S512x512 .f32 :=
  subf (matmul dot_S512x128_S512x128_S512x512_1_1_0_0_n_n none (only (mine h) (eighth q)) k (constant S512x512 .f32 0x00000000#32))
    (broadcastTo S512x512 (shapeCast S1x512 c shapeCasts_S1x1x1x512_S1x512) broadcasts_S1x512_S512x512)

/-- The scores with those of later keys masked. -/
def maskT (s : FVec F S512x512 .f32) : FVec F S512x512 .f32 :=
  select k0_pay110 s (broadcast S512x512 (Named.named κ "mask" 0xF149F2CA#32))

/-- The attention weights. -/
def probT (h : Bool) (s : FVec F S512x512 .f32) (l : FVec F S512x128 .f32) : FVec F S512x512 .f32 :=
  exp (subf s (broadcastTo S512x512 (laneSum (at0 h) l) broadcasts_S512x1_S512x512))

/-- The gradient of the scores. -/
def gradT (h : Bool) (p : FVec F S512x512 .f32) (g o v : FVec F S512x128 .bf16) : FVec F S512x512 .bf16 :=
  truncf .bf16 (mulf p (subf (matmul dot_S512x128_S512x128_S512x512_1_1_0_0_n_n none (only (mine h) g) v (constant S512x512 .f32 0x00000000#32))
    (broadcastTo S512x512 (laneSum (mine h) (mulf (extf .f32 g bitsLt_bf16_f32) (extf .f32 o bitsLt_bf16_f32))) broadcasts_S512x1_S512x512))) bitsLt_bf16_f32

/-- A tile's share of the keys' gradient; in the pair-mate's lanes the sum over the queries. -/
def dkT (h : Bool) (d : FVec F S512x512 .bf16) (q : FVec F S512x128 .bf16) : FVec F S512x128 .f32 :=
  matmul dot_S512x512_S512x128_S512x128_0_0_1_1_n_n none d (ones (mine h) (eighth q)) (constant S512x128 .f32 0x00000000#32)

/-- A tile's share of the values' gradient. -/
def dvT (h : Bool) (p : FVec F S512x512 .f32) (g : FVec F S512x128 .bf16) : FVec F S512x128 .f32 :=
  matmul dot_S512x512_S512x128_S512x128_0_0_1_1_n_n none (truncf .bf16 p bitsLt_bf16_f32) (only (mine h) g) (constant S512x128 .f32 0x00000000#32)

/-- A tile's share of the queries' gradient; in the pair-mate's lanes the sum over the keys. -/
def dqT (h : Bool) (d : FVec F S512x512 .bf16) (k : FVec F S512x128 .bf16) : FVec F S512x128 .f32 :=
  matmul dot_S512x512_S512x128_S512x128_1_0_0_1_n_n none d (ones (mine h) (eighth k)) (constant S512x128 .f32 0x00000000#32)

variable (X : Blocks F)

/-- The scores of row block `a`, pair `p`, head `h`; masked on the diagonal (`b`). -/
def scr : Bool → ℕ → ℕ → Bool → FVec F S512x512 .f32
  | true, a, p, h => maskT (scoreT h (rows X.q a p) (cols X.k p) (gates X.c (2 * p + h.toNat)))
  | false, a, p, h => scoreT h (rows X.q a p) (cols X.k p) (gates X.c (2 * p + h.toNat))

/-- Their weights. -/
def wgt (b : Bool) (a p : ℕ) (h : Bool) : FVec F S512x512 .f32 := probT h (scr X b a p h) (rows X.l a p)

/-- Their gradient. -/
def grd (b : Bool) (a p : ℕ) (h : Bool) : FVec F S512x512 .bf16 := gradT h (wgt X b a p h) (rows X.g a p) (rows X.o a p) (cols X.v p)

def tdk (b : Bool) (a p : ℕ) (h : Bool) : FVec F S512x128 .f32 := dkT h (grd X b a p h) (rows X.q a p)
def tdv (b : Bool) (a p : ℕ) (h : Bool) : FVec F S512x128 .f32 := dvT h (wgt X b a p h) (rows X.g a p)
def tdq (b : Bool) (a p : ℕ) (h : Bool) : FVec F S512x128 .f32 := dqT h (grd X b a p h) (cols X.k p)

/-- What a tile adds to the queries' gradient: each head's own lanes. -/
def own (b : Bool) (a p : ℕ) : FVec F S512x128 .f32 := select (wide k0_pay107) (tdq X b a p false) (tdq X b a p true)
/-- What a tile adds to the row sums: each head's in its mate's lanes. -/
def mate (b : Bool) (a p : ℕ) : FVec F S512x128 .f32 := select (wide k0_pay107) (tdq X b a p true) (tdq X b a p false)

/-- Row block `a` of a whole-sequence result with `D` added to it. -/
def bump (a : ℕ) (D : ℕ → FVec F S512x128 .f32) (y : Vec F S2048x256 .f32) : Vec F S2048x256 .f32 := fun j =>
  if (j 0).val / 512 = a then FloatOps.addf (y j) (D ((j 1).val / 128) (ix2 ⟨(j 0).val % 512, Nat.mod_lt _ (by decide)⟩ ⟨(j 1).val % 128, Nat.mod_lt _ (by decide)⟩)) else y j

/-- Two half-blocks side by side. -/
def beside {α : Type} (A B : S512x128.Idx → α) : S512x256.Idx → α := fun j =>
  if h : (j 1).val < 128 then A (ix2 (j 0) ⟨(j 1).val, h⟩) else B (ix2 (j 0) ⟨(j 1).val - 128, by have := (j 1).isLt; change _ < 256 at this; omega⟩)

theorem window_rows {α : Type} (x : S2048x256.Idx → α) (a p : ℕ) (ha : a < 4) (hp : p < 2) (inb) :
    VecWindow.window (s := S2048x256) x ![512 * a, 128 * p] ![512, 128] inb = rows x a p := by
  funext y
  unfold VecWindow.window rows
  congr 1
  funext b
  have h0 : (y 0).val < 512 := (y 0).isLt
  have h1 : (y 1).val < 128 := (y 1).isLt
  apply Fin.ext
  fin_cases b
  · show 512 * a + 1 * (y 0).val = (512 * a + (y 0).val) % 2048
    omega
  · show 128 * p + 1 * (y 1).val = (128 * p + (y 1).val) % 256
    omega

theorem window_cols {α : Type} (x : S512x256.Idx → α) (p : ℕ) (hp : p < 2) (inb) :
    VecWindow.window (s := S512x256) x ![0, 128 * p] ![512, 128] inb = cols x p := by
  funext y
  unfold VecWindow.window cols
  congr 1
  funext b
  have h1 : (y 1).val < 128 := (y 1).isLt
  apply Fin.ext
  fin_cases b
  · show 0 + 1 * (y 0).val = (y 0).val
    omega
  · show 128 * p + 1 * (y 1).val = (128 * p + (y 1).val) % 256
    omega

theorem window_gates {α : Type} (x : S4x1x1x512.Idx → α) (i : ℕ) (hi : i < 4) (inb) :
    VecWindow.window (s := S4x1x1x512) x ![i, 0, 0, 0] ![1, 1, 1, 512] inb = gates x i := by
  funext y
  unfold VecWindow.window gates
  congr 1
  funext b
  have h0 : (y 0).val < 1 := (y 0).isLt
  have h1 : (y 1).val < 1 := (y 1).isLt
  have h2 : (y 2).val < 1 := (y 2).isLt
  apply Fin.ext
  fin_cases b
  · show i + 1 * (y 0).val = i % 4
    omega
  · show 0 + 1 * (y 1).val = 0
    omega
  · show 0 + 1 * (y 2).val = 0
    omega
  · show 0 + 1 * (y 3).val = (y 3).val
    omega

theorem put_rows (y : Vec F S2048x256 .f32) (D : ℕ → FVec F S512x128 .f32) (a : ℕ) (ha : a < 4) :
    VecWindow.put (s := S2048x256) (VecWindow.put (s := S2048x256) y ![512 * a, 0] ![512, 128] (addf (rows y a 0) (D 0)))
      ![512 * a, 128] ![512, 128] (addf (rows y a 1) (D 1)) = bump a D y := by
  funext j
  have h0 : (j 0).val < 2048 := (j 0).isLt
  have h1 : (j 1).val < 256 := (j 1).isLt
  unfold VecWindow.put bump
  by_cases e : (j 0).val / 512 = a
  · rw [if_pos e]
    by_cases f : (j 1).val < 128
    · rw [dif_neg (fun h => by have := (h 1).1; change 128 ≤ (j 1).val at this; omega)]
      have hh : ∀ b, (![512 * a, 0] : Fin 2 → ℕ) b ≤ (j b).val ∧ (j b).val < (![512 * a, 0] : Fin 2 → ℕ) b + (![512, 128] : Fin 2 → ℕ) b := by
        intro b; fin_cases b
        · show 512 * a ≤ (j 0).val ∧ (j 0).val < 512 * a + 512
          omega
        · show 0 ≤ (j 1).val ∧ (j 1).val < 0 + 128
          omega
      rw [dif_pos hh]
      have e1 : (j 1).val / 128 = 0 := by omega
      rw [e1]
      show FloatOps.addf (y _) (D 0 _) = _
      congr 1
      · congr 1; funext b; apply Fin.ext; fin_cases b
        · show (512 * a + ((j 0).val - 512 * a)) % 2048 = (j 0).val
          omega
        · show (128 * 0 + ((j 1).val - 0)) % 256 = (j 1).val
          omega
      · congr 1; funext b; apply Fin.ext; fin_cases b
        · show ((j 0).val - 512 * a) = (j 0).val % 512
          omega
        · show ((j 1).val - 0) = (j 1).val % 128
          omega
    · have hh : ∀ b, (![512 * a, 128] : Fin 2 → ℕ) b ≤ (j b).val ∧ (j b).val < (![512 * a, 128] : Fin 2 → ℕ) b + (![512, 128] : Fin 2 → ℕ) b := by
        intro b; fin_cases b
        · show 512 * a ≤ (j 0).val ∧ (j 0).val < 512 * a + 512
          omega
        · show 128 ≤ (j 1).val ∧ (j 1).val < 128 + 128
          omega
      rw [dif_pos hh]
      have e1 : (j 1).val / 128 = 1 := by omega
      rw [e1]
      show FloatOps.addf (y _) (D 1 _) = _
      congr 1
      · congr 1; funext b; apply Fin.ext; fin_cases b
        · show (512 * a + ((j 0).val - 512 * a)) % 2048 = (j 0).val
          omega
        · show (128 * 1 + ((j 1).val - 128)) % 256 = (j 1).val
          omega
      · congr 1; funext b; apply Fin.ext; fin_cases b
        · show ((j 0).val - 512 * a) = (j 0).val % 512
          omega
        · show ((j 1).val - 128) = (j 1).val % 128
          omega
  · rw [if_neg e, dif_neg, dif_neg]
    · intro h
      have := h 0; change 512 * a ≤ (j 0).val ∧ (j 0).val < 512 * a + 512 at this; omega
    · intro h
      have := h 0; change 512 * a ≤ (j 0).val ∧ (j 0).val < 512 * a + 512 at this; omega

theorem put_beside {α : Type} (y : S512x256.Idx → α) (A B : S512x128.Idx → α) :
    VecWindow.put (s := S512x256) (VecWindow.put (s := S512x256) y ![0, 0] ![512, 128] A) ![0, 128] ![512, 128] B = beside A B := by
  funext j
  have h0 : (j 0).val < 512 := (j 0).isLt
  have h1 : (j 1).val < 256 := (j 1).isLt
  unfold VecWindow.put beside
  by_cases f : (j 1).val < 128
  · rw [dif_pos f, dif_neg (fun h => by have := (h 1).1; change 128 ≤ (j 1).val at this; omega)]
    rw [dif_pos (by
        intro b; fin_cases b
        · show 0 ≤ (j 0).val ∧ (j 0).val < 0 + 512
          omega
        · show 0 ≤ (j 1).val ∧ (j 1).val < 0 + 128
          omega)]
    congr 1; funext b; apply Fin.ext; fin_cases b
    · show (j 0).val - 0 = (j 0).val
      omega
    · show (j 1).val - 0 = (j 1).val
      omega
  · rw [dif_neg f, dif_pos (by
        intro b; fin_cases b
        · show 0 ≤ (j 0).val ∧ (j 0).val < 0 + 512
          omega
        · show 128 ≤ (j 1).val ∧ (j 1).val < 128 + 128
          omega)]
    congr 1; funext b; apply Fin.ext; fin_cases b
    · show (j 0).val - 0 = (j 0).val
      omega
    · show (j 1).val - 128 = (j 1).val - 128
      omega

end Cert.KernelIdeal.Fox
-- ==== Proof.Trip.lean ====
/- One trip of the kernel's loop over later query blocks, and the whole loop, in terms of the tiles. -/
module

public import proofs.«01_k».proof.Proof.Gen.KernelIdeal.Loops
public import proofs.«01_k».proof.Proof.Tile

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open Cert.KernelIdeal.Gen

variable {F : FTy → Type} [FloatOps F] [Named F]

/-- What the loop carries: the four heads' key gradients and value gradients so far. -/
abbrev Carry (F : FTy → Type) : Type := FVec F S512x128 .f32 × FVec F S512x128 .f32 × FVec F S512x128 .f32 × FVec F S512x128 .f32 × FVec F S512x128 .f32 × FVec F S512x128 .f32 × FVec F S512x128 .f32 × FVec F S512x128 .f32

/-- A tile's row block added to what is carried. -/
def addTile (X : Blocks F) (b : Bool) (a : ℕ) (y : Carry F) : Carry F :=
  (addf y.1 (tdk X b a 0 false), addf y.2.1 (tdk X b a 0 true), addf y.2.2.1 (tdk X b a 1 false), addf y.2.2.2.1 (tdk X b a 1 true),
   addf y.2.2.2.2.1 (tdv X b a 0 false), addf y.2.2.2.2.2.1 (tdv X b a 0 true), addf y.2.2.2.2.2.2.1 (tdv X b a 1 false), addf y.2.2.2.2.2.2.2 (tdv X b a 1 true))

theorem readRows {e : EltTy} {m : Memref sig .tc .vmem S2048x256 e} (h : m.IsWhole) (x : Vec F S2048x256 e) (off : Fin 2 → ℕ) (a p : ℕ) (ha : a < 4) (hp : p < 2)
    (ho : off = ![512 * a, 128 * p]) (inb) :
    View.readAt (Elt F) m.view (Rect.unit (s := S2048x256) off S512x128.size inb).toLoadRect (h.unread x) = rows x a p := by
  subst ho
  rw [View.readAt_unit m.view _ inb rfl inb, h.read_unread]
  exact window_rows x a p ha hp inb

theorem readRowsAt {e : EltTy} {m : Memref sig .tc .vmem S2048x256 e} (f : m.view.ty.Contents (Elt F)) (off : Fin 2 → ℕ) (a p : ℕ) (ha : a < 4) (hp : p < 2)
    (ho : off = ![512 * a, 128 * p]) (inb) :
    View.readAt (Elt F) m.view (Rect.unit (s := S2048x256) off S512x128.size inb).toLoadRect f = rows (m.view.read (Elt F) f) a p := by
  subst ho
  rw [View.readAt_unit m.view _ inb rfl inb]
  exact window_rows _ a p ha hp inb

theorem readCols {e : EltTy} {m : Memref sig .tc .vmem S512x256 e} (h : m.IsWhole) (x : Vec F S512x256 e) (off : Fin 2 → ℕ) (p : ℕ) (hp : p < 2)
    (ho : off = ![0, 128 * p]) (inb) :
    View.readAt (Elt F) m.view (Rect.unit (s := S512x256) off S512x128.size inb).toLoadRect (h.unread x) = cols x p := by
  subst ho
  rw [View.readAt_unit m.view _ inb rfl inb, h.read_unread]
  exact window_cols x p hp inb

theorem readGates {e : EltTy} {m : Memref sig .tc .vmem S4x1x1x512 e} (h : m.IsWhole) (x : Vec F S4x1x1x512 e) (off : Fin 4 → ℕ) (i : ℕ) (hi : i < 4)
    (ho : off = ![i, 0, 0, 0]) (inb) :
    View.readAt (Elt F) m.view (Rect.unit (s := S4x1x1x512) off S1x1x1x512.size inb).toLoadRect (h.unread x) = gates x i := by
  subst ho
  rw [View.readAt_unit m.view _ inb rfl inb, h.read_unread]
  exact window_gates x i hi inb

theorem trips_eq : ∀ i : grid0.Coords, (k0_t1_loop i).trips = 3 - (i 2).val := by decide +kernel

theorem trip_lt (i : grid0.Coords) (k : Fin (k0_t1_loop i).trips) : (i 2).val + k.val + 1 < 4 := by
  have h : k.val < 3 - (i 2).val := lt_of_lt_of_eq k.isLt (trips_eq i)
  omega

theorem off3_rows (i : grid0.Coords) (k : Fin (k0_t1_loop i).trips) : k0_off3 i k = ![512 * ((i 2).val + k.val + 1), 128 * 0] := by
  rw [k0_off3_eq]; congr 1; omega

theorem off4_rows (i : grid0.Coords) (k : Fin (k0_t1_loop i).trips) : k0_off4 i k = ![512 * ((i 2).val + k.val + 1), 128 * 1] := by
  rw [k0_off4_eq]; congr 1; omega

section
variable (𝒱 : Variants) (c : Dev nD) (bd : Option 𝒱.V) (i : grid0.Coords) (arg3 : Memref sig .tc .vmem S2048x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S4x1x1x512 .f32) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S2048x256 .bf16) (harg9 : arg9.IsWhole) (arg10 : Memref sig .tc .vmem S2048x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2048x256 .f32) (harg13 : arg13.IsWhole) (arg14 : Memref sig .tc .vmem S512x256 .f32) (harg14 : arg14.IsWhole) (arg2 : BitVec 32) (v11 : FVec F S512x128 .f32) (v13 : BitVec 32) (v75 : FVec F S512x128 .f32) (v78 : FVec F S512x128 .f32) (v126 : FVec F S512x128 .f32) (v129 : FVec F S512x128 .f32) (v159 : FVec F S512x128 .bf16) (v164 : FVec F S512x128 .bf16) (v217 : FVec F S512x128 .f32) (v220 : FVec F S512x128 .f32) (v226 : FVec F S512x128 .f32) (v232 : Vec F S512x128 .bf16) (v256 : FVec F S512x512 .f32) (v261 : FVec F S512x512 .bf16) (v263 : IVec S512x128 1) (v298 : BitVec 32)
variable (X : Blocks F)

theorem trip_yield (k : Fin (k0_t1_loop i).trips) (acc : Carry F) (f_arg10 : BufTy.Contents (Elt F) arg10.view.ty) (f_arg13 : BufTy.Contents (Elt F) arg13.view.ty) :
    tripR_k0_t1 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) k acc f_arg10 f_arg13
      = addTile X false ((i 2).val + k.val + 1) acc := by
  have q0 : View.readAt (Elt F) arg3.view (Rect.unit (s := S2048x256) (k0_off3 i k) S512x128.size (k0_off3_inb i k)).toLoadRect (harg3.unread X.q) = rows X.q ((i 2).val + k.val + 1) 0 := readRows harg3 X.q _ ((i 2).val + k.val + 1) 0 (trip_lt i k) (by decide) (off3_rows i k) _
  have g0 : View.readAt (Elt F) arg9.view (Rect.unit (s := S2048x256) (k0_off3 i k) S512x128.size (k0_off3_inb i k)).toLoadRect (harg9.unread X.g) = rows X.g ((i 2).val + k.val + 1) 0 := readRows harg9 X.g _ ((i 2).val + k.val + 1) 0 (trip_lt i k) (by decide) (off3_rows i k) _
  have o0 : shapeCast S512x128 (View.readAt (Elt F) arg7.view (Rect.unit (s := S2048x256) (k0_off3 i k) S512x128.size (k0_off3_inb i k)).toLoadRect (harg7.unread X.o)) shapeCasts_S512x128_S512x128 = rows X.o ((i 2).val + k.val + 1) 0 := (shapeCast_self (s := S512x128) _ _).trans (readRows harg7 X.o _ ((i 2).val + k.val + 1) 0 (trip_lt i k) (by decide) (off3_rows i k) _)
  have l0 : shapeCast S512x128 (View.readAt (Elt F) arg8.view (Rect.unit (s := S2048x256) (k0_off3 i k) S512x128.size (k0_off3_inb i k)).toLoadRect (harg8.unread X.l)) shapeCasts_S512x128_S512x128 = rows X.l ((i 2).val + k.val + 1) 0 := (shapeCast_self (s := S512x128) _ _).trans (readRows harg8 X.l _ ((i 2).val + k.val + 1) 0 (trip_lt i k) (by decide) (off3_rows i k) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off4 i k) S512x128.size (k0_off4_inb i k)).toLoadRect (harg3.unread X.q) = rows X.q ((i 2).val + k.val + 1) 1 := readRows harg3 X.q _ ((i 2).val + k.val + 1) 1 (trip_lt i k) (by decide) (off4_rows i k) _
  have g1 : View.readAt (Elt F) arg9.view (Rect.unit (s := S2048x256) (k0_off4 i k) S512x128.size (k0_off4_inb i k)).toLoadRect (harg9.unread X.g) = rows X.g ((i 2).val + k.val + 1) 1 := readRows harg9 X.g _ ((i 2).val + k.val + 1) 1 (trip_lt i k) (by decide) (off4_rows i k) _
  have o1 : shapeCast S512x128 (View.readAt (Elt F) arg7.view (Rect.unit (s := S2048x256) (k0_off4 i k) S512x128.size (k0_off4_inb i k)).toLoadRect (harg7.unread X.o)) shapeCasts_S512x128_S512x128 = rows X.o ((i 2).val + k.val + 1) 1 := (shapeCast_self (s := S512x128) _ _).trans (readRows harg7 X.o _ ((i 2).val + k.val + 1) 1 (trip_lt i k) (by decide) (off4_rows i k) _)
  have l1 : shapeCast S512x128 (View.readAt (Elt F) arg8.view (Rect.unit (s := S2048x256) (k0_off4 i k) S512x128.size (k0_off4_inb i k)).toLoadRect (harg8.unread X.l)) shapeCasts_S512x128_S512x128 = rows X.l ((i 2).val + k.val + 1) 1 := (shapeCast_self (s := S512x128) _ _).trans (readRows harg8 X.l _ ((i 2).val + k.val + 1) 1 (trip_lt i k) (by decide) (off4_rows i k) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  unfold tripR_k0_t1 trip_k0_t1 addTile
  dsimp only
  simp only [tdk, tdv, grd, wgt, scr]
  rw [← q0, ← g0, ← o0, ← l0, ← k0, ← v0, ← c0, ← c1, ← q1, ← g1, ← o1, ← l1, ← k1, ← v1, ← c2, ← c3]
  rfl

theorem trip_own (k : Fin (k0_t1_loop i).trips) (acc : Carry F) (f_arg10 : BufTy.Contents (Elt F) arg10.view.ty) (f_arg13 : BufTy.Contents (Elt F) arg13.view.ty) :
    arg10.view.read (Elt F) (arg10.view.writes (Elt F) f_arg10 (tripL_k0_t1 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) k acc f_arg10 f_arg13).1)
      = bump ((i 2).val + k.val + 1) (own X false ((i 2).val + k.val + 1)) (arg10.view.read (Elt F) f_arg10) := by
  have q0 : View.readAt (Elt F) arg3.view (Rect.unit (s := S2048x256) (k0_off3 i k) S512x128.size (k0_off3_inb i k)).toLoadRect (harg3.unread X.q) = rows X.q ((i 2).val + k.val + 1) 0 := readRows harg3 X.q _ ((i 2).val + k.val + 1) 0 (trip_lt i k) (by decide) (off3_rows i k) _
  have g0 : View.readAt (Elt F) arg9.view (Rect.unit (s := S2048x256) (k0_off3 i k) S512x128.size (k0_off3_inb i k)).toLoadRect (harg9.unread X.g) = rows X.g ((i 2).val + k.val + 1) 0 := readRows harg9 X.g _ ((i 2).val + k.val + 1) 0 (trip_lt i k) (by decide) (off3_rows i k) _
  have o0 : shapeCast S512x128 (View.readAt (Elt F) arg7.view (Rect.unit (s := S2048x256) (k0_off3 i k) S512x128.size (k0_off3_inb i k)).toLoadRect (harg7.unread X.o)) shapeCasts_S512x128_S512x128 = rows X.o ((i 2).val + k.val + 1) 0 := (shapeCast_self (s := S512x128) _ _).trans (readRows harg7 X.o _ ((i 2).val + k.val + 1) 0 (trip_lt i k) (by decide) (off3_rows i k) _)
  have l0 : shapeCast S512x128 (View.readAt (Elt F) arg8.view (Rect.unit (s := S2048x256) (k0_off3 i k) S512x128.size (k0_off3_inb i k)).toLoadRect (harg8.unread X.l)) shapeCasts_S512x128_S512x128 = rows X.l ((i 2).val + k.val + 1) 0 := (shapeCast_self (s := S512x128) _ _).trans (readRows harg8 X.l _ ((i 2).val + k.val + 1) 0 (trip_lt i k) (by decide) (off3_rows i k) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off4 i k) S512x128.size (k0_off4_inb i k)).toLoadRect (harg3.unread X.q) = rows X.q ((i 2).val + k.val + 1) 1 := readRows harg3 X.q _ ((i 2).val + k.val + 1) 1 (trip_lt i k) (by decide) (off4_rows i k) _
  have g1 : View.readAt (Elt F) arg9.view (Rect.unit (s := S2048x256) (k0_off4 i k) S512x128.size (k0_off4_inb i k)).toLoadRect (harg9.unread X.g) = rows X.g ((i 2).val + k.val + 1) 1 := readRows harg9 X.g _ ((i 2).val + k.val + 1) 1 (trip_lt i k) (by decide) (off4_rows i k) _
  have o1 : shapeCast S512x128 (View.readAt (Elt F) arg7.view (Rect.unit (s := S2048x256) (k0_off4 i k) S512x128.size (k0_off4_inb i k)).toLoadRect (harg7.unread X.o)) shapeCasts_S512x128_S512x128 = rows X.o ((i 2).val + k.val + 1) 1 := (shapeCast_self (s := S512x128) _ _).trans (readRows harg7 X.o _ ((i 2).val + k.val + 1) 1 (trip_lt i k) (by decide) (off4_rows i k) _)
  have l1 : shapeCast S512x128 (View.readAt (Elt F) arg8.view (Rect.unit (s := S2048x256) (k0_off4 i k) S512x128.size (k0_off4_inb i k)).toLoadRect (harg8.unread X.l)) shapeCasts_S512x128_S512x128 = rows X.l ((i 2).val + k.val + 1) 1 := (shapeCast_self (s := S512x128) _ _).trans (readRows harg8 X.l _ ((i 2).val + k.val + 1) 1 (trip_lt i k) (by decide) (off4_rows i k) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  unfold tripL_k0_t1 trip_k0_t1
  dsimp only
  rw [View.read_writes_cons_put arg10.view _ _ _ _ (off4_rows i k), View.read_writes_cons_put arg10.view _ _ _ _ (off3_rows i k), View.writes_nil, ← put_rows _ _ _ (trip_lt i k)]
  have w0 := readRowsAt f_arg10 _ ((i 2).val + k.val + 1) 0 (trip_lt i k) (by decide) (off3_rows i k) (k0_off3_inb i k)
  have w1 := readRowsAt f_arg10 _ ((i 2).val + k.val + 1) 1 (trip_lt i k) (by decide) (off4_rows i k) (k0_off4_inb i k)
  rw [← w0, ← w1]
  have e0 := shapeCast_self (addf (View.readAt (Elt F) arg10.view (Rect.unit (s := S2048x256) (k0_off3 i k) S512x128.size (k0_off3_inb i k)).toLoadRect f_arg10) (own X false ((i 2).val + k.val + 1) 0)) shapeCasts_S512x128_S512x128
  have e1 := shapeCast_self (addf (View.readAt (Elt F) arg10.view (Rect.unit (s := S2048x256) (k0_off4 i k) S512x128.size (k0_off4_inb i k)).toLoadRect f_arg10) (own X false ((i 2).val + k.val + 1) 1)) shapeCasts_S512x128_S512x128
  rw [← e0, ← e1]
  simp only [own, mate, tdq, grd, wgt, scr]
  rw [← q0, ← g0, ← o0, ← l0, ← k0, ← v0, ← c0, ← c1, ← q1, ← g1, ← o1, ← l1, ← k1, ← v1, ← c2, ← c3]
  rfl

theorem trip_mate (k : Fin (k0_t1_loop i).trips) (acc : Carry F) (f_arg10 : BufTy.Contents (Elt F) arg10.view.ty) (f_arg13 : BufTy.Contents (Elt F) arg13.view.ty) :
    arg13.view.read (Elt F) (arg13.view.writes (Elt F) f_arg13 (tripL_k0_t1 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) k acc f_arg10 f_arg13).2)
      = bump ((i 2).val + k.val + 1) (mate X false ((i 2).val + k.val + 1)) (arg13.view.read (Elt F) f_arg13) := by
  have q0 : View.readAt (Elt F) arg3.view (Rect.unit (s := S2048x256) (k0_off3 i k) S512x128.size (k0_off3_inb i k)).toLoadRect (harg3.unread X.q) = rows X.q ((i 2).val + k.val + 1) 0 := readRows harg3 X.q _ ((i 2).val + k.val + 1) 0 (trip_lt i k) (by decide) (off3_rows i k) _
  have g0 : View.readAt (Elt F) arg9.view (Rect.unit (s := S2048x256) (k0_off3 i k) S512x128.size (k0_off3_inb i k)).toLoadRect (harg9.unread X.g) = rows X.g ((i 2).val + k.val + 1) 0 := readRows harg9 X.g _ ((i 2).val + k.val + 1) 0 (trip_lt i k) (by decide) (off3_rows i k) _
  have o0 : shapeCast S512x128 (View.readAt (Elt F) arg7.view (Rect.unit (s := S2048x256) (k0_off3 i k) S512x128.size (k0_off3_inb i k)).toLoadRect (harg7.unread X.o)) shapeCasts_S512x128_S512x128 = rows X.o ((i 2).val + k.val + 1) 0 := (shapeCast_self (s := S512x128) _ _).trans (readRows harg7 X.o _ ((i 2).val + k.val + 1) 0 (trip_lt i k) (by decide) (off3_rows i k) _)
  have l0 : shapeCast S512x128 (View.readAt (Elt F) arg8.view (Rect.unit (s := S2048x256) (k0_off3 i k) S512x128.size (k0_off3_inb i k)).toLoadRect (harg8.unread X.l)) shapeCasts_S512x128_S512x128 = rows X.l ((i 2).val + k.val + 1) 0 := (shapeCast_self (s := S512x128) _ _).trans (readRows harg8 X.l _ ((i 2).val + k.val + 1) 0 (trip_lt i k) (by decide) (off3_rows i k) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off4 i k) S512x128.size (k0_off4_inb i k)).toLoadRect (harg3.unread X.q) = rows X.q ((i 2).val + k.val + 1) 1 := readRows harg3 X.q _ ((i 2).val + k.val + 1) 1 (trip_lt i k) (by decide) (off4_rows i k) _
  have g1 : View.readAt (Elt F) arg9.view (Rect.unit (s := S2048x256) (k0_off4 i k) S512x128.size (k0_off4_inb i k)).toLoadRect (harg9.unread X.g) = rows X.g ((i 2).val + k.val + 1) 1 := readRows harg9 X.g _ ((i 2).val + k.val + 1) 1 (trip_lt i k) (by decide) (off4_rows i k) _
  have o1 : shapeCast S512x128 (View.readAt (Elt F) arg7.view (Rect.unit (s := S2048x256) (k0_off4 i k) S512x128.size (k0_off4_inb i k)).toLoadRect (harg7.unread X.o)) shapeCasts_S512x128_S512x128 = rows X.o ((i 2).val + k.val + 1) 1 := (shapeCast_self (s := S512x128) _ _).trans (readRows harg7 X.o _ ((i 2).val + k.val + 1) 1 (trip_lt i k) (by decide) (off4_rows i k) _)
  have l1 : shapeCast S512x128 (View.readAt (Elt F) arg8.view (Rect.unit (s := S2048x256) (k0_off4 i k) S512x128.size (k0_off4_inb i k)).toLoadRect (harg8.unread X.l)) shapeCasts_S512x128_S512x128 = rows X.l ((i 2).val + k.val + 1) 1 := (shapeCast_self (s := S512x128) _ _).trans (readRows harg8 X.l _ ((i 2).val + k.val + 1) 1 (trip_lt i k) (by decide) (off4_rows i k) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  unfold tripL_k0_t1 trip_k0_t1
  dsimp only
  rw [View.read_writes_cons_put arg13.view _ _ _ _ (off4_rows i k), View.read_writes_cons_put arg13.view _ _ _ _ (off3_rows i k), View.writes_nil, ← put_rows _ _ _ (trip_lt i k)]
  have w0 := readRowsAt f_arg13 _ ((i 2).val + k.val + 1) 0 (trip_lt i k) (by decide) (off3_rows i k) (k0_off3_inb i k)
  have w1 := readRowsAt f_arg13 _ ((i 2).val + k.val + 1) 1 (trip_lt i k) (by decide) (off4_rows i k) (k0_off4_inb i k)
  rw [← w0, ← w1]
  have e0 := shapeCast_self (addf (View.readAt (Elt F) arg13.view (Rect.unit (s := S2048x256) (k0_off3 i k) S512x128.size (k0_off3_inb i k)).toLoadRect f_arg13) (mate X false ((i 2).val + k.val + 1) 0)) shapeCasts_S512x128_S512x128
  have e1 := shapeCast_self (addf (View.readAt (Elt F) arg13.view (Rect.unit (s := S2048x256) (k0_off4 i k) S512x128.size (k0_off4_inb i k)).toLoadRect f_arg13) (mate X false ((i 2).val + k.val + 1) 1)) shapeCasts_S512x128_S512x128
  rw [← e0, ← e1]
  simp only [own, mate, tdq, grd, wgt, scr]
  rw [← q0, ← g0, ← o0, ← l0, ← k0, ← v0, ← c0, ← c1, ← q1, ← g1, ← o1, ← l1, ← k1, ← v1, ← c2, ← c3]
  rfl

/-- The carried gradients after `n` trips. -/
def carryN (X : Blocks F) (kb : ℕ) (y : Carry F) : ℕ → Carry F
  | 0 => y
  | n + 1 => addTile X false (kb + n + 1) (carryN X kb y n)

/-- A whole-sequence result after `n` trips that each add the row block `D`. -/
def bumpN (D : ℕ → ℕ → FVec F S512x128 .f32) (kb : ℕ) (y : Vec F S2048x256 .f32) : ℕ → Vec F S2048x256 .f32
  | 0 => y
  | n + 1 => bump (kb + n + 1) (D (kb + n + 1)) (bumpN D kb y n)

theorem loop_state (G_arg10 : BufTy.Contents (Elt F) arg10.view.ty) (G_arg13 : BufTy.Contents (Elt F) arg13.view.ty) (init : Carry F) :
    ∀ n, n ≤ (k0_t1_loop i).trips →
      (st_k0_t1 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) G_arg10 G_arg13 init n).1 = carryN X (i 2).val init n
      ∧ arg10.view.read (Elt F) (arg10.view.writes (Elt F) G_arg10 (st_k0_t1 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) G_arg10 G_arg13 init n).2.1) = bumpN (own X false) (i 2).val (arg10.view.read (Elt F) G_arg10) n
      ∧ arg13.view.read (Elt F) (arg13.view.writes (Elt F) G_arg13 (st_k0_t1 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) G_arg10 G_arg13 init n).2.2) = bumpN (mate X false) (i 2).val (arg13.view.read (Elt F) G_arg13) n := by
  intro n
  induction n with
  | zero => intro _; exact ⟨rfl, rfl, rfl⟩
  | succ n ih =>
    intro hn
    obtain ⟨h1, h2, h3⟩ := ih (by omega)
    have hs := st_k0_t1_succ 𝒱 c bd i arg3 harg3 arg4 harg4 arg5 harg5 arg6 harg6 arg7 harg7 arg8 harg8 arg9 harg9 arg10 harg10 arg11 harg11 arg12 harg12 arg13 harg13 arg14 harg14 arg2 (iota .tc S1x128 32 [1] iota_S1x128_d1_w32) k0_pay107 k0_pay108 k0_pay109 v11 v13 v75 v78 v126 v129 v159 v164 v217 v220 v226 v232 v256 v261 v263 v298 (harg3.unread X.q) (harg4.unread X.k) (harg5.unread X.v) (harg6.unread X.c) (harg7.unread X.o) (harg8.unread X.l) (harg9.unread X.g) G_arg10 G_arg13 init ⟨n, hn⟩
    dsimp only at hs
    rw [hs]
    dsimp only
    refine ⟨?_, ?_, ?_⟩
    · rw [trip_yield, h1]; rfl
    · rw [View.writes_append, trip_own, h2]; rfl
    · rw [View.writes_append, trip_mate, h3]; rfl

end

end Cert.KernelIdeal.Fox
-- ==== Proof.Outs.lean ====
/- What the two runs of the body leave in each output, in terms of the tiles. -/
module

public import proofs.«01_k».proof.Proof.RunB
public import proofs.«01_k».proof.Proof.Trip

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open Cert.KernelIdeal.Gen

variable {F : FTy → Type} [FloatOps F] [Named F]

/-- Zero, in each of the eight carried gradients. -/
def carry0 : Carry F := (k0_pay113, k0_pay113, k0_pay113, k0_pay113, k0_pay113, k0_pay113, k0_pay113, k0_pay113)

/-- The gradients a key block collects from its own row block, masked, and from the later ones. -/
def carryOut (X : Blocks F) (kb : ℕ) : Carry F := carryN X kb (addTile X true kb carry0) (3 - kb)

/-- The keys' gradient of a key block. -/
def dkOut (X : Blocks F) (kb : ℕ) : Vec F S512x256 .bf16 :=
  beside (truncf .bf16 (select (wide k0_pay107) (carryOut X kb).1 (carryOut X kb).2.1) bitsLt_bf16_f32)
    (truncf .bf16 (select (wide k0_pay107) (carryOut X kb).2.2.1 (carryOut X kb).2.2.2.1) bitsLt_bf16_f32)

/-- The values' gradient of a key block. -/
def dvOut (X : Blocks F) (kb : ℕ) : Vec F S512x256 .bf16 :=
  beside (truncf .bf16 (addf (carryOut X kb).2.2.2.2.1 (carryOut X kb).2.2.2.2.2.1) bitsLt_bf16_f32)
    (truncf .bf16 (addf (carryOut X kb).2.2.2.2.2.2.1 (carryOut X kb).2.2.2.2.2.2.2) bitsLt_bf16_f32)

/-- The column sums of a key block, each head's in its mate's lanes. -/
def dcolOut (X : Blocks F) (kb : ℕ) : Vec F S512x256 .f32 :=
  beside (select (wide k0_pay107) (carryOut X kb).2.1 (carryOut X kb).1)
    (select (wide k0_pay107) (carryOut X kb).2.2.2.1 (carryOut X kb).2.2.1)

/-- The queries' gradient of a sequence after one more key block. -/
def dqOut (X : Blocks F) (kb : ℕ) (y : Vec F S2048x256 .f32) : Vec F S2048x256 .f32 :=
  bumpN (own X false) kb (bump kb (own X true kb) y) (3 - kb)

/-- The row sums of a sequence after one more key block. -/
def drowOut (X : Blocks F) (kb : ℕ) (y : Vec F S2048x256 .f32) : Vec F S2048x256 .f32 :=
  bumpN (mate X false) kb (bump kb (mate X true kb) y) (3 - kb)

theorem carry_parts {a b c d e f g h : FVec F S512x128 .f32} {y : Carry F} (hy : (a, b, c, d, e, f, g, h) = y) :
    a = y.1 ∧ b = y.2.1 ∧ c = y.2.2.1 ∧ d = y.2.2.2.1 ∧ e = y.2.2.2.2.1 ∧ f = y.2.2.2.2.2.1 ∧ g = y.2.2.2.2.2.2.1 ∧ h = y.2.2.2.2.2.2.2 := by
  subst hy
  exact ⟨rfl, rfl, rfl, rfl, rfl, rfl, rfl, rfl⟩

theorem off1_rows (i : grid0.Coords) : k0_off1 i = ![512 * (i 2).val, 128 * 0] := k0_off1_eq i
theorem off2_rows (i : grid0.Coords) : k0_off2 i = ![512 * (i 2).val, 128 * 1] := k0_off2_eq i

theorem twoB {κ : Kind} {sp : Space} (v : View sig κ sp S2048x256 .f32) (f : v.ty.Contents (Elt F)) (off1 off2 : Fin 2 → ℕ) (a : ℕ) (ha : a < 4)
    (h1 : off1 = ![512 * a, 128 * 0]) (h2 : off2 = ![512 * a, 128 * 1]) (inb1) (inb2)
    (D : ℕ → FVec F S512x128 .f32) (D0 D1 : FVec F S512x128 .f32) (e0 : D 0 = D0) (e1 : D 1 = D1) (y : Vec F S2048x256 .f32) (hy : v.read (Elt F) f = y) :
    v.read (Elt F) (v.writes (Elt F) f
      [⟨Rect.unit (s := S2048x256) off2 S512x128.size inb2, shapeCast S512x128 (addf (v.readAt (Elt F) (Rect.unit (s := S2048x256) off2 S512x128.size inb2).toLoadRect f) D1) shapeCasts_S512x128_S512x128⟩,
       ⟨Rect.unit (s := S2048x256) off1 S512x128.size inb1, shapeCast S512x128 (addf (v.readAt (Elt F) (Rect.unit (s := S2048x256) off1 S512x128.size inb1).toLoadRect f) D0) shapeCasts_S512x128_S512x128⟩])
    = bump a D y := by
  subst hy e0 e1 h1 h2
  have w0 : v.readAt (Elt F) (Rect.unit (s := S2048x256) ![512 * a, 128 * 0] S512x128.size inb1).toLoadRect f = rows (v.read (Elt F) f) a 0 :=
    (View.readAt_unit v f inb1 rfl inb1).trans (window_rows _ a 0 ha (by decide) inb1)
  have w1 : v.readAt (Elt F) (Rect.unit (s := S2048x256) ![512 * a, 128 * 1] S512x128.size inb2).toLoadRect f = rows (v.read (Elt F) f) a 1 :=
    (View.readAt_unit v f inb2 rfl inb2).trans (window_rows _ a 1 ha (by decide) inb2)
  rw [View.read_writes_cons_put v _ _ _ _ rfl, View.read_writes_cons_put v _ _ _ _ rfl, View.writes_nil, ← put_rows _ _ _ ha, w0, w1]
  erw [shapeCast_self (s := S512x128) _ shapeCasts_S512x128_S512x128, shapeCast_self (s := S512x128) _ shapeCasts_S512x128_S512x128]

theorem twoA {κ : Kind} {sp : Space} (v : View sig κ sp S2048x256 .f32) (f : v.ty.Contents (Elt F)) (L : List (View.Piece (Elt F) S2048x256 .f32)) (off1 off2 : Fin 2 → ℕ) (a : ℕ) (ha : a < 4)
    (h1 : off1 = ![512 * a, 128 * 0]) (h2 : off2 = ![512 * a, 128 * 1]) (inb1) (inb2)
    (D : ℕ → FVec F S512x128 .f32) (D0 D1 : FVec F S512x128 .f32) (e0 : D 0 = D0) (e1 : D 1 = D1) (y : Vec F S2048x256 .f32) (hy : v.read (Elt F) (v.writes (Elt F) f L) = y) :
    v.read (Elt F) (v.writes (Elt F) f
      (⟨Rect.unit (s := S2048x256) off2 S512x128.size inb2, shapeCast S512x128 (addf (v.readAt (Elt F) (Rect.unit (s := S2048x256) off2 S512x128.size inb2).toLoadRect
          (v.writes (Elt F) f (⟨Rect.unit (s := S2048x256) off1 S512x128.size inb1, shapeCast S512x128 (addf (v.readAt (Elt F) (Rect.unit (s := S2048x256) off1 S512x128.size inb1).toLoadRect (v.writes (Elt F) f L)) D0) shapeCasts_S512x128_S512x128⟩ :: L))) D1) shapeCasts_S512x128_S512x128⟩
       :: ⟨Rect.unit (s := S2048x256) off1 S512x128.size inb1, shapeCast S512x128 (addf (v.readAt (Elt F) (Rect.unit (s := S2048x256) off1 S512x128.size inb1).toLoadRect (v.writes (Elt F) f L)) D0) shapeCasts_S512x128_S512x128⟩ :: L))
    = bump a D y := by
  refine Eq.trans ?_ (twoB v (v.writes (Elt F) f L) off1 off2 a ha h1 h2 inb1 inb2 D D0 D1 e0 e1 y hy)
  subst h1 h2
  have w1 : v.readAt (Elt F) (Rect.unit (s := S2048x256) ![512 * a, 128 * 1] S512x128.size inb2).toLoadRect
      (v.writes (Elt F) f (⟨Rect.unit (s := S2048x256) ![512 * a, 128 * 0] S512x128.size inb1, shapeCast S512x128 (addf (v.readAt (Elt F) (Rect.unit (s := S2048x256) ![512 * a, 128 * 0] S512x128.size inb1).toLoadRect (v.writes (Elt F) f L)) D0) shapeCasts_S512x128_S512x128⟩ :: L))
      = v.readAt (Elt F) (Rect.unit (s := S2048x256) ![512 * a, 128 * 1] S512x128.size inb2).toLoadRect (v.writes (Elt F) f L) := by
    rw [View.readAt_unit v _ inb2 rfl inb2, View.readAt_unit v _ inb2 rfl inb2, View.read_writes_cons_put v _ _ _ _ rfl]
    exact VecWindow.window_put_of_disjoint _ _ _ _ _ _ _ 1 (Or.inr (show 128 * 0 + 128 ≤ 128 * 1 by decide))
  rw [w1]
  rfl

section

variable (c : Dev nD) (i : grid0.Coords) (arg3 : Memref sig .tc .vmem S2048x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S4x1x1x512 .f32) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S2048x256 .bf16) (harg9 : arg9.IsWhole) (arg10 : Memref sig .tc .vmem S2048x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2048x256 .f32) (harg13 : arg13.IsWhole) (arg14 : Memref sig .tc .vmem S512x256 .f32) (harg14 : arg14.IsWhole) (hc0 : cond0_0 i) (X : Blocks F)

theorem runA_carry : (runA.sl.r_35 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_36 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_37 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_38 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_39 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_40 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_41 c i arg3 harg3 arg4 harg4 arg5 harg5 arg6 harg6 arg7 harg7 arg8 harg8 arg9 harg9 arg10 harg10 arg11 harg11 arg12 harg12 arg13 harg13 arg14 harg14 X.q X.k X.v X.c X.o X.l X.g, runA.sl.r_42 c i arg3 harg3 arg4 harg4 arg5 harg5 arg6 harg6 arg7 harg7 arg8 harg8 arg9 harg9 arg10 harg10 arg11 harg11 arg12 harg12 arg13 harg13 arg14 harg14 X.q X.k X.v X.c X.o X.l X.g) = carryOut X (i 2).val := by
  unfold runA.sl.r_35 runA.sl.r_36 runA.sl.r_37 runA.sl.r_38 runA.sl.r_39 runA.sl.r_40 runA.sl.r_41 runA.sl.r_42
  simp only [Prod.mk.eta]
  refine (loop_state Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ X _ _ _ _ le_rfl).1.trans ?_
  unfold carryOut
  first | rw [trips_eq i] | rw [show Scf.trips (k0_t1_loop i).lb (k0_t1_loop i).ub (k0_t1_loop i).st = 3 - (i 2).val from trips_eq i]
  congr 1
  unfold addTile carry0
  have q0 : View.readAt (Elt F) arg3.view (Rect.unit (s := S2048x256) (k0_off1 i) S512x128.size (k0_off1_inb i)).toLoadRect (harg3.unread X.q) = rows X.q (i 2).val 0 := readRows harg3 X.q _ (i 2).val 0 (i 2).isLt (by decide) (off1_rows i) _
  have g0 : View.readAt (Elt F) arg9.view (Rect.unit (s := S2048x256) (k0_off1 i) S512x128.size (k0_off1_inb i)).toLoadRect (harg9.unread X.g) = rows X.g (i 2).val 0 := readRows harg9 X.g _ (i 2).val 0 (i 2).isLt (by decide) (off1_rows i) _
  have o0 : shapeCast S512x128 (View.readAt (Elt F) arg7.view (Rect.unit (s := S2048x256) (k0_off1 i) S512x128.size (k0_off1_inb i)).toLoadRect (harg7.unread X.o)) shapeCasts_S512x128_S512x128 = rows X.o (i 2).val 0 := (shapeCast_self (s := S512x128) _ _).trans (readRows harg7 X.o _ (i 2).val 0 (i 2).isLt (by decide) (off1_rows i) _)
  have l0 : shapeCast S512x128 (View.readAt (Elt F) arg8.view (Rect.unit (s := S2048x256) (k0_off1 i) S512x128.size (k0_off1_inb i)).toLoadRect (harg8.unread X.l)) shapeCasts_S512x128_S512x128 = rows X.l (i 2).val 0 := (shapeCast_self (s := S512x128) _ _).trans (readRows harg8 X.l _ (i 2).val 0 (i 2).isLt (by decide) (off1_rows i) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off2 i) S512x128.size (k0_off2_inb i)).toLoadRect (harg3.unread X.q) = rows X.q (i 2).val 1 := readRows harg3 X.q _ (i 2).val 1 (i 2).isLt (by decide) (off2_rows i) _
  have g1 : View.readAt (Elt F) arg9.view (Rect.unit (s := S2048x256) (k0_off2 i) S512x128.size (k0_off2_inb i)).toLoadRect (harg9.unread X.g) = rows X.g (i 2).val 1 := readRows harg9 X.g _ (i 2).val 1 (i 2).isLt (by decide) (off2_rows i) _
  have o1 : shapeCast S512x128 (View.readAt (Elt F) arg7.view (Rect.unit (s := S2048x256) (k0_off2 i) S512x128.size (k0_off2_inb i)).toLoadRect (harg7.unread X.o)) shapeCasts_S512x128_S512x128 = rows X.o (i 2).val 1 := (shapeCast_self (s := S512x128) _ _).trans (readRows harg7 X.o _ (i 2).val 1 (i 2).isLt (by decide) (off2_rows i) _)
  have l1 : shapeCast S512x128 (View.readAt (Elt F) arg8.view (Rect.unit (s := S2048x256) (k0_off2 i) S512x128.size (k0_off2_inb i)).toLoadRect (harg8.unread X.l)) shapeCasts_S512x128_S512x128 = rows X.l (i 2).val 1 := (shapeCast_self (s := S512x128) _ _).trans (readRows harg8 X.l _ (i 2).val 1 (i 2).isLt (by decide) (off2_rows i) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  simp only [tdk, tdv, grd, wgt, scr]
  rw [← q0, ← g0, ← o0, ← l0, ← k0, ← v0, ← c0, ← c1, ← q1, ← g1, ← o1, ← l1, ← k1, ← v1, ← c2, ← c3]
  rfl

theorem runA_carry0 : runA.sl.r_35 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).1 :=
  (carry_parts (runA_carry c i arg3 harg3 arg4 harg4 arg5 harg5 arg6 harg6 arg7 harg7 arg8 harg8 arg9 harg9 arg10 harg10 arg11 harg11 arg12 harg12 arg13 harg13 arg14 harg14 X)).1

theorem runA_carry1 : runA.sl.r_36 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.1 :=
  (carry_parts (runA_carry c i arg3 harg3 arg4 harg4 arg5 harg5 arg6 harg6 arg7 harg7 arg8 harg8 arg9 harg9 arg10 harg10 arg11 harg11 arg12 harg12 arg13 harg13 arg14 harg14 X)).2.1

theorem runA_carry2 : runA.sl.r_37 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.2.1 :=
  (carry_parts (runA_carry c i arg3 harg3 arg4 harg4 arg5 harg5 arg6 harg6 arg7 harg7 arg8 harg8 arg9 harg9 arg10 harg10 arg11 harg11 arg12 harg12 arg13 harg13 arg14 harg14 X)).2.2.1

theorem runA_carry3 : runA.sl.r_38 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.2.2.1 :=
  (carry_parts (runA_carry c i arg3 harg3 arg4 harg4 arg5 harg5 arg6 harg6 arg7 harg7 arg8 harg8 arg9 harg9 arg10 harg10 arg11 harg11 arg12 harg12 arg13 harg13 arg14 harg14 X)).2.2.2.1

theorem runA_carry4 : runA.sl.r_39 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.2.2.2.1 :=
  (carry_parts (runA_carry c i arg3 harg3 arg4 harg4 arg5 harg5 arg6 harg6 arg7 harg7 arg8 harg8 arg9 harg9 arg10 harg10 arg11 harg11 arg12 harg12 arg13 harg13 arg14 harg14 X)).2.2.2.2.1

theorem runA_carry5 : runA.sl.r_40 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.2.2.2.2.1 :=
  (carry_parts (runA_carry c i arg3 harg3 arg4 harg4 arg5 harg5 arg6 harg6 arg7 harg7 arg8 harg8 arg9 harg9 arg10 harg10 arg11 harg11 arg12 harg12 arg13 harg13 arg14 harg14 X)).2.2.2.2.2.1

theorem runA_carry6 : runA.sl.r_41 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.2.2.2.2.2.1 :=
  (carry_parts (runA_carry c i arg3 harg3 arg4 harg4 arg5 harg5 arg6 harg6 arg7 harg7 arg8 harg8 arg9 harg9 arg10 harg10 arg11 harg11 arg12 harg12 arg13 harg13 arg14 harg14 X)).2.2.2.2.2.2.1

theorem runA_carry7 : runA.sl.r_42 c i arg3 harg3 arg4 harg4 arg5 harg5 arg6 harg6 arg7 harg7 arg8 harg8 arg9 harg9 arg10 harg10 arg11 harg11 arg12 harg12 arg13 harg13 arg14 harg14 X.q X.k X.v X.c X.o X.l X.g = (carryOut X (i 2).val).2.2.2.2.2.2.2 :=
  (carry_parts (runA_carry c i arg3 harg3 arg4 harg4 arg5 harg5 arg6 harg6 arg7 harg7 arg8 harg8 arg9 harg9 arg10 harg10 arg11 harg11 arg12 harg12 arg13 harg13 arg14 harg14 X)).2.2.2.2.2.2.2

theorem runA_dk (f : BufTy.Contents (Elt F) arg11.view.ty) : arg11.view.read (Elt F) (arg11.view.writes (Elt F) f (runA c i arg3 harg3 arg4 harg4 arg5 harg5 arg6 harg6 arg7 harg7 arg8 harg8 arg9 harg9 arg10 harg10 arg11 harg11 arg12 harg12 arg13 harg13 arg14 harg14 hc0 X.q X.k X.v X.c X.o X.l X.g).2.1) = dkOut X (i 2).val := by
  unfold runA; dsimp only
  refine (View.read_writes_cons_put arg11.view _ _ _ _ (off' := ![0, 128]) rfl).trans ?_
  rw [View.read_writes_cons_put arg11.view _ _ _ _ (off' := ![0, 0]) rfl, View.writes_nil]
  refine (put_beside _ _ _).trans ?_
  unfold dkOut
  rw [← runA_carry0 c i arg3 harg3 arg4 harg4 arg5 harg5 arg6 harg6 arg7 harg7 arg8 harg8 arg9 harg9 arg10 harg10 arg11 harg11 arg12 harg12 arg13 harg13 arg14 harg14 X, ← runA_carry1 c i arg3 harg3 arg4 harg4 arg5 harg5 arg6 harg6 arg7 harg7 arg8 harg8 arg9 harg9 arg10 harg10 arg11 harg11 arg12 harg12 arg13 harg13 arg14 harg14 X, ← runA_carry2 c i arg3 harg3 arg4 harg4 arg5 harg5 arg6 harg6 arg7 harg7 arg8 harg8 arg9 harg9 arg10 harg10 arg11 harg11 arg12 harg12 arg13 harg13 arg14 harg14 X, ← runA_carry3 c i arg3 harg3 arg4 harg4 arg5 harg5 arg6 harg6 arg7 harg7 arg8 harg8 arg9 harg9 arg10 harg10 arg11 harg11 arg12 harg12 arg13 harg13 arg14 harg14 X]
  have e0 : ∀ w : FVec F S512x128 .bf16, shapeCast S512x128 w shapeCasts_S512x128_S512x128 = w := fun w => shapeCast_self w _
  refine congrArg₂ beside ?_ ?_
  · exact e0 _
  · exact e0 _

theorem runA_dv (f : BufTy.Contents (Elt F) arg12.view.ty) : arg12.view.read (Elt F) (arg12.view.writes (Elt F) f (runA c i arg3 harg3 arg4 harg4 arg5 harg5 arg6 harg6 arg7 harg7 arg8 harg8 arg9 harg9 arg10 harg10 arg11 harg11 arg12 harg12 arg13 harg13 arg14 harg14 hc0 X.q X.k X.v X.c X.o X.l X.g).2.2.1) = dvOut X (i 2).val := by
  unfold runA; dsimp only
  refine (View.read_writes_cons_put arg12.view _ _ _ _ (off' := ![0, 128]) rfl).trans ?_
  rw [View.read_writes_cons_put arg12.view _ _ _ _ (off' := ![0, 0]) rfl, View.writes_nil]
  refine (put_beside _ _ _).trans ?_
  unfold dvOut
  rw [← runA_carry4 c i arg3 harg3 arg4 harg4 arg5 harg5 arg6 harg6 arg7 harg7 arg8 harg8 arg9 harg9 arg10 harg10 arg11 harg11 arg12 harg12 arg13 harg13 arg14 harg14 X, ← runA_carry5 c i arg3 harg3 arg4 harg4 arg5 harg5 arg6 harg6 arg7 harg7 arg8 harg8 arg9 harg9 arg10 harg10 arg11 harg11 arg12 harg12 arg13 harg13 arg14 harg14 X, ← runA_carry6 c i arg3 harg3 arg4 harg4 arg5 harg5 arg6 harg6 arg7 harg7 arg8 harg8 arg9 harg9 arg10 harg10 arg11 harg11 arg12 harg12 arg13 harg13 arg14 harg14 X, ← runA_carry7 c i arg3 harg3 arg4 harg4 arg5 harg5 arg6 harg6 arg7 harg7 arg8 harg8 arg9 harg9 arg10 harg10 arg11 harg11 arg12 harg12 arg13 harg13 arg14 harg14 X]
  have e0 : ∀ w : FVec F S512x128 .bf16, shapeCast S512x128 w shapeCasts_S512x128_S512x128 = w := fun w => shapeCast_self w _
  refine congrArg₂ beside ?_ ?_
  · exact e0 _
  · exact e0 _

theorem runA_dcol (f : BufTy.Contents (Elt F) arg14.view.ty) : arg14.view.read (Elt F) (arg14.view.writes (Elt F) f (runA c i arg3 harg3 arg4 harg4 arg5 harg5 arg6 harg6 arg7 harg7 arg8 harg8 arg9 harg9 arg10 harg10 arg11 harg11 arg12 harg12 arg13 harg13 arg14 harg14 hc0 X.q X.k X.v X.c X.o X.l X.g).2.2.2.2.1) = dcolOut X (i 2).val := by
  unfold runA; dsimp only
  refine (View.read_writes_cons_put arg14.view _ _ _ _ (off' := ![0, 128]) rfl).trans ?_
  rw [View.read_writes_cons_put arg14.view _ _ _ _ (off' := ![0, 0]) rfl, View.writes_nil]
  refine (put_beside _ _ _).trans ?_
  unfold dcolOut
  rw [← runA_carry1 c i arg3 harg3 arg4 harg4 arg5 harg5 arg6 harg6 arg7 harg7 arg8 harg8 arg9 harg9 arg10 harg10 arg11 harg11 arg12 harg12 arg13 harg13 arg14 harg14 X, ← runA_carry0 c i arg3 harg3 arg4 harg4 arg5 harg5 arg6 harg6 arg7 harg7 arg8 harg8 arg9 harg9 arg10 harg10 arg11 harg11 arg12 harg12 arg13 harg13 arg14 harg14 X, ← runA_carry3 c i arg3 harg3 arg4 harg4 arg5 harg5 arg6 harg6 arg7 harg7 arg8 harg8 arg9 harg9 arg10 harg10 arg11 harg11 arg12 harg12 arg13 harg13 arg14 harg14 X, ← runA_carry2 c i arg3 harg3 arg4 harg4 arg5 harg5 arg6 harg6 arg7 harg7 arg8 harg8 arg9 harg9 arg10 harg10 arg11 harg11 arg12 harg12 arg13 harg13 arg14 harg14 X]
  have e0 : ∀ w : FVec F S512x128 .f32, shapeCast S512x128 w shapeCasts_S512x128_S512x128 = w := fun w => shapeCast_self w _
  refine congrArg₂ beside ?_ ?_
  · exact e0 _
  · exact e0 _

theorem runA_dq : arg10.view.read (Elt F) (arg10.view.writes (Elt F) arg10.view.junk (runA c i arg3 harg3 arg4 harg4 arg5 harg5 arg6 harg6 arg7 harg7 arg8 harg8 arg9 harg9 arg10 harg10 arg11 harg11 arg12 harg12 arg13 harg13 arg14 harg14 hc0 X.q X.k X.v X.c X.o X.l X.g).1) = dqOut X (i 2).val (broadcast S2048x256 (Scalar.ofBits .f32 0x00000000#32)) := by
  unfold runA; dsimp only
  rw [View.writes_append]
  refine (loop_state Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ X _ _ _ _ le_rfl).2.1.trans ?_
  unfold dqOut
  first | rw [trips_eq i] | rw [show Scf.trips (k0_t1_loop i).lb (k0_t1_loop i).ub (k0_t1_loop i).st = 3 - (i 2).val from trips_eq i]
  congr 1
  have q0 : View.readAt (Elt F) arg3.view (Rect.unit (s := S2048x256) (k0_off1 i) S512x128.size (k0_off1_inb i)).toLoadRect (harg3.unread X.q) = rows X.q (i 2).val 0 := readRows harg3 X.q _ (i 2).val 0 (i 2).isLt (by decide) (off1_rows i) _
  have g0 : View.readAt (Elt F) arg9.view (Rect.unit (s := S2048x256) (k0_off1 i) S512x128.size (k0_off1_inb i)).toLoadRect (harg9.unread X.g) = rows X.g (i 2).val 0 := readRows harg9 X.g _ (i 2).val 0 (i 2).isLt (by decide) (off1_rows i) _
  have o0 : shapeCast S512x128 (View.readAt (Elt F) arg7.view (Rect.unit (s := S2048x256) (k0_off1 i) S512x128.size (k0_off1_inb i)).toLoadRect (harg7.unread X.o)) shapeCasts_S512x128_S512x128 = rows X.o (i 2).val 0 := (shapeCast_self (s := S512x128) _ _).trans (readRows harg7 X.o _ (i 2).val 0 (i 2).isLt (by decide) (off1_rows i) _)
  have l0 : shapeCast S512x128 (View.readAt (Elt F) arg8.view (Rect.unit (s := S2048x256) (k0_off1 i) S512x128.size (k0_off1_inb i)).toLoadRect (harg8.unread X.l)) shapeCasts_S512x128_S512x128 = rows X.l (i 2).val 0 := (shapeCast_self (s := S512x128) _ _).trans (readRows harg8 X.l _ (i 2).val 0 (i 2).isLt (by decide) (off1_rows i) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off2 i) S512x128.size (k0_off2_inb i)).toLoadRect (harg3.unread X.q) = rows X.q (i 2).val 1 := readRows harg3 X.q _ (i 2).val 1 (i 2).isLt (by decide) (off2_rows i) _
  have g1 : View.readAt (Elt F) arg9.view (Rect.unit (s := S2048x256) (k0_off2 i) S512x128.size (k0_off2_inb i)).toLoadRect (harg9.unread X.g) = rows X.g (i 2).val 1 := readRows harg9 X.g _ (i 2).val 1 (i 2).isLt (by decide) (off2_rows i) _
  have o1 : shapeCast S512x128 (View.readAt (Elt F) arg7.view (Rect.unit (s := S2048x256) (k0_off2 i) S512x128.size (k0_off2_inb i)).toLoadRect (harg7.unread X.o)) shapeCasts_S512x128_S512x128 = rows X.o (i 2).val 1 := (shapeCast_self (s := S512x128) _ _).trans (readRows harg7 X.o _ (i 2).val 1 (i 2).isLt (by decide) (off2_rows i) _)
  have l1 : shapeCast S512x128 (View.readAt (Elt F) arg8.view (Rect.unit (s := S2048x256) (k0_off2 i) S512x128.size (k0_off2_inb i)).toLoadRect (harg8.unread X.l)) shapeCasts_S512x128_S512x128 = rows X.l (i 2).val 1 := (shapeCast_self (s := S512x128) _ _).trans (readRows harg8 X.l _ (i 2).val 1 (i 2).isLt (by decide) (off2_rows i) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  refine twoA arg10.view _ _ _ _ (i 2).val (i 2).isLt (off1_rows i) (off2_rows i) _ _ _ _ _ ?_ ?_ _ ?_
  · simp only [own, mate, tdq, grd, wgt, scr]
    rw [← q0, ← g0, ← o0, ← l0, ← k0, ← v0, ← c0, ← c1]
    rfl
  · simp only [own, mate, tdq, grd, wgt, scr]
    rw [← q1, ← g1, ← o1, ← l1, ← k1, ← v1, ← c2, ← c3]
    rfl
  · (refine (View.read_writes_full arg10.view _ _ _ _).trans (shapeCast_self (s := S2048x256) _ shapeCasts_S2048x256_S2048x256))

theorem runA_drow : arg13.view.read (Elt F) (arg13.view.writes (Elt F) arg13.view.junk (runA c i arg3 harg3 arg4 harg4 arg5 harg5 arg6 harg6 arg7 harg7 arg8 harg8 arg9 harg9 arg10 harg10 arg11 harg11 arg12 harg12 arg13 harg13 arg14 harg14 hc0 X.q X.k X.v X.c X.o X.l X.g).2.2.2.1) = drowOut X (i 2).val (broadcast S2048x256 (Scalar.ofBits .f32 0x00000000#32)) := by
  unfold runA; dsimp only
  rw [View.writes_append]
  refine (loop_state Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ X _ _ _ _ le_rfl).2.2.trans ?_
  unfold drowOut
  first | rw [trips_eq i] | rw [show Scf.trips (k0_t1_loop i).lb (k0_t1_loop i).ub (k0_t1_loop i).st = 3 - (i 2).val from trips_eq i]
  congr 1
  have q0 : View.readAt (Elt F) arg3.view (Rect.unit (s := S2048x256) (k0_off1 i) S512x128.size (k0_off1_inb i)).toLoadRect (harg3.unread X.q) = rows X.q (i 2).val 0 := readRows harg3 X.q _ (i 2).val 0 (i 2).isLt (by decide) (off1_rows i) _
  have g0 : View.readAt (Elt F) arg9.view (Rect.unit (s := S2048x256) (k0_off1 i) S512x128.size (k0_off1_inb i)).toLoadRect (harg9.unread X.g) = rows X.g (i 2).val 0 := readRows harg9 X.g _ (i 2).val 0 (i 2).isLt (by decide) (off1_rows i) _
  have o0 : shapeCast S512x128 (View.readAt (Elt F) arg7.view (Rect.unit (s := S2048x256) (k0_off1 i) S512x128.size (k0_off1_inb i)).toLoadRect (harg7.unread X.o)) shapeCasts_S512x128_S512x128 = rows X.o (i 2).val 0 := (shapeCast_self (s := S512x128) _ _).trans (readRows harg7 X.o _ (i 2).val 0 (i 2).isLt (by decide) (off1_rows i) _)
  have l0 : shapeCast S512x128 (View.readAt (Elt F) arg8.view (Rect.unit (s := S2048x256) (k0_off1 i) S512x128.size (k0_off1_inb i)).toLoadRect (harg8.unread X.l)) shapeCasts_S512x128_S512x128 = rows X.l (i 2).val 0 := (shapeCast_self (s := S512x128) _ _).trans (readRows harg8 X.l _ (i 2).val 0 (i 2).isLt (by decide) (off1_rows i) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off2 i) S512x128.size (k0_off2_inb i)).toLoadRect (harg3.unread X.q) = rows X.q (i 2).val 1 := readRows harg3 X.q _ (i 2).val 1 (i 2).isLt (by decide) (off2_rows i) _
  have g1 : View.readAt (Elt F) arg9.view (Rect.unit (s := S2048x256) (k0_off2 i) S512x128.size (k0_off2_inb i)).toLoadRect (harg9.unread X.g) = rows X.g (i 2).val 1 := readRows harg9 X.g _ (i 2).val 1 (i 2).isLt (by decide) (off2_rows i) _
  have o1 : shapeCast S512x128 (View.readAt (Elt F) arg7.view (Rect.unit (s := S2048x256) (k0_off2 i) S512x128.size (k0_off2_inb i)).toLoadRect (harg7.unread X.o)) shapeCasts_S512x128_S512x128 = rows X.o (i 2).val 1 := (shapeCast_self (s := S512x128) _ _).trans (readRows harg7 X.o _ (i 2).val 1 (i 2).isLt (by decide) (off2_rows i) _)
  have l1 : shapeCast S512x128 (View.readAt (Elt F) arg8.view (Rect.unit (s := S2048x256) (k0_off2 i) S512x128.size (k0_off2_inb i)).toLoadRect (harg8.unread X.l)) shapeCasts_S512x128_S512x128 = rows X.l (i 2).val 1 := (shapeCast_self (s := S512x128) _ _).trans (readRows harg8 X.l _ (i 2).val 1 (i 2).isLt (by decide) (off2_rows i) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  refine twoA arg13.view _ _ _ _ (i 2).val (i 2).isLt (off1_rows i) (off2_rows i) _ _ _ _ _ ?_ ?_ _ ?_
  · simp only [own, mate, tdq, grd, wgt, scr]
    rw [← q0, ← g0, ← o0, ← l0, ← k0, ← v0, ← c0, ← c1]
    rfl
  · simp only [own, mate, tdq, grd, wgt, scr]
    rw [← q1, ← g1, ← o1, ← l1, ← k1, ← v1, ← c2, ← c3]
    rfl
  · (refine (View.read_writes_full arg13.view _ _ _ _).trans (shapeCast_self (s := S2048x256) _ shapeCasts_S2048x256_S2048x256))

end

section

variable (c : Dev nD) (i : grid0.Coords) (arg3 : Memref sig .tc .vmem S2048x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S4x1x1x512 .f32) (harg6 : arg6.IsWhole) (arg7 : Memref sig .tc .vmem S2048x256 .bf16) (harg7 : arg7.IsWhole) (arg8 : Memref sig .tc .vmem S2048x256 .f32) (harg8 : arg8.IsWhole) (arg9 : Memref sig .tc .vmem S2048x256 .bf16) (harg9 : arg9.IsWhole) (arg10 : Memref sig .tc .vmem S2048x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2048x256 .f32) (harg13 : arg13.IsWhole) (arg14 : Memref sig .tc .vmem S512x256 .f32) (harg14 : arg14.IsWhole) (hc0 : ¬ cond0_0 i) (X : Blocks F) (y7 y10 : Vec F S2048x256 .f32)

theorem runB_carry : (runB.sl.r_35 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_36 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_37 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_38 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_39 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_40 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_41 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10, runB.sl.r_42 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10) = carryOut X (i 2).val := by
  unfold runB.sl.r_35 runB.sl.r_36 runB.sl.r_37 runB.sl.r_38 runB.sl.r_39 runB.sl.r_40 runB.sl.r_41 runB.sl.r_42
  simp only [Prod.mk.eta]
  refine (loop_state Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ X _ _ _ _ le_rfl).1.trans ?_
  unfold carryOut
  first | rw [trips_eq i] | rw [show Scf.trips (k0_t1_loop i).lb (k0_t1_loop i).ub (k0_t1_loop i).st = 3 - (i 2).val from trips_eq i]
  congr 1
  unfold addTile carry0
  have q0 : View.readAt (Elt F) arg3.view (Rect.unit (s := S2048x256) (k0_off1 i) S512x128.size (k0_off1_inb i)).toLoadRect (harg3.unread X.q) = rows X.q (i 2).val 0 := readRows harg3 X.q _ (i 2).val 0 (i 2).isLt (by decide) (off1_rows i) _
  have g0 : View.readAt (Elt F) arg9.view (Rect.unit (s := S2048x256) (k0_off1 i) S512x128.size (k0_off1_inb i)).toLoadRect (harg9.unread X.g) = rows X.g (i 2).val 0 := readRows harg9 X.g _ (i 2).val 0 (i 2).isLt (by decide) (off1_rows i) _
  have o0 : shapeCast S512x128 (View.readAt (Elt F) arg7.view (Rect.unit (s := S2048x256) (k0_off1 i) S512x128.size (k0_off1_inb i)).toLoadRect (harg7.unread X.o)) shapeCasts_S512x128_S512x128 = rows X.o (i 2).val 0 := (shapeCast_self (s := S512x128) _ _).trans (readRows harg7 X.o _ (i 2).val 0 (i 2).isLt (by decide) (off1_rows i) _)
  have l0 : shapeCast S512x128 (View.readAt (Elt F) arg8.view (Rect.unit (s := S2048x256) (k0_off1 i) S512x128.size (k0_off1_inb i)).toLoadRect (harg8.unread X.l)) shapeCasts_S512x128_S512x128 = rows X.l (i 2).val 0 := (shapeCast_self (s := S512x128) _ _).trans (readRows harg8 X.l _ (i 2).val 0 (i 2).isLt (by decide) (off1_rows i) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off2 i) S512x128.size (k0_off2_inb i)).toLoadRect (harg3.unread X.q) = rows X.q (i 2).val 1 := readRows harg3 X.q _ (i 2).val 1 (i 2).isLt (by decide) (off2_rows i) _
  have g1 : View.readAt (Elt F) arg9.view (Rect.unit (s := S2048x256) (k0_off2 i) S512x128.size (k0_off2_inb i)).toLoadRect (harg9.unread X.g) = rows X.g (i 2).val 1 := readRows harg9 X.g _ (i 2).val 1 (i 2).isLt (by decide) (off2_rows i) _
  have o1 : shapeCast S512x128 (View.readAt (Elt F) arg7.view (Rect.unit (s := S2048x256) (k0_off2 i) S512x128.size (k0_off2_inb i)).toLoadRect (harg7.unread X.o)) shapeCasts_S512x128_S512x128 = rows X.o (i 2).val 1 := (shapeCast_self (s := S512x128) _ _).trans (readRows harg7 X.o _ (i 2).val 1 (i 2).isLt (by decide) (off2_rows i) _)
  have l1 : shapeCast S512x128 (View.readAt (Elt F) arg8.view (Rect.unit (s := S2048x256) (k0_off2 i) S512x128.size (k0_off2_inb i)).toLoadRect (harg8.unread X.l)) shapeCasts_S512x128_S512x128 = rows X.l (i 2).val 1 := (shapeCast_self (s := S512x128) _ _).trans (readRows harg8 X.l _ (i 2).val 1 (i 2).isLt (by decide) (off2_rows i) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  simp only [tdk, tdv, grd, wgt, scr]
  rw [← q0, ← g0, ← o0, ← l0, ← k0, ← v0, ← c0, ← c1, ← q1, ← g1, ← o1, ← l1, ← k1, ← v1, ← c2, ← c3]
  rfl

theorem runB_carry0 : runB.sl.r_35 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).1 :=
  (carry_parts (runB_carry c i arg3 harg3 arg4 harg4 arg5 harg5 arg6 harg6 arg7 harg7 arg8 harg8 arg9 harg9 arg10 harg10 arg11 harg11 arg12 harg12 arg13 harg13 arg14 harg14 X y7 y10)).1

theorem runB_carry1 : runB.sl.r_36 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.1 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.1

theorem runB_carry2 : runB.sl.r_37 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.2.1 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.2.1

theorem runB_carry3 : runB.sl.r_38 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.2.2.1 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.2.2.1

theorem runB_carry4 : runB.sl.r_39 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.2.2.2.1 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.2.2.2.1

theorem runB_carry5 : runB.sl.r_40 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.2.2.2.2.1 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.2.2.2.2.1

theorem runB_carry6 : runB.sl.r_41 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.2.2.2.2.2.1 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.2.2.2.2.2.1

theorem runB_carry7 : runB.sl.r_42 c i arg3 harg3 arg4 harg4 arg5 harg5 arg6 harg6 arg7 harg7 arg8 harg8 arg9 harg9 arg10 harg10 arg11 harg11 arg12 harg12 arg13 harg13 arg14 harg14 X.q X.k X.v X.c X.o X.l X.g y7 y10 = (carryOut X (i 2).val).2.2.2.2.2.2.2 :=
  (carry_parts (runB_carry c i arg3 harg3 arg4 harg4 arg5 harg5 arg6 harg6 arg7 harg7 arg8 harg8 arg9 harg9 arg10 harg10 arg11 harg11 arg12 harg12 arg13 harg13 arg14 harg14 X y7 y10)).2.2.2.2.2.2.2

theorem runB_dk (f : BufTy.Contents (Elt F) arg11.view.ty) : arg11.view.read (Elt F) (arg11.view.writes (Elt F) f (runB c i arg3 harg3 arg4 harg4 arg5 harg5 arg6 harg6 arg7 harg7 arg8 harg8 arg9 harg9 arg10 harg10 arg11 harg11 arg12 harg12 arg13 harg13 arg14 harg14 hc0 X.q X.k X.v X.c X.o X.l X.g y7 y10).2.1) = dkOut X (i 2).val := by
  unfold runB; dsimp only
  refine (View.read_writes_cons_put arg11.view _ _ _ _ (off' := ![0, 128]) rfl).trans ?_
  rw [View.read_writes_cons_put arg11.view _ _ _ _ (off' := ![0, 0]) rfl, View.writes_nil]
  refine (put_beside _ _ _).trans ?_
  unfold dkOut
  rw [← runB_carry0 c i arg3 harg3 arg4 harg4 arg5 harg5 arg6 harg6 arg7 harg7 arg8 harg8 arg9 harg9 arg10 harg10 arg11 harg11 arg12 harg12 arg13 harg13 arg14 harg14 X y7 y10, ← runB_carry1 c i arg3 harg3 arg4 harg4 arg5 harg5 arg6 harg6 arg7 harg7 arg8 harg8 arg9 harg9 arg10 harg10 arg11 harg11 arg12 harg12 arg13 harg13 arg14 harg14 X y7 y10, ← runB_carry2 c i arg3 harg3 arg4 harg4 arg5 harg5 arg6 harg6 arg7 harg7 arg8 harg8 arg9 harg9 arg10 harg10 arg11 harg11 arg12 harg12 arg13 harg13 arg14 harg14 X y7 y10, ← runB_carry3 c i arg3 harg3 arg4 harg4 arg5 harg5 arg6 harg6 arg7 harg7 arg8 harg8 arg9 harg9 arg10 harg10 arg11 harg11 arg12 harg12 arg13 harg13 arg14 harg14 X y7 y10]
  have e0 : ∀ w : FVec F S512x128 .bf16, shapeCast S512x128 w shapeCasts_S512x128_S512x128 = w := fun w => shapeCast_self w _
  refine congrArg₂ beside ?_ ?_
  · exact e0 _
  · exact e0 _

theorem runB_dv (f : BufTy.Contents (Elt F) arg12.view.ty) : arg12.view.read (Elt F) (arg12.view.writes (Elt F) f (runB c i arg3 harg3 arg4 harg4 arg5 harg5 arg6 harg6 arg7 harg7 arg8 harg8 arg9 harg9 arg10 harg10 arg11 harg11 arg12 harg12 arg13 harg13 arg14 harg14 hc0 X.q X.k X.v X.c X.o X.l X.g y7 y10).2.2.1) = dvOut X (i 2).val := by
  unfold runB; dsimp only
  refine (View.read_writes_cons_put arg12.view _ _ _ _ (off' := ![0, 128]) rfl).trans ?_
  rw [View.read_writes_cons_put arg12.view _ _ _ _ (off' := ![0, 0]) rfl, View.writes_nil]
  refine (put_beside _ _ _).trans ?_
  unfold dvOut
  rw [← runB_carry4 c i arg3 harg3 arg4 harg4 arg5 harg5 arg6 harg6 arg7 harg7 arg8 harg8 arg9 harg9 arg10 harg10 arg11 harg11 arg12 harg12 arg13 harg13 arg14 harg14 X y7 y10, ← runB_carry5 c i arg3 harg3 arg4 harg4 arg5 harg5 arg6 harg6 arg7 harg7 arg8 harg8 arg9 harg9 arg10 harg10 arg11 harg11 arg12 harg12 arg13 harg13 arg14 harg14 X y7 y10, ← runB_carry6 c i arg3 harg3 arg4 harg4 arg5 harg5 arg6 harg6 arg7 harg7 arg8 harg8 arg9 harg9 arg10 harg10 arg11 harg11 arg12 harg12 arg13 harg13 arg14 harg14 X y7 y10, ← runB_carry7 c i arg3 harg3 arg4 harg4 arg5 harg5 arg6 harg6 arg7 harg7 arg8 harg8 arg9 harg9 arg10 harg10 arg11 harg11 arg12 harg12 arg13 harg13 arg14 harg14 X y7 y10]
  have e0 : ∀ w : FVec F S512x128 .bf16, shapeCast S512x128 w shapeCasts_S512x128_S512x128 = w := fun w => shapeCast_self w _
  refine congrArg₂ beside ?_ ?_
  · exact e0 _
  · exact e0 _

theorem runB_dcol (f : BufTy.Contents (Elt F) arg14.view.ty) : arg14.view.read (Elt F) (arg14.view.writes (Elt F) f (runB c i arg3 harg3 arg4 harg4 arg5 harg5 arg6 harg6 arg7 harg7 arg8 harg8 arg9 harg9 arg10 harg10 arg11 harg11 arg12 harg12 arg13 harg13 arg14 harg14 hc0 X.q X.k X.v X.c X.o X.l X.g y7 y10).2.2.2.2.1) = dcolOut X (i 2).val := by
  unfold runB; dsimp only
  refine (View.read_writes_cons_put arg14.view _ _ _ _ (off' := ![0, 128]) rfl).trans ?_
  rw [View.read_writes_cons_put arg14.view _ _ _ _ (off' := ![0, 0]) rfl, View.writes_nil]
  refine (put_beside _ _ _).trans ?_
  unfold dcolOut
  rw [← runB_carry1 c i arg3 harg3 arg4 harg4 arg5 harg5 arg6 harg6 arg7 harg7 arg8 harg8 arg9 harg9 arg10 harg10 arg11 harg11 arg12 harg12 arg13 harg13 arg14 harg14 X y7 y10, ← runB_carry0 c i arg3 harg3 arg4 harg4 arg5 harg5 arg6 harg6 arg7 harg7 arg8 harg8 arg9 harg9 arg10 harg10 arg11 harg11 arg12 harg12 arg13 harg13 arg14 harg14 X y7 y10, ← runB_carry3 c i arg3 harg3 arg4 harg4 arg5 harg5 arg6 harg6 arg7 harg7 arg8 harg8 arg9 harg9 arg10 harg10 arg11 harg11 arg12 harg12 arg13 harg13 arg14 harg14 X y7 y10, ← runB_carry2 c i arg3 harg3 arg4 harg4 arg5 harg5 arg6 harg6 arg7 harg7 arg8 harg8 arg9 harg9 arg10 harg10 arg11 harg11 arg12 harg12 arg13 harg13 arg14 harg14 X y7 y10]
  have e0 : ∀ w : FVec F S512x128 .f32, shapeCast S512x128 w shapeCasts_S512x128_S512x128 = w := fun w => shapeCast_self w _
  refine congrArg₂ beside ?_ ?_
  · exact e0 _
  · exact e0 _

theorem runB_dq : arg10.view.read (Elt F) (arg10.view.writes (Elt F) (harg10.unread y7) (runB c i arg3 harg3 arg4 harg4 arg5 harg5 arg6 harg6 arg7 harg7 arg8 harg8 arg9 harg9 arg10 harg10 arg11 harg11 arg12 harg12 arg13 harg13 arg14 harg14 hc0 X.q X.k X.v X.c X.o X.l X.g y7 y10).1) = dqOut X (i 2).val y7 := by
  unfold runB; dsimp only
  rw [View.writes_append]
  refine (loop_state Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ X _ _ _ _ le_rfl).2.1.trans ?_
  unfold dqOut
  first | rw [trips_eq i] | rw [show Scf.trips (k0_t1_loop i).lb (k0_t1_loop i).ub (k0_t1_loop i).st = 3 - (i 2).val from trips_eq i]
  congr 1
  have q0 : View.readAt (Elt F) arg3.view (Rect.unit (s := S2048x256) (k0_off1 i) S512x128.size (k0_off1_inb i)).toLoadRect (harg3.unread X.q) = rows X.q (i 2).val 0 := readRows harg3 X.q _ (i 2).val 0 (i 2).isLt (by decide) (off1_rows i) _
  have g0 : View.readAt (Elt F) arg9.view (Rect.unit (s := S2048x256) (k0_off1 i) S512x128.size (k0_off1_inb i)).toLoadRect (harg9.unread X.g) = rows X.g (i 2).val 0 := readRows harg9 X.g _ (i 2).val 0 (i 2).isLt (by decide) (off1_rows i) _
  have o0 : shapeCast S512x128 (View.readAt (Elt F) arg7.view (Rect.unit (s := S2048x256) (k0_off1 i) S512x128.size (k0_off1_inb i)).toLoadRect (harg7.unread X.o)) shapeCasts_S512x128_S512x128 = rows X.o (i 2).val 0 := (shapeCast_self (s := S512x128) _ _).trans (readRows harg7 X.o _ (i 2).val 0 (i 2).isLt (by decide) (off1_rows i) _)
  have l0 : shapeCast S512x128 (View.readAt (Elt F) arg8.view (Rect.unit (s := S2048x256) (k0_off1 i) S512x128.size (k0_off1_inb i)).toLoadRect (harg8.unread X.l)) shapeCasts_S512x128_S512x128 = rows X.l (i 2).val 0 := (shapeCast_self (s := S512x128) _ _).trans (readRows harg8 X.l _ (i 2).val 0 (i 2).isLt (by decide) (off1_rows i) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off2 i) S512x128.size (k0_off2_inb i)).toLoadRect (harg3.unread X.q) = rows X.q (i 2).val 1 := readRows harg3 X.q _ (i 2).val 1 (i 2).isLt (by decide) (off2_rows i) _
  have g1 : View.readAt (Elt F) arg9.view (Rect.unit (s := S2048x256) (k0_off2 i) S512x128.size (k0_off2_inb i)).toLoadRect (harg9.unread X.g) = rows X.g (i 2).val 1 := readRows harg9 X.g _ (i 2).val 1 (i 2).isLt (by decide) (off2_rows i) _
  have o1 : shapeCast S512x128 (View.readAt (Elt F) arg7.view (Rect.unit (s := S2048x256) (k0_off2 i) S512x128.size (k0_off2_inb i)).toLoadRect (harg7.unread X.o)) shapeCasts_S512x128_S512x128 = rows X.o (i 2).val 1 := (shapeCast_self (s := S512x128) _ _).trans (readRows harg7 X.o _ (i 2).val 1 (i 2).isLt (by decide) (off2_rows i) _)
  have l1 : shapeCast S512x128 (View.readAt (Elt F) arg8.view (Rect.unit (s := S2048x256) (k0_off2 i) S512x128.size (k0_off2_inb i)).toLoadRect (harg8.unread X.l)) shapeCasts_S512x128_S512x128 = rows X.l (i 2).val 1 := (shapeCast_self (s := S512x128) _ _).trans (readRows harg8 X.l _ (i 2).val 1 (i 2).isLt (by decide) (off2_rows i) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  refine twoB arg10.view _ _ _ (i 2).val (i 2).isLt (off1_rows i) (off2_rows i) _ _ _ _ _ ?_ ?_ _ ?_
  · simp only [own, mate, tdq, grd, wgt, scr]
    rw [← q0, ← g0, ← o0, ← l0, ← k0, ← v0, ← c0, ← c1]
    rfl
  · simp only [own, mate, tdq, grd, wgt, scr]
    rw [← q1, ← g1, ← o1, ← l1, ← k1, ← v1, ← c2, ← c3]
    rfl
  · exact harg10.read_unread _

theorem runB_drow : arg13.view.read (Elt F) (arg13.view.writes (Elt F) (harg13.unread y10) (runB c i arg3 harg3 arg4 harg4 arg5 harg5 arg6 harg6 arg7 harg7 arg8 harg8 arg9 harg9 arg10 harg10 arg11 harg11 arg12 harg12 arg13 harg13 arg14 harg14 hc0 X.q X.k X.v X.c X.o X.l X.g y7 y10).2.2.2.1) = drowOut X (i 2).val y10 := by
  unfold runB; dsimp only
  rw [View.writes_append]
  refine (loop_state Variants.none c none i arg3 harg3 arg4 harg4 arg5 harg5 arg6 harg6 arg7 harg7 arg8 harg8 arg9 harg9 arg10 harg10 arg11 harg11 arg12 harg12 arg13 harg13 arg14 harg14 _ _ _ _ _ _ _ _ _ _ _ _ _ _ _ _ _ X _ _ _ _ le_rfl).2.2.trans ?_
  unfold drowOut
  first | rw [trips_eq i] | rw [show Scf.trips (k0_t1_loop i).lb (k0_t1_loop i).ub (k0_t1_loop i).st = 3 - (i 2).val from trips_eq i]
  congr 1
  have q0 : View.readAt (Elt F) arg3.view (Rect.unit (s := S2048x256) (k0_off1 i) S512x128.size (k0_off1_inb i)).toLoadRect (harg3.unread X.q) = rows X.q (i 2).val 0 := readRows harg3 X.q _ (i 2).val 0 (i 2).isLt (by decide) (off1_rows i) _
  have g0 : View.readAt (Elt F) arg9.view (Rect.unit (s := S2048x256) (k0_off1 i) S512x128.size (k0_off1_inb i)).toLoadRect (harg9.unread X.g) = rows X.g (i 2).val 0 := readRows harg9 X.g _ (i 2).val 0 (i 2).isLt (by decide) (off1_rows i) _
  have o0 : shapeCast S512x128 (View.readAt (Elt F) arg7.view (Rect.unit (s := S2048x256) (k0_off1 i) S512x128.size (k0_off1_inb i)).toLoadRect (harg7.unread X.o)) shapeCasts_S512x128_S512x128 = rows X.o (i 2).val 0 := (shapeCast_self (s := S512x128) _ _).trans (readRows harg7 X.o _ (i 2).val 0 (i 2).isLt (by decide) (off1_rows i) _)
  have l0 : shapeCast S512x128 (View.readAt (Elt F) arg8.view (Rect.unit (s := S2048x256) (k0_off1 i) S512x128.size (k0_off1_inb i)).toLoadRect (harg8.unread X.l)) shapeCasts_S512x128_S512x128 = rows X.l (i 2).val 0 := (shapeCast_self (s := S512x128) _ _).trans (readRows harg8 X.l _ (i 2).val 0 (i 2).isLt (by decide) (off1_rows i) _)
  have k0 : View.readAt (Elt F) arg4.view (Rect.unit (s := S512x256) ![0, 0] S512x128.size (by decide)).toLoadRect (harg4.unread X.k) = cols X.k 0 := readCols harg4 X.k _ 0 (by decide) rfl _
  have v0 : View.readAt (Elt F) arg5.view (Rect.unit (s := S512x256) ![0, 0] S512x128.size (by decide)).toLoadRect (harg5.unread X.v) = cols X.v 0 := readCols harg5 X.v _ 0 (by decide) rfl _
  have c0 : View.readAt (Elt F) arg6.view (Rect.unit (s := S4x1x1x512) ![0, 0, 0, 0] S1x1x1x512.size (by decide)).toLoadRect (harg6.unread X.c) = gates X.c (2 * 0 + Bool.toNat false) := readGates harg6 X.c _ _ (by decide) rfl _
  have c1 : View.readAt (Elt F) arg6.view (Rect.unit (s := S4x1x1x512) ![1, 0, 0, 0] S1x1x1x512.size (by decide)).toLoadRect (harg6.unread X.c) = gates X.c (2 * 0 + Bool.toNat true) := readGates harg6 X.c _ _ (by decide) rfl _
  have q1 : View.readAt (Elt F) arg3.view (Rect.unit (s := S2048x256) (k0_off2 i) S512x128.size (k0_off2_inb i)).toLoadRect (harg3.unread X.q) = rows X.q (i 2).val 1 := readRows harg3 X.q _ (i 2).val 1 (i 2).isLt (by decide) (off2_rows i) _
  have g1 : View.readAt (Elt F) arg9.view (Rect.unit (s := S2048x256) (k0_off2 i) S512x128.size (k0_off2_inb i)).toLoadRect (harg9.unread X.g) = rows X.g (i 2).val 1 := readRows harg9 X.g _ (i 2).val 1 (i 2).isLt (by decide) (off2_rows i) _
  have o1 : shapeCast S512x128 (View.readAt (Elt F) arg7.view (Rect.unit (s := S2048x256) (k0_off2 i) S512x128.size (k0_off2_inb i)).toLoadRect (harg7.unread X.o)) shapeCasts_S512x128_S512x128 = rows X.o (i 2).val 1 := (shapeCast_self (s := S512x128) _ _).trans (readRows harg7 X.o _ (i 2).val 1 (i 2).isLt (by decide) (off2_rows i) _)
  have l1 : shapeCast S512x128 (View.readAt (Elt F) arg8.view (Rect.unit (s := S2048x256) (k0_off2 i) S512x128.size (k0_off2_inb i)).toLoadRect (harg8.unread X.l)) shapeCasts_S512x128_S512x128 = rows X.l (i 2).val 1 := (shapeCast_self (s := S512x128) _ _).trans (readRows harg8 X.l _ (i 2).val 1 (i 2).isLt (by decide) (off2_rows i) _)
  have k1 : View.readAt (Elt F) arg4.view (Rect.unit (s := S512x256) ![0, 128] S512x128.size (by decide)).toLoadRect (harg4.unread X.k) = cols X.k 1 := readCols harg4 X.k _ 1 (by decide) rfl _
  have v1 : View.readAt (Elt F) arg5.view (Rect.unit (s := S512x256) ![0, 128] S512x128.size (by decide)).toLoadRect (harg5.unread X.v) = cols X.v 1 := readCols harg5 X.v _ 1 (by decide) rfl _
  have c2 : View.readAt (Elt F) arg6.view (Rect.unit (s := S4x1x1x512) ![2, 0, 0, 0] S1x1x1x512.size (by decide)).toLoadRect (harg6.unread X.c) = gates X.c (2 * 1 + Bool.toNat false) := readGates harg6 X.c _ _ (by decide) rfl _
  have c3 : View.readAt (Elt F) arg6.view (Rect.unit (s := S4x1x1x512) ![3, 0, 0, 0] S1x1x1x512.size (by decide)).toLoadRect (harg6.unread X.c) = gates X.c (2 * 1 + Bool.toNat true) := readGates harg6 X.c _ _ (by decide) rfl _
  refine twoB arg13.view _ _ _ (i 2).val (i 2).isLt (off1_rows i) (off2_rows i) _ _ _ _ _ ?_ ?_ _ ?_
  · simp only [own, mate, tdq, grd, wgt, scr]
    rw [← q0, ← g0, ← o0, ← l0, ← k0, ← v0, ← c0, ← c1]
    rfl
  · simp only [own, mate, tdq, grd, wgt, scr]
    rw [← q1, ← g1, ← o1, ← l1, ← k1, ← v1, ← c2, ← c3]
    rfl
  · exact harg13.read_unread _

end

end Cert.KernelIdeal.Fox
-- ==== Proof.Body.lean ====
/- The idealized kernel's run with every output named: what each grid point leaves in each window, and that the body leaves it. -/
module

public import proofs.«01_k».proof.Proof.Outs
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point's last coordinate, the key block. -/
theorem coord2 (t : Fin cfg0.N) : (grid0.coords t 2).val = t.val % 4 := by
  have e2 : (grid0.coords t 2).val = t.val / 1 % 4 := Pipeline.Grid.coords_val t 2 (by decide) rfl
  rw [e2, Nat.div_one]

/-- The body resets its accumulated outputs exactly at the first key block. -/
theorem first_iff (t : Fin cfg0.N) : cond0_0 (grid0.coords t) ↔ t.val % 4 = 0 := by
  have ht : t.val < 32 := Nat.lt_of_lt_of_eq t.isLt N_0
  have e0 : (grid0.coords t 0).val = t.val / 8 % 4 := Pipeline.Grid.coords_val t 0 (by decide) rfl
  have e1 : (grid0.coords t 1).val = t.val / 4 % 2 := Pipeline.Grid.coords_val t 1 (by decide) rfl
  have e2 : (grid0.coords t 2).val = t.val / 1 % 4 := Pipeline.Grid.coords_val t 2 (by decide) rfl
  simp only [cond0_0, e0, e1, e2]
  word_cmp

abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x256 .f32 := win0_11.stage (cfg0.slots t 11)
abbrev hs0_11 (t : Fin cfg0.N) : (ms0_11 t).IsWhole := hstage0_11 ((cfg0.slots t 11).cast nbuf0_11)

/-- The blocks the body finds at a point. -/
abbrev found (c : Dev nD) (t : Fin cfg0.N) : Blocks F where
  q := iblk m c 0 t
  k := iblk m c 1 t
  v := iblk m c 2 t
  c := iblk m c 3 t
  o := iblk m c 4 t
  l := iblk m c 5 t
  g := iblk m c 6 t

/-- An empty accumulator. -/
abbrev blank : Vec F S2048x256 .f32 := broadcast S2048x256 (Scalar.ofBits .f32 0x00000000#32)

/-- The query gradient as it stands after point `n`. -/
def dqAcc (c : Dev nD) : (n : ℕ) → n < cfg0.N → Vec F S2048x256 .f32
  | 0, h => dqOut (found m c ⟨0, h⟩) 0 blank
  | n + 1, h => dqOut (found m c ⟨n + 1, h⟩) ((n + 1) % 4) (if (n + 1) % 4 = 0 then blank else dqAcc c n (Nat.lt_of_succ_lt h))

/-- The row gradient as it stands after point `n`. -/
def drowAcc (c : Dev nD) : (n : ℕ) → n < cfg0.N → Vec F S2048x256 .f32
  | 0, h => drowOut (found m c ⟨0, h⟩) 0 blank
  | n + 1, h => drowOut (found m c ⟨n + 1, h⟩) ((n + 1) % 4) (if (n + 1) % 4 = 0 then blank else drowAcc c n (Nat.lt_of_succ_lt h))

theorem dqAcc_first (c : Dev nD) (n : ℕ) (h : n < cfg0.N) (h0 : n % 4 = 0) : dqAcc m c n h = dqOut (found m c ⟨n, h⟩) (n % 4) blank := by
  cases n with
  | zero => rfl
  | succ n => rw [dqAcc, if_pos h0]

theorem dqAcc_next (c : Dev nD) (n : ℕ) (h : n < cfg0.N) (h0 : n % 4 ≠ 0) : dqAcc m c n h = dqOut (found m c ⟨n, h⟩) (n % 4) (dqAcc m c (n - 1) (Nat.lt_of_le_of_lt (Nat.sub_le _ _) h)) := by
  cases n with
  | zero => exact absurd rfl h0
  | succ n => rw [dqAcc, if_neg h0]; rfl

theorem drowAcc_first (c : Dev nD) (n : ℕ) (h : n < cfg0.N) (h0 : n % 4 = 0) : drowAcc m c n h = drowOut (found m c ⟨n, h⟩) (n % 4) blank := by
  cases n with
  | zero => rfl
  | succ n => rw [drowAcc, if_pos h0]

theorem drowAcc_next (c : Dev nD) (n : ℕ) (h : n < cfg0.N) (h0 : n % 4 ≠ 0) : drowAcc m c n h = drowOut (found m c ⟨n, h⟩) (n % 4) (drowAcc m c (n - 1) (Nat.lt_of_le_of_lt (Nat.sub_le _ _) h)) := by
  cases n with
  | zero => exact absurd rfl h0
  | succ n => rw [drowAcc, if_neg h0]; rfl

/-- What the pipeline's arrays hold at the start, and what each window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAcc m c t.val t.isLt
    | ⟨8, _⟩ => dkOut (found m c t) (t.val % 4)
    | ⟨9, _⟩ => dvOut (found m c t) (t.val % 4)
    | ⟨10, _⟩ => drowAcc m c t.val t.isLt
    | ⟨11, _⟩ => dcolOut (found m c t) (t.val % 4)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAcc m c t.val t.isLt := by dsimp only [dats]
theorem after0_8 (c : Dev nD) (t : Fin cfg0.N) : (dats m 0 c).after 8 t = dkOut (found m c t) (t.val % 4) := by dsimp only [dats]
theorem after0_9 (c : Dev nD) (t : Fin cfg0.N) : (dats m 0 c).after 9 t = dvOut (found m c t) (t.val % 4) := by dsimp only [dats]
theorem after0_10 (c : Dev nD) (t : Fin cfg0.N) : (dats m 0 c).after 10 t = drowAcc m c t.val t.isLt := by dsimp only [dats]
theorem after0_11 (c : Dev nD) (t : Fin cfg0.N) : (dats m 0 c).after 11 t = dcolOut (found m c t) (t.val % 4) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a later key block the accumulator is as the point before left it. -/
theorem before0_7 (c : Dev nD) (t : Fin cfg0.N) (h0 : t.val % 4 ≠ 0) (d) :
    (dats m 0 c).before 7 t d = dqAcc m c (t.val - 1) (Nat.lt_of_le_of_lt (Nat.sub_le _ _) t.isLt) := by
  have ht : t.val ≠ 0 := fun h => h0 (by rw [h])
  refine ((dats m 0 c).before_out_kept 7 rfl t ht ?_ (fun _ => rfl) (fun _ _ => rfl) d).trans (after0_7 m c _)
  refine Bool.eq_false_iff.mpr fun hf => ?_
  have := (flush0_7 _).mp hf
  dsimp only at this
  omega
/-- At a later key block the accumulator is as the point before left it. -/
theorem before0_10 (c : Dev nD) (t : Fin cfg0.N) (h0 : t.val % 4 ≠ 0) (d) :
    (dats m 0 c).before 10 t d = drowAcc m c (t.val - 1) (Nat.lt_of_le_of_lt (Nat.sub_le _ _) t.isLt) := by
  have ht : t.val ≠ 0 := fun h => h0 (by rw [h])
  refine ((dats m 0 c).before_out_kept 10 rfl t ht ?_ (fun _ => rfl) (fun _ _ => rfl) d).trans (after0_10 m c _)
  refine Bool.eq_false_iff.mpr fun hf => ?_
  have := (flush0_10 _).mp hf
  dsimp only at this
  omega

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns at a point, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2400000 in
/-- The body at any point leaves what is named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  unfold owns
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, %g7, %e7, H7⟩, ⟨%d8, %g8, %e8, H8⟩, ⟨%d9, %g9, %e9, H9⟩, ⟨%d10, %g10, %e10, H10⟩, ⟨%d11, %g11, %e11, H11⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((first_iff t).mpr h0) (found m c t).q (found m c t).k (found m c t).v (found m c t).c (found m c t).o (found m c t).l (found m c t).g).2.2.2.2.2 Set.univ _ g7 g8 g9 g10 g11)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]
    · iexists _; isplitr; · ipureintro; exact (runA_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((first_iff t).mpr h0) (found m c t)).trans (by rw [coord2, dqAcc_first m c t.val t.isLt h0])
      iexact H7
    isplitl [H8]
    · iexists _; isplitr; · ipureintro; exact (runA_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((first_iff t).mpr h0) (found m c t) g8).trans (by rw [coord2])
      iexact H8
    isplitl [H9]
    · iexists _; isplitr; · ipureintro; exact (runA_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((first_iff t).mpr h0) (found m c t) g9).trans (by rw [coord2])
      iexact H9
    isplitl [H10]
    · iexists _; isplitr; · ipureintro; exact (runA_drow c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((first_iff t).mpr h0) (found m c t)).trans (by rw [coord2, drowAcc_first m c t.val t.isLt h0])
      iexact H10
    iexists _; isplitr; · ipureintro; exact (runA_dcol c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((first_iff t).mpr h0) (found m c t) g11).trans (by rw [coord2])
    iexact H11
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, %g7, %e7, H7⟩, ⟨%d8, %g8, %e8, H8⟩, ⟨%d9, %g9, %e9, H9⟩, ⟨%d10, %g10, %e10, H10⟩, ⟨%d11, %g11, %e11, H11⟩⟩
    rw [before0_7 m c t h0] at e7
    rw [before0_10 m c t h0] at e10
    obtain rfl := (hs0_7 t).eq_unread e7
    obtain rfl := (hs0_10 t).eq_unread e10
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((first_iff t).mp h)) (found m c t).q (found m c t).k (found m c t).v (found m c t).c (found m c t).o (found m c t).l (found m c t).g (dqAcc m c (t.val - 1) (Nat.lt_of_le_of_lt (Nat.sub_le _ _) t.isLt)) (drowAcc m c (t.val - 1) (Nat.lt_of_le_of_lt (Nat.sub_le _ _) t.isLt))).2.2.2.2.2 Set.univ _ g8 g9 g11)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]
    · iexists _; isplitr; · ipureintro; exact (runB_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((first_iff t).mp h)) (found m c t) (dqAcc m c (t.val - 1) (Nat.lt_of_le_of_lt (Nat.sub_le _ _) t.isLt)) (drowAcc m c (t.val - 1) (Nat.lt_of_le_of_lt (Nat.sub_le _ _) t.isLt))).trans (by rw [coord2, dqAcc_next m c t.val t.isLt h0])
      iexact H7
    isplitl [H8]
    · iexists _; isplitr; · ipureintro; exact (runB_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((first_iff t).mp h)) (found m c t) (dqAcc m c (t.val - 1) (Nat.lt_of_le_of_lt (Nat.sub_le _ _) t.isLt)) (drowAcc m c (t.val - 1) (Nat.lt_of_le_of_lt (Nat.sub_le _ _) t.isLt)) g8).trans (by rw [coord2])
      iexact H8
    isplitl [H9]
    · iexists _; isplitr; · ipureintro; exact (runB_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((first_iff t).mp h)) (found m c t) (dqAcc m c (t.val - 1) (Nat.lt_of_le_of_lt (Nat.sub_le _ _) t.isLt)) (drowAcc m c (t.val - 1) (Nat.lt_of_le_of_lt (Nat.sub_le _ _) t.isLt)) g9).trans (by rw [coord2])
      iexact H9
    isplitl [H10]
    · iexists _; isplitr; · ipureintro; exact (runB_drow c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((first_iff t).mp h)) (found m c t) (dqAcc m c (t.val - 1) (Nat.lt_of_le_of_lt (Nat.sub_le _ _) t.isLt)) (drowAcc m c (t.val - 1) (Nat.lt_of_le_of_lt (Nat.sub_le _ _) t.isLt))).trans (by rw [coord2, drowAcc_next m c t.val t.isLt h0])
      iexact H10
    iexists _; isplitr; · ipureintro; exact (runB_dcol c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((first_iff t).mp h)) (found m c t) (dqAcc m c (t.val - 1) (Nat.lt_of_le_of_lt (Nat.sub_le _ _) t.isLt)) (drowAcc m c (t.val - 1) (Nat.lt_of_le_of_lt (Nat.sub_le _ _) t.isLt)) g11).trans (by rw [coord2])
    iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with the arrays as named, and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The idealized kernel runs to its end, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Fox

end
-- ==== Proof.Printed.lean ====
/- The kernel as printed and its idealization differ in the number that masks a score, which the idealization names.
   With every name read as the bits it stands for, the two are one program, and what was shown of the runs of the one,
   at any reading of its numbers, holds of the other's. -/
module

public import proofs.«01_k».proof.Proof.Gen.Kernel
public import proofs.«01_k».proof.Proof.Body
public import Idealize.ShloMosaic.PureOps.BitExact

@[expose] public section

set_option maxRecDepth 65536
set_option maxHeartbeats 4000000

noncomputable section

namespace Cert.Printed

open Idealize.ShloMosaic Idealize.ShloMosaic.TcCoe Idealize.SL.Sem

/-- Every named number read as its bits. -/
@[reducible] def asWritten : Named Bits := ⟨fun _ _ _ bits => Scalar.ofBits _ bits⟩
attribute [local instance] asWritten

theorem body_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => with_unfolding_all rfl

theorem defs_eq : Cert.Kernel.defs (F := Bits) = Cert.KernelIdeal.defs (F := Bits) := by
  unfold Cert.Kernel.defs Cert.KernelIdeal.defs
  exact congrArg (Pipeline.defs Cert.KernelIdeal.pcfgs) body_eq

theorem main_eq : Cert.Kernel.main (F := Bits) = Cert.KernelIdeal.main (F := Bits) := by
  with_unfolding_all rfl

variable (m : (ℓ : Loc Cert.Kernel.nD Cert.Kernel.τ Cert.Kernel.sig) → Buf (Elt Bits) ℓ) (g : Dev Cert.Kernel.nD → PrngReg)

/-- The printed kernel runs to its end, its arguments unchanged and its counters at zero. -/
theorem frame : θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  have h : ∀ D M, D = Cert.KernelIdeal.defs (F := Bits) → M = Cert.KernelIdeal.main (F := Bits) →
      θ_run D (onTc (τ := Cert.KernelIdeal.τ) M) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by
    intro D M hD hM
    subst hD hM
    exact Cert.KernelIdeal.Fox.frame m g
  exact h _ _ defs_eq main_eq

end Cert.Printed

end
-- ==== Proof.Math.lean ====
/- Causal attention with forget gates over the real numbers: one head's weights, result and gradients, and the sums a tiled sweep makes of them. -/
module

public import Idealize.ShloMosaic.Lib.Pointwise
public import Idealize.ShloMosaic.Lib.IdealHost
public import Idealize.ShloMosaic.Lib.Pipeline.ValueKit

@[expose] public section

noncomputable section

namespace Fox

open Finset

/-- One head of one sequence: queries, keys, values, cotangent by row and lane, cumulative gates by row. -/
structure Head where
  q : ℕ → ℕ → ℝ
  k : ℕ → ℕ → ℝ
  v : ℕ → ℕ → ℝ
  g : ℕ → ℕ → ℝ
  c : ℕ → ℝ

namespace Head

variable (H : Head)

/-- Score of query `i` against key `j`. -/
def s (i j : ℕ) : ℝ := ∑ d ∈ range 64, H.q i d * (1 / 8) * H.k j d - H.c j
/-- The weight of key `j` before normalisation, zero after the query. -/
def e (i j : ℕ) : ℝ := if j ≤ i then Real.exp (H.s i j) else 0
def Z (i : ℕ) : ℝ := ∑ j ∈ range 2048, H.e i j
/-- Attention weight. -/
def p (i j : ℕ) : ℝ := H.e i j / H.Z i
/-- Attention result. -/
def o (i d : ℕ) : ℝ := ∑ j ∈ range 2048, H.p i j * H.v j d
/-- Gradient of the weights. -/
def dp (i j : ℕ) : ℝ := ∑ d ∈ range 64, H.g i d * H.v j d
def delta (i : ℕ) : ℝ := ∑ d ∈ range 64, H.g i d * H.o i d
/-- Gradient of the scores. -/
def ds (i j : ℕ) : ℝ := H.p i j * (H.dp i j - H.delta i)

def dq (i d : ℕ) : ℝ := ∑ j ∈ range 2048, H.ds i j * (H.k j d * (1 / 8))
def dk (j d : ℕ) : ℝ := ∑ i ∈ range 2048, H.ds i j * (H.q i d * (1 / 8))
def dv (j d : ℕ) : ℝ := ∑ i ∈ range 2048, H.p i j * H.g i d
def drow (i : ℕ) : ℝ := ∑ j ∈ range 2048, H.ds i j
def dcol (j : ℕ) : ℝ := ∑ i ∈ range 2048, H.ds i j

theorem e_nonneg (i j : ℕ) : 0 ≤ H.e i j := by
  unfold e; split
  · exact (Real.exp_pos _).le
  · exact le_rfl

theorem Z_pos (i : ℕ) : 0 < H.Z i := by
  refine Finset.sum_pos' (fun j _ => H.e_nonneg i j) ⟨0, by simp, ?_⟩
  unfold e; rw [if_pos (Nat.zero_le _)]; exact Real.exp_pos _

theorem p_of_lt {i j : ℕ} (h : i < j) : H.p i j = 0 := by
  unfold p e; rw [if_neg (by omega), zero_div]

theorem ds_of_lt {i j : ℕ} (h : i < j) : H.ds i j = 0 := by
  unfold ds; rw [H.p_of_lt h, zero_mul]

/-- A weight by the log of its row's sum. -/
theorem p_eq_exp {i j : ℕ} (h : j ≤ i) : Real.exp (H.s i j - Real.log (H.Z i)) = H.p i j := by
  rw [Real.exp_sub, Real.exp_log (H.Z_pos i)]; unfold p e; rw [if_pos h]

/-- The row's cotangent against its result is its cotangent against the weights. -/
theorem delta_eq (i : ℕ) : H.delta i = ∑ j ∈ range 2048, H.p i j * H.dp i j := by
  unfold delta o dp
  simp only [mul_sum]
  rw [sum_comm]
  exact sum_congr rfl fun j _ => sum_congr rfl fun d _ => by ring

end Head

/-- A sum over 2048 rows, 512 at a time. -/
theorem sum_blocks (f : ℕ → ℝ) : ∑ i ∈ range 2048, f i = ∑ a ∈ range 4, ∑ r ∈ range 512, f (512 * a + r) := by
  simp only [show range 4 = {0, 1, 2, 3} from rfl]
  rw [sum_insert (by decide), sum_insert (by decide), sum_insert (by decide), sum_singleton,
    show (2048 : ℕ) = 512 + 512 + 512 + 512 from rfl, sum_range_add, sum_range_add, sum_range_add]
  simp only [mul_zero, zero_add, mul_one]
  ring

/-- A sum of real numbers is their real sum. -/
theorem coe_sum (n : ℕ) (f : Fin n → EReal) (F : ℕ → ℝ) (h : ∀ k : Fin n, f k = ((F k.val : ℝ) : EReal)) :
    ∑ k : Fin n, f k = ((∑ k ∈ range n, F k : ℝ) : EReal) := by
  rw [← Fin.sum_univ_eq_sum_range, sum_congr rfl fun k _ => h k]
  exact (map_sum (⟨⟨((↑) : ℝ → EReal), EReal.coe_zero⟩, EReal.coe_add⟩ : ℝ →+ EReal) _ _).symm

/-- A number that is neither infinity is a real number. -/
theorem coe_of_abs_lt {x : EReal} (h : x ≠ ⊥) (h' : x ≠ ⊤) : x = ((x.toReal : ℝ) : EReal) := (EReal.coe_toReal h' h).symm

/-- A sum over 128 lanes that vanishes off one half. -/
theorem sum_half (w : Bool) (f : ℕ → ℝ) :
    ∑ l ∈ range 128, (if l / 64 = w.toNat then f l else 0) = ∑ d ∈ range 64, f (64 * w.toNat + d) := by
  rw [show (128 : ℕ) = 64 + 64 from rfl, sum_range_add]
  have e0 : ∀ d ∈ range 64, d / 64 = 0 := fun d hd => by have := mem_range.mp hd; omega
  have e1 : ∀ d ∈ range 64, (64 + d) / 64 = 1 := fun d hd => by have := mem_range.mp hd; omega
  cases w
  · rw [sum_congr rfl fun d hd => by rw [e0 d hd], sum_congr (s₁ := range 64) (f := fun x => if (64 + x) / 64 = _ then f (64 + x) else 0) rfl fun d hd => by rw [e1 d hd]]
    simp
  · rw [sum_congr rfl fun d hd => by rw [e0 d hd], sum_congr (s₁ := range 64) (f := fun x => if (64 + x) / 64 = _ then f (64 + x) else 0) rfl fun d hd => by rw [e1 d hd]]
    simp

/-- The greatest of finitely many numbers, each real or −∞ and one of them real, is real. -/
theorem fold_max_real (n : ℕ) (f : Fin n → EReal) (hf : ∀ k, f k ≠ ⊤) (k₀ : Fin n) (h₀ : f k₀ ≠ ⊥) :
    ∃ M : ℝ, Finset.univ.fold max (⊥ : EReal) f = ((M : ℝ) : EReal) := by
  have hb : Finset.univ.fold max (⊥ : EReal) f ≠ ⊥ := fun h => by
    have : f k₀ ≤ Finset.univ.fold max (⊥ : EReal) f := (Finset.le_fold_max (f k₀)).mpr (.inr ⟨k₀, mem_univ _, le_rfl⟩)
    rw [h] at this; exact h₀ (le_bot_iff.mp this)
  have ht : Finset.univ.fold max (⊥ : EReal) f ≠ ⊤ := fun h => by
    have : Finset.univ.fold max (⊥ : EReal) f < ⊤ := (Finset.fold_max_lt ⊤).mpr ⟨bot_lt_top, fun k _ => lt_top_iff_ne_top.mpr (hf k)⟩
    rw [h] at this; exact lt_irrefl _ this
  exact ⟨_, coe_of_abs_lt hb ht⟩

open Idealize.ShloMosaic in
theorem ofBits_eighth_bf16 : Ideal.ofBits .bf16 0x3E00#16 = (((1 : ℝ) / 8 : ℝ) : EReal) := by
  simp [Ideal.ofBits, Ideal.ieee, -EReal.coe_mul]
  norm_num

open Idealize.ShloMosaic in
theorem ofBits_eighth_f32 : Ideal.ofBits .f32 0x3E000000#32 = (((1 : ℝ) / 8 : ℝ) : EReal) := by
  simp [Ideal.ofBits, Ideal.ieee, -EReal.coe_mul]
  norm_num

open Idealize.ShloMosaic in
theorem exp_coe (x : ℝ) : Ideal.exp ((x : ℝ) : EReal) = ((Real.exp x : ℝ) : EReal) := rfl

open Idealize.ShloMosaic in
theorem exp_bot : Ideal.exp ⊥ = 0 := rfl

end Fox
-- ==== Proof.Values.lean ====
/- The values of a tile's payloads over the real numbers: what each of the kernel's tile functions computes when the
   blocks it reads hold real numbers. -/
module

public import proofs.«01_k».proof.Proof.Outs
public import proofs.«01_k».proof.Proof.Math

@[expose] public section

set_option maxRecDepth 16384

noncomputable section

namespace Cert.KernelIdeal.Fox

open Idealize.ShloMosaic
open Cert.KernelIdeal.Gen
open Finset (range sum_congr)

/-- The lanes of a head are its half of the pair's. -/
theorem mine_at (h : Bool) (x : Fin 128) : mine h (ix2 0 x) = if x.val / 64 = h.toNat then 1#1 else 0#1 := by
  cases h <;> unfold mine <;> unfold_payloads <;> pointwise <;> revert x <;> decide +kernel

theorem sel_mine {α : Type} (h : Bool) (x : Fin 128) (a b : α) : Scalar.select (mine h (ix2 0 x)) a b = if x.val / 64 = h.toNat then a else b := by
  rw [mine_at]; split <;> rfl

theorem sel_first {α : Type} (h : Bool) (x : Fin 128) (a b : α) :
    Scalar.select (IntOp.cmpi CmpIPredicate.eq (BitVec.ofNat 32 x.val) (match h with | false => 0#32 | true => 64#32)) a b = if x.val = 64 * h.toNat then a else b := by
  have e : IntOp.cmpi CmpIPredicate.eq (BitVec.ofNat 32 x.val) (match h with | false => 0#32 | true => 64#32) = if x.val = 64 * h.toNat then 1#1 else 0#1 := by
    cases h <;> revert x <;> decide +kernel
  rw [e]; split <;> rfl

theorem score_real (h : Bool) (q k : FVec Ideal S512x128 .bf16) (c : FVec Ideal S1x1x1x512 .f32) (Q K : ℕ → ℕ → ℝ) (C : ℕ → ℝ)
    (hq : ∀ (r : Fin 512) (x : Fin 128), q (ix2 r x) = ((Q r.val x.val : ℝ) : EReal))
    (hk : ∀ (r : Fin 512) (x : Fin 128), k (ix2 r x) = ((K r.val x.val : ℝ) : EReal))
    (hc : ∀ s : Fin 512, c (ix4 0 0 0 s) = ((C s.val : ℝ) : EReal)) (r s : Fin 512) :
    scoreT h q k c (ix2 r s)
      = ((∑ d ∈ range 64, Q r.val (64 * h.toNat + d) * (1 / 8) * K s.val (64 * h.toNat + d) - C s.val : ℝ) : EReal) := by
  pointwise [scoreT, only, eighth, wide]
  rw [_root_.Fox.coe_sum 128 _ (fun x => if x / 64 = h.toNat then Q r.val x * (1 / 8) * K s.val x else 0), _root_.Fox.sum_half h, hc, EReal.coe_sub]
  intro x
  rw [sel_mine, hq, hk, _root_.Fox.ofBits_eighth_bf16, ← EReal.coe_mul, ← EReal.coe_mul]
  split <;> simp

theorem mask_real (x : FVec Ideal S512x512 .f32) (r s : Fin 512) :
    maskT x (ix2 r s) = if s.val ≤ r.val then x (ix2 r s) else (⊥ : EReal) := by
  have e : ∀ a b : ℕ, a < 512 → b < 512 → IntOp.cmpi CmpIPredicate.sge (BitVec.ofNat 32 a) (BitVec.ofNat 32 b) = if b ≤ a then 1#1 else 0#1 := by
    intro a b ha hb
    by_cases h : b ≤ a
    · rw [if_pos h]; word_cmp
    · rw [if_neg h]; word_cmp
  unfold maskT
  unfold_payloads
  pointwise
  rw [e _ _ r.isLt s.isLt]
  split <;> rfl

theorem prob_real (h : Bool) (x : FVec Ideal S512x512 .f32) (l : FVec Ideal S512x128 .f32) (L : ℕ → ℕ → ℝ)
    (hl : ∀ (r : Fin 512) (x : Fin 128), l (ix2 r x) = ((L r.val x.val : ℝ) : EReal)) (r s : Fin 512) :
    probT h x l (ix2 r s) = Ideal.exp (x (ix2 r s) - ((L r.val (64 * h.toNat) : ℝ) : EReal)) := by
  pointwise [probT, laneSum, wide, at0]
  rw [_root_.Fox.coe_sum 128 _ (fun x => if x = 64 * h.toNat then L r.val x else 0)]
  · congr 3
    rw [Finset.sum_ite_eq' (range 128)]
    rw [if_pos (Finset.mem_range.mpr (by cases h <;> decide))]
  · intro x
    refine (sel_first h x _ _).trans ?_
    rw [hl]
    split <;> simp

theorem grad_real (h : Bool) (p : FVec Ideal S512x512 .f32) (g o v : FVec Ideal S512x128 .bf16) (P G O V : ℕ → ℕ → ℝ)
    (hp : ∀ r s : Fin 512, p (ix2 r s) = ((P r.val s.val : ℝ) : EReal))
    (hg : ∀ (r : Fin 512) (x : Fin 128), g (ix2 r x) = ((G r.val x.val : ℝ) : EReal))
    (ho : ∀ (r : Fin 512) (x : Fin 128), o (ix2 r x) = ((O r.val x.val : ℝ) : EReal))
    (hv : ∀ (r : Fin 512) (x : Fin 128), v (ix2 r x) = ((V r.val x.val : ℝ) : EReal)) (r s : Fin 512) :
    gradT h p g o v (ix2 r s)
      = ((P r.val s.val * (∑ d ∈ range 64, G r.val (64 * h.toNat + d) * V s.val (64 * h.toNat + d)
          - ∑ d ∈ range 64, G r.val (64 * h.toNat + d) * O r.val (64 * h.toNat + d)) : ℝ) : EReal) := by
  pointwise [gradT, laneSum, wide, only]
  rw [_root_.Fox.coe_sum 128 _ (fun x => if x / 64 = h.toNat then G r.val x * V s.val x else 0),
    _root_.Fox.coe_sum 128 _ (fun x => if x / 64 = h.toNat then G r.val x * O r.val x else 0), _root_.Fox.sum_half h, _root_.Fox.sum_half h, hp, ← EReal.coe_sub, ← EReal.coe_mul]
  · intro x
    rw [sel_mine, hg, ho, ← EReal.coe_mul]
    split <;> simp
  · intro x
    rw [sel_mine, hg, hv, ← EReal.coe_mul]
    split <;> simp

theorem dk_real (h : Bool) (p : FVec Ideal S512x512 .bf16) (q : FVec Ideal S512x128 .bf16) (P Q : ℕ → ℕ → ℝ)
    (hp : ∀ r s : Fin 512, p (ix2 r s) = ((P r.val s.val : ℝ) : EReal))
    (hq : ∀ (r : Fin 512) (x : Fin 128), q (ix2 r x) = ((Q r.val x.val : ℝ) : EReal)) (s : Fin 512) (x : Fin 128) :
    dkT h p q (ix2 s x) = ((∑ r ∈ range 512, P r s.val * (if x.val / 64 = h.toNat then Q r x.val * (1 / 8) else 1) : ℝ) : EReal) := by
  pointwise [dkT, ones, wide, eighth, k0_pay109]
  refine _root_.Fox.coe_sum 512 _ (fun r => P r s.val * (if x.val / 64 = h.toNat then Q r x.val * (1 / 8) else 1)) fun r => ?_
  rw [sel_mine, hp, hq, _root_.Fox.ofBits_eighth_bf16, ← EReal.coe_mul, EReal.coe_mul]
  split <;> rfl

theorem dv_real (h : Bool) (p : FVec Ideal S512x512 .f32) (g : FVec Ideal S512x128 .bf16) (P G : ℕ → ℕ → ℝ)
    (hp : ∀ r s : Fin 512, p (ix2 r s) = ((P r.val s.val : ℝ) : EReal))
    (hg : ∀ (r : Fin 512) (x : Fin 128), g (ix2 r x) = ((G r.val x.val : ℝ) : EReal)) (s : Fin 512) (x : Fin 128) :
    dvT h p g (ix2 s x) = ((∑ r ∈ range 512, (if x.val / 64 = h.toNat then P r s.val * G r x.val else 0) : ℝ) : EReal) := by
  pointwise [dvT, only, wide]
  refine _root_.Fox.coe_sum 512 _ (fun r => if x.val / 64 = h.toNat then P r s.val * G r x.val else 0) fun r => ?_
  rw [sel_mine, hp, hg, ← EReal.coe_mul]
  split <;> simp

theorem dq_real (h : Bool) (p : FVec Ideal S512x512 .bf16) (k : FVec Ideal S512x128 .bf16) (P K : ℕ → ℕ → ℝ)
    (hp : ∀ r s : Fin 512, p (ix2 r s) = ((P r.val s.val : ℝ) : EReal))
    (hk : ∀ (r : Fin 512) (x : Fin 128), k (ix2 r x) = ((K r.val x.val : ℝ) : EReal)) (r : Fin 512) (x : Fin 128) :
    dqT h p k (ix2 r x) = ((∑ s ∈ range 512, P r.val s * (if x.val / 64 = h.toNat then K s x.val * (1 / 8) else 1) : ℝ) : EReal) := by
  pointwise [dqT, ones, wide, eighth, k0_pay109]
  refine _root_.Fox.coe_sum 512 _ (fun s => P r.val s * (if x.val / 64 = h.toNat then K s x.val * (1 / 8) else 1)) fun s => ?_
  rw [sel_mine, hp, hk, _root_.Fox.ofBits_eighth_bf16, ← EReal.coe_mul, EReal.coe_mul]
  split <;> rfl

end Cert.KernelIdeal.Fox

end
-- ==== Proof.Sums.lean ====
/- What a grid point's outputs hold over the real numbers: the sums over one key block of the gradients of the four
   heads it works on. -/
module

public import proofs.«01_k».proof.Proof.Values

@[expose] public section

set_option maxRecDepth 16384

noncomputable section

namespace Cert.KernelIdeal.Fox

open Idealize.ShloMosaic
open Cert.KernelIdeal.Gen
open Finset (range sum_congr)

/-- The blocks `X` hold the rows of the four heads `H` (the keys', values' and gates' those of key block `kb`), and
    what their forward pass gave. -/
structure Reads (X : Blocks Ideal) (H : ℕ → _root_.Fox.Head) (kb : ℕ) : Prop where
  q : ∀ (i : Fin 2048) (l : Fin 256), X.q (ix2 i l) = (((H (l.val / 64)).q i.val (l.val % 64) : ℝ) : EReal)
  k : ∀ (s : Fin 512) (l : Fin 256), X.k (ix2 s l) = (((H (l.val / 64)).k (512 * kb + s.val) (l.val % 64) : ℝ) : EReal)
  v : ∀ (s : Fin 512) (l : Fin 256), X.v (ix2 s l) = (((H (l.val / 64)).v (512 * kb + s.val) (l.val % 64) : ℝ) : EReal)
  c : ∀ (w : Fin 4) (s : Fin 512), X.c (ix4 w 0 0 s) = (((H w.val).c (512 * kb + s.val) : ℝ) : EReal)
  o : ∀ (i : Fin 2048) (l : Fin 256), X.o (ix2 i l) = (((H (l.val / 64)).o i.val (l.val % 64) : ℝ) : EReal)
  l : ∀ (i : Fin 2048) (l : Fin 256), X.l (ix2 i l) = ((Real.log ((H (l.val / 64)).Z i.val) : ℝ) : EReal)
  g : ∀ (i : Fin 2048) (l : Fin 256), X.g (ix2 i l) = (((H (l.val / 64)).g i.val (l.val % 64) : ℝ) : EReal)

theorem rows_real (x : S2048x256.Idx → EReal) (f : ℕ → ℕ → ℝ) (hx : ∀ (i : Fin 2048) (l : Fin 256), x (ix2 i l) = ((f i.val l.val : ℝ) : EReal))
    (a p : ℕ) (ha : a < 4) (hp : p < 2) (r : Fin 512) (y : Fin 128) : rows x a p (ix2 r y) = ((f (512 * a + r.val) (128 * p + y.val) : ℝ) : EReal) := by
  have e0 : (512 * a + r.val) % 2048 = 512 * a + r.val := Nat.mod_eq_of_lt (by have := r.isLt; omega)
  have e1 : (128 * p + y.val) % 256 = 128 * p + y.val := Nat.mod_eq_of_lt (by have := y.isLt; omega)
  refine (hx _ _).trans ?_
  show ((f ((512 * a + r.val) % 2048) ((128 * p + y.val) % 256) : ℝ) : EReal) = _
  rw [e0, e1]

theorem cols_real (x : S512x256.Idx → EReal) (f : ℕ → ℕ → ℝ) (hx : ∀ (i : Fin 512) (l : Fin 256), x (ix2 i l) = ((f i.val l.val : ℝ) : EReal))
    (p : ℕ) (hp : p < 2) (r : Fin 512) (y : Fin 128) : cols x p (ix2 r y) = ((f r.val (128 * p + y.val) : ℝ) : EReal) := by
  have e1 : (128 * p + y.val) % 256 = 128 * p + y.val := Nat.mod_eq_of_lt (by have := y.isLt; omega)
  refine (hx r _).trans ?_
  show ((f r.val ((128 * p + y.val) % 256) : ℝ) : EReal) = _
  rw [e1]

theorem lane_div (p d : ℕ) (h : Bool) (hd : d < 64) : (128 * p + (64 * h.toNat + d)) / 64 = 2 * p + h.toNat := by omega
theorem lane_mod (p d : ℕ) (h : Bool) (hd : d < 64) : (128 * p + (64 * h.toNat + d)) % 64 = d := by omega
theorem toNat_le (h : Bool) : h.toNat ≤ 1 := by cases h <;> decide

section
variable {X : Blocks Ideal} {H : ℕ → _root_.Fox.Head} {kb : ℕ} (R : Reads X H kb)
include R

theorem score_at (a p : ℕ) (ha : a < 4) (hp : p < 2) (h : Bool) (r s : Fin 512) :
    scoreT (F := Ideal) h (rows X.q a p) (cols X.k p) (gates X.c (2 * p + h.toNat)) (ix2 r s)
      = (((H (2 * p + h.toNat)).s (512 * a + r.val) (512 * kb + s.val) : ℝ) : EReal) := by
  rw [score_real h _ _ _ (fun r x => (H ((128 * p + x) / 64)).q (512 * a + r) ((128 * p + x) % 64)) (fun r x => (H ((128 * p + x) / 64)).k (512 * kb + r) ((128 * p + x) % 64)) (fun s => (H (2 * p + h.toNat)).c (512 * kb + s)) (rows_real X.q (fun i l => (H (l / 64)).q i (l % 64)) R.q a p ha hp)
    (cols_real X.k (fun i l => (H (l / 64)).k (512 * kb + i) (l % 64)) R.k p hp)]
  · unfold _root_.Fox.Head.s
    congr 2
    refine sum_congr rfl fun d hd => ?_
    rw [lane_div p d h (Finset.mem_range.mp hd), lane_mod p d h (Finset.mem_range.mp hd)]
  · intro s
    have e : (2 * p + h.toNat) % 4 = 2 * p + h.toNat := Nat.mod_eq_of_lt (by have := toNat_le h; omega)
    refine (R.c _ s).trans ?_
    show (((H ((2 * p + h.toNat) % 4)).c _ : ℝ) : EReal) = _
    rw [e]

theorem wgt_at (b : Bool) (a p : ℕ) (ha : a < 4) (hp : p < 2) (hb : b = true → a = kb) (hf : b = false → kb < a) (h : Bool) (r s : Fin 512) :
    wgt X b a p h (ix2 r s) = (((H (2 * p + h.toNat)).p (512 * a + r.val) (512 * kb + s.val) : ℝ) : EReal) := by
  have hr := r.isLt
  have hs := s.isLt
  unfold wgt
  rw [prob_real h _ _ (fun r x => Real.log ((H ((128 * p + x) / 64)).Z (512 * a + r))) (rows_real X.l (fun i l => Real.log ((H (l / 64)).Z i)) R.l a p ha hp)]
  have e : (128 * p + 64 * h.toNat) / 64 = 2 * p + h.toNat := by omega
  rw [e]
  cases b
  · have := hf rfl
    rw [scr, score_at R a p ha hp, ← EReal.coe_sub, _root_.Fox.exp_coe, _root_.Fox.Head.p_eq_exp _ (by omega)]
  · have := hb rfl
    rw [scr, mask_real]
    split
    · rw [score_at R a p ha hp, ← EReal.coe_sub, _root_.Fox.exp_coe, _root_.Fox.Head.p_eq_exp _ (by omega)]
    · rw [EReal.bot_sub, _root_.Fox.exp_bot, _root_.Fox.Head.p_of_lt _ (by omega), EReal.coe_zero]

theorem grd_at (b : Bool) (a p : ℕ) (ha : a < 4) (hp : p < 2) (hb : b = true → a = kb) (hf : b = false → kb < a) (h : Bool) (r s : Fin 512) :
    grd X b a p h (ix2 r s) = (((H (2 * p + h.toNat)).ds (512 * a + r.val) (512 * kb + s.val) : ℝ) : EReal) := by
  unfold grd
  rw [grad_real h _ _ _ _ (fun r s => (H (2 * p + h.toNat)).p (512 * a + r) (512 * kb + s)) (fun r x => (H ((128 * p + x) / 64)).g (512 * a + r) ((128 * p + x) % 64)) (fun r x => (H ((128 * p + x) / 64)).o (512 * a + r) ((128 * p + x) % 64)) (fun r x => (H ((128 * p + x) / 64)).v (512 * kb + r) ((128 * p + x) % 64)) (wgt_at R b a p ha hp hb hf h)
    (rows_real X.g (fun i l => (H (l / 64)).g i (l % 64)) R.g a p ha hp)
    (rows_real X.o (fun i l => (H (l / 64)).o i (l % 64)) R.o a p ha hp)
    (cols_real X.v (fun i l => (H (l / 64)).v (512 * kb + i) (l % 64)) R.v p hp)]
  unfold _root_.Fox.Head.ds _root_.Fox.Head.dp _root_.Fox.Head.delta
  congr 3 <;> refine sum_congr rfl fun d hd => ?_ <;>
    rw [lane_div p d h (Finset.mem_range.mp hd), lane_mod p d h (Finset.mem_range.mp hd)]

theorem tdq_at (b : Bool) (a p : ℕ) (ha : a < 4) (hp : p < 2) (hb : b = true → a = kb) (hf : b = false → kb < a) (h : Bool) (r : Fin 512) (x : Fin 128) :
    tdq X b a p h (ix2 r x) = ((∑ s ∈ range 512, (H (2 * p + h.toNat)).ds (512 * a + r.val) (512 * kb + s)
      * (if x.val / 64 = h.toNat then (H (2 * p + x.val / 64)).k (512 * kb + s) (x.val % 64) * (1 / 8) else 1) : ℝ) : EReal) := by
  unfold tdq
  rw [dq_real h _ _ (fun r s => (H (2 * p + h.toNat)).ds (512 * a + r) (512 * kb + s)) (fun r x => (H ((128 * p + x) / 64)).k (512 * kb + r) ((128 * p + x) % 64)) (grd_at R b a p ha hp hb hf h)
    (cols_real X.k (fun i l => (H (l / 64)).k (512 * kb + i) (l % 64)) R.k p hp)]
  have e0 : (128 * p + x.val) / 64 = 2 * p + x.val / 64 := by omega
  have e1 : (128 * p + x.val) % 64 = x.val % 64 := by omega
  rw [e0, e1]

theorem tdk_at (b : Bool) (a p : ℕ) (ha : a < 4) (hp : p < 2) (hb : b = true → a = kb) (hf : b = false → kb < a) (h : Bool) (s : Fin 512) (x : Fin 128) :
    tdk X b a p h (ix2 s x) = ((∑ r ∈ range 512, (H (2 * p + h.toNat)).ds (512 * a + r) (512 * kb + s.val)
      * (if x.val / 64 = h.toNat then (H (2 * p + x.val / 64)).q (512 * a + r) (x.val % 64) * (1 / 8) else 1) : ℝ) : EReal) := by
  unfold tdk
  rw [dk_real h _ _ (fun r s => (H (2 * p + h.toNat)).ds (512 * a + r) (512 * kb + s)) (fun r x => (H ((128 * p + x) / 64)).q (512 * a + r) ((128 * p + x) % 64)) (grd_at R b a p ha hp hb hf h)
    (rows_real X.q (fun i l => (H (l / 64)).q i (l % 64)) R.q a p ha hp)]
  have e0 : (128 * p + x.val) / 64 = 2 * p + x.val / 64 := by omega
  have e1 : (128 * p + x.val) % 64 = x.val % 64 := by omega
  rw [e0, e1]

theorem tdv_at (b : Bool) (a p : ℕ) (ha : a < 4) (hp : p < 2) (hb : b = true → a = kb) (hf : b = false → kb < a) (h : Bool) (s : Fin 512) (x : Fin 128) :
    tdv X b a p h (ix2 s x) = ((∑ r ∈ range 512, (if x.val / 64 = h.toNat then (H (2 * p + h.toNat)).p (512 * a + r) (512 * kb + s.val)
      * (H (2 * p + x.val / 64)).g (512 * a + r) (x.val % 64) else 0) : ℝ) : EReal) := by
  unfold tdv
  rw [dv_real h _ _ (fun r s => (H (2 * p + h.toNat)).p (512 * a + r) (512 * kb + s)) (fun r x => (H ((128 * p + x) / 64)).g (512 * a + r) ((128 * p + x) % 64)) (wgt_at R b a p ha hp hb hf h)
    (rows_real X.g (fun i l => (H (l / 64)).g i (l % 64)) R.g a p ha hp)]
  have e0 : (128 * p + x.val) / 64 = 2 * p + x.val / 64 := by omega
  have e1 : (128 * p + x.val) % 64 = x.val % 64 := by omega
  rw [e0, e1]

theorem own_at (b : Bool) (a p : ℕ) (ha : a < 4) (hp : p < 2) (hb : b = true → a = kb) (hf : b = false → kb < a) (r : Fin 512) (x : Fin 128) :
    own X b a p (ix2 r x) = ((∑ s ∈ range 512, (H (2 * p + x.val / 64)).ds (512 * a + r.val) (512 * kb + s)
      * ((H (2 * p + x.val / 64)).k (512 * kb + s) (x.val % 64) * (1 / 8)) : ℝ) : EReal) := by
  have hx := x.isLt
  have e : own X b a p (ix2 r x) = Scalar.select (mine false (ix2 0 x)) (tdq X b a p false (ix2 r x)) (tdq X b a p true (ix2 r x)) := by
    pointwise [own, wide, mine]
  rw [e, sel_mine, tdq_at R b a p ha hp hb hf, tdq_at R b a p ha hp hb hf]
  by_cases h0 : x.val / 64 = 0
  · simp [h0]
  · have h1 : x.val / 64 = 1 := by omega
    simp [h1]

theorem mate_at (b : Bool) (a p : ℕ) (ha : a < 4) (hp : p < 2) (hb : b = true → a = kb) (hf : b = false → kb < a) (r : Fin 512) (x : Fin 128) :
    mate X b a p (ix2 r x) = ((∑ s ∈ range 512, (H (2 * p + (1 - x.val / 64))).ds (512 * a + r.val) (512 * kb + s) : ℝ) : EReal) := by
  have hx := x.isLt
  have e : mate X b a p (ix2 r x) = Scalar.select (mine false (ix2 0 x)) (tdq X b a p true (ix2 r x)) (tdq X b a p false (ix2 r x)) := by
    pointwise [mate, wide, mine]
  rw [e, sel_mine, tdq_at R b a p ha hp hb hf, tdq_at R b a p ha hp hb hf]
  by_cases h0 : x.val / 64 = 0
  · simp [h0]
  · have h1 : x.val / 64 = 1 := by omega
    simp [h1]
end

theorem bumpN_apply (D : ℕ → ℕ → FVec Ideal S512x128 .f32) (kb : ℕ) (y : Vec Ideal S2048x256 .f32) (i : Fin 2048) (l : Fin 256) (n : ℕ) :
    bumpN D kb y n (ix2 i l) = if kb < i.val / 512 ∧ i.val / 512 ≤ kb + n
      then y (ix2 i l) + D (i.val / 512) (l.val / 128) (ix2 ⟨i.val % 512, Nat.mod_lt _ (by decide)⟩ ⟨l.val % 128, Nat.mod_lt _ (by decide)⟩)
      else y (ix2 i l) := by
  induction n with
  | zero => rw [if_neg (by omega)]; rfl
  | succ n ih =>
    show bump _ _ _ (ix2 i l) = _
    unfold bump
    show (if i.val / 512 = kb + n + 1 then FloatOps.addf (bumpN D kb y n (ix2 i l)) (D (kb + n + 1) (l.val / 128) (ix2 ⟨i.val % 512, _⟩ ⟨l.val % 128, _⟩)) else bumpN D kb y n (ix2 i l)) = _
    by_cases h : i.val / 512 = kb + n + 1
    · rw [if_pos h, ih, if_neg (by omega), if_pos (by omega), h]; rfl
    · rw [if_neg h, ih]
      by_cases h' : kb < i.val / 512 ∧ i.val / 512 ≤ kb + n
      · rw [if_pos h', if_pos (by omega)]
      · rw [if_neg h', if_neg (by omega)]

/-- One key block added to a whole-sequence result, over the real numbers. -/
theorem bumped (D : Bool → ℕ → ℕ → FVec Ideal S512x128 .f32) (f : ℕ → ℕ → ℝ) (kb : ℕ) (hkb : kb < 4)
    (hD : ∀ (b : Bool) (a p : ℕ), a < 4 → p < 2 → (b = true → a = kb) → (b = false → kb < a) → ∀ (r : Fin 512) (x : Fin 128),
      D b a p (ix2 r x) = ((f (512 * a + r.val) (128 * p + x.val) : ℝ) : EReal))
    (hz : ∀ i l, i < 512 * kb → f i l = 0) (y : Vec Ideal S2048x256 .f32) (Y : ℝ) (i : Fin 2048) (l : Fin 256) (hy : y (ix2 i l) = ((Y : ℝ) : EReal)) :
    bumpN (D false) kb (bump kb (D true kb) y) (3 - kb) (ix2 i l) = ((Y + f i.val l.val : ℝ) : EReal) := by
  have hi := i.isLt
  have hl := l.isLt
  have e1 : 512 * (i.val / 512) + i.val % 512 = i.val := Nat.div_add_mod _ _
  have e2 : 128 * (l.val / 128) + l.val % 128 = l.val := Nat.div_add_mod _ _
  have eb : bump kb (D true kb) y (ix2 i l) = if i.val / 512 = kb then y (ix2 i l) + D true kb (l.val / 128) (ix2 ⟨i.val % 512, Nat.mod_lt _ (by decide)⟩ ⟨l.val % 128, Nat.mod_lt _ (by decide)⟩) else y (ix2 i l) := rfl
  rw [bumpN_apply, eb]
  rcases lt_trichotomy (i.val / 512) kb with h | h | h
  · rw [if_neg (by omega), if_neg (by omega), hy, hz _ _ (by omega), add_zero]
  · rw [if_neg (by omega), if_pos h, hD true kb _ hkb (by omega) (fun _ => rfl) (fun h => by cases h), hy, ← EReal.coe_add]
    show ((Y + f (512 * kb + i.val % 512) (128 * (l.val / 128) + l.val % 128) : ℝ) : EReal) = _
    rw [← h, e1, e2]
  · rw [if_pos (by omega), if_neg (by omega), hD false _ _ (by omega) (by omega) (fun h => by cases h) (fun _ => h), hy, ← EReal.coe_add]
    show ((Y + f (512 * (i.val / 512) + i.val % 512) (128 * (l.val / 128) + l.val % 128) : ℝ) : EReal) = _
    rw [e1, e2]

/-- What a carried gradient has collected. -/
theorem carried {X : Blocks Ideal} (π : Carry Ideal → FVec Ideal S512x128 .f32) (D : Bool → ℕ → FVec Ideal S512x128 .f32) (f : ℕ → ℝ) (kb : ℕ) (hkb : kb < 4)
    (h0 : π carry0 = k0_pay113) (h1 : ∀ b a y, π (addTile X b a y) = addf (π y) (D b a)) (s : Fin 512) (x : Fin 128)
    (hD : ∀ (b : Bool) (a : ℕ), a < 4 → (b = true → a = kb) → (b = false → kb < a) → D b a (ix2 s x) = ((∑ r ∈ range 512, f (512 * a + r) : ℝ) : EReal))
    (hz : ∀ i, i < 512 * kb → f i = 0) :
    π (carryOut X kb) (ix2 s x) = ((∑ i ∈ range 2048, f i : ℝ) : EReal) := by
  have hn : ∀ n, n ≤ 3 - kb → π (carryN X kb (addTile X true kb carry0) n) (ix2 s x) = ((∑ a ∈ range (n + 1), ∑ r ∈ range 512, f (512 * (kb + a) + r) : ℝ) : EReal) := by
    intro n
    induction n with
    | zero =>
      intro _
      show π (addTile X true kb carry0) (ix2 s x) = _
      rw [h1, h0]
      show k0_pay113 (ix2 s x) + D true kb (ix2 s x) = _
      rw [hD true kb hkb (fun _ => rfl) (fun h => by cases h)]
      have : (k0_pay113 : FVec Ideal S512x128 .f32) (ix2 s x) = (0 : EReal) := by
        unfold_payloads
        pointwise
      rw [this, zero_add, Finset.sum_range_one, Nat.add_zero]
    | succ n ih =>
      intro hle
      show π (addTile X false (kb + n + 1) (carryN X kb (addTile X true kb carry0) n)) (ix2 s x) = _
      rw [h1]
      show π (carryN X kb (addTile X true kb carry0) n) (ix2 s x) + D false (kb + n + 1) (ix2 s x) = _
      rw [ih (by omega), hD false (kb + n + 1) (by omega) (fun h => by cases h) (fun _ => by omega), ← EReal.coe_add, Finset.sum_range_succ _ (n + 1)]
      rfl
  unfold carryOut
  rw [hn _ le_rfl, _root_.Fox.sum_blocks]
  congr 1
  have e : range 4 = range (kb + (3 - kb + 1)) := by congr 1; omega
  rw [e, Finset.sum_range_add (fun a => ∑ r ∈ range 512, f (512 * a + r)) kb]
  rw [Finset.sum_eq_zero (s := range kb) fun a ha => Finset.sum_eq_zero fun r hr => hz _ (by have := Finset.mem_range.mp ha; have := Finset.mem_range.mp hr; omega), zero_add]

/-- The other head of a pair. -/
def other (w : ℕ) : ℕ := w / 2 * 2 + (1 - w % 2)

section
variable {X : Blocks Ideal} {H : ℕ → _root_.Fox.Head} {kb : ℕ} (R : Reads X H kb) (hkb : kb < 4)
include R hkb

theorem dqOut_at (y : Vec Ideal S2048x256 .f32) (Y : ℝ) (i : Fin 2048) (l : Fin 256) (hy : y (ix2 i l) = ((Y : ℝ) : EReal)) :
    dqOut X kb y (ix2 i l) = ((Y + ∑ s ∈ range 512, (H (l.val / 64)).ds i.val (512 * kb + s) * ((H (l.val / 64)).k (512 * kb + s) (l.val % 64) * (1 / 8)) : ℝ) : EReal) := by
  refine bumped (own X) (fun i l => ∑ s ∈ range 512, (H (l / 64)).ds i (512 * kb + s) * ((H (l / 64)).k (512 * kb + s) (l % 64) * (1 / 8))) kb hkb ?_ ?_ y Y i l hy
  · intro b a p ha hp hb hf r x
    rw [own_at R b a p ha hp hb hf]
    have e0 : (128 * p + x.val) / 64 = 2 * p + x.val / 64 := by omega
    have e1 : (128 * p + x.val) % 64 = x.val % 64 := by omega
    rw [e0, e1]
  · intro i l hi
    exact Finset.sum_eq_zero fun s _ => by rw [_root_.Fox.Head.ds_of_lt _ (by omega), zero_mul]

theorem drowOut_at (y : Vec Ideal S2048x256 .f32) (Y : ℝ) (i : Fin 2048) (l : Fin 256) (hy : y (ix2 i l) = ((Y : ℝ) : EReal)) :
    drowOut X kb y (ix2 i l) = ((Y + ∑ s ∈ range 512, (H (other (l.val / 64))).ds i.val (512 * kb + s) : ℝ) : EReal) := by
  refine bumped (mate X) (fun i l => ∑ s ∈ range 512, (H (other (l / 64))).ds i (512 * kb + s)) kb hkb ?_ ?_ y Y i l hy
  · intro b a p ha hp hb hf r x
    have hx := x.isLt
    rw [mate_at R b a p ha hp hb hf]
    have e0 : other ((128 * p + x.val) / 64) = 2 * p + (1 - x.val / 64) := by unfold other; omega
    rw [e0]
  · intro i l hi
    exact Finset.sum_eq_zero fun s _ => by rw [_root_.Fox.Head.ds_of_lt _ (by omega)]

theorem dk_part (π : Carry Ideal → FVec Ideal S512x128 .f32) (p : ℕ) (hp : p < 2) (h : Bool)
    (h0 : π carry0 = k0_pay113) (h1 : ∀ b a y, π (addTile X b a y) = addf (π y) (tdk X b a p h)) (s : Fin 512) (x : Fin 128) :
    π (carryOut X kb) (ix2 s x) = ((∑ i ∈ range 2048, (H (2 * p + h.toNat)).ds i (512 * kb + s.val)
      * (if x.val / 64 = h.toNat then (H (2 * p + x.val / 64)).q i (x.val % 64) * (1 / 8) else 1) : ℝ) : EReal) :=
  carried π (fun b a => tdk X b a p h) (fun i => (H (2 * p + h.toNat)).ds i (512 * kb + s.val)
      * (if x.val / 64 = h.toNat then (H (2 * p + x.val / 64)).q i (x.val % 64) * (1 / 8) else 1)) kb hkb h0 h1 s x
    (fun b a ha hb hf => tdk_at R b a p ha hp hb hf h s x) (fun i hi => by rw [_root_.Fox.Head.ds_of_lt _ (by omega), zero_mul])

theorem dv_part (π : Carry Ideal → FVec Ideal S512x128 .f32) (p : ℕ) (hp : p < 2) (h : Bool)
    (h0 : π carry0 = k0_pay113) (h1 : ∀ b a y, π (addTile X b a y) = addf (π y) (tdv X b a p h)) (s : Fin 512) (x : Fin 128) :
    π (carryOut X kb) (ix2 s x) = ((∑ i ∈ range 2048, (if x.val / 64 = h.toNat then (H (2 * p + h.toNat)).p i (512 * kb + s.val)
      * (H (2 * p + x.val / 64)).g i (x.val % 64) else 0) : ℝ) : EReal) :=
  carried π (fun b a => tdv X b a p h) (fun i => if x.val / 64 = h.toNat then (H (2 * p + h.toNat)).p i (512 * kb + s.val)
      * (H (2 * p + x.val / 64)).g i (x.val % 64) else 0) kb hkb h0 h1 s x
    (fun b a ha hb hf => tdv_at R b a p ha hp hb hf h s x) (fun i hi => by rw [_root_.Fox.Head.p_of_lt _ (by omega), zero_mul, ite_self])

/-- A pair's half of the keys' gradient. -/
theorem dk_half (A B : Carry Ideal → FVec Ideal S512x128 .f32) (p : ℕ) (hp : p < 2)
    (a0 : A carry0 = k0_pay113) (a1 : ∀ b a y, A (addTile X b a y) = addf (A y) (tdk X b a p false))
    (b0 : B carry0 = k0_pay113) (b1 : ∀ b a y, B (addTile X b a y) = addf (B y) (tdk X b a p true)) (s : Fin 512) (x : Fin 128) :
    select (wide k0_pay107) (A (carryOut X kb)) (B (carryOut X kb)) (ix2 s x)
      = (((H (2 * p + x.val / 64)).dk (512 * kb + s.val) (x.val % 64) : ℝ) : EReal) := by
  have hx := x.isLt
  have e : select (wide k0_pay107) (A (carryOut X kb)) (B (carryOut X kb)) (ix2 s x)
      = Scalar.select (mine false (ix2 0 x)) (A (carryOut X kb) (ix2 s x)) (B (carryOut X kb) (ix2 s x)) := by
    pointwise [wide, mine]
  rw [e, sel_mine, dk_part R hkb A p hp false a0 a1, dk_part R hkb B p hp true b0 b1]
  unfold _root_.Fox.Head.dk
  by_cases h0 : x.val / 64 = 0
  · simp [h0]
  · have h1 : x.val / 64 = 1 := by omega
    simp [h1]

/-- A pair's half of the column sums. -/
theorem dcol_half (A B : Carry Ideal → FVec Ideal S512x128 .f32) (p : ℕ) (hp : p < 2)
    (a0 : A carry0 = k0_pay113) (a1 : ∀ b a y, A (addTile X b a y) = addf (A y) (tdk X b a p false))
    (b0 : B carry0 = k0_pay113) (b1 : ∀ b a y, B (addTile X b a y) = addf (B y) (tdk X b a p true)) (s : Fin 512) (x : Fin 128) :
    select (wide k0_pay107) (B (carryOut X kb)) (A (carryOut X kb)) (ix2 s x)
      = (((H (2 * p + (1 - x.val / 64))).dcol (512 * kb + s.val) : ℝ) : EReal) := by
  have hx := x.isLt
  have e : select (wide k0_pay107) (B (carryOut X kb)) (A (carryOut X kb)) (ix2 s x)
      = Scalar.select (mine false (ix2 0 x)) (B (carryOut X kb) (ix2 s x)) (A (carryOut X kb) (ix2 s x)) := by
    pointwise [wide, mine]
  rw [e, sel_mine, dk_part R hkb A p hp false a0 a1, dk_part R hkb B p hp true b0 b1]
  unfold _root_.Fox.Head.dcol
  by_cases h0 : x.val / 64 = 0
  · simp [h0]
  · have h1 : x.val / 64 = 1 := by omega
    simp [h1]

/-- A pair's half of the values' gradient. -/
theorem dv_half (A B : Carry Ideal → FVec Ideal S512x128 .f32) (p : ℕ) (hp : p < 2)
    (a0 : A carry0 = k0_pay113) (a1 : ∀ b a y, A (addTile X b a y) = addf (A y) (tdv X b a p false))
    (b0 : B carry0 = k0_pay113) (b1 : ∀ b a y, B (addTile X b a y) = addf (B y) (tdv X b a p true)) (s : Fin 512) (x : Fin 128) :
    addf (A (carryOut X kb)) (B (carryOut X kb)) (ix2 s x)
      = (((H (2 * p + x.val / 64)).dv (512 * kb + s.val) (x.val % 64) : ℝ) : EReal) := by
  have hx := x.isLt
  show A (carryOut X kb) (ix2 s x) + B (carryOut X kb) (ix2 s x) = _
  rw [dv_part R hkb A p hp false a0 a1, dv_part R hkb B p hp true b0 b1, ← EReal.coe_add]
  unfold _root_.Fox.Head.dv
  by_cases h0 : x.val / 64 = 0
  · simp [h0]
  · have h1 : x.val / 64 = 1 := by omega
    simp [h1]

omit R hkb in
theorem beside_at {α : Type} (A B : S512x128.Idx → α) (f : ℕ → α) (s : Fin 512) (hA : ∀ x : Fin 128, A (ix2 s x) = f x.val) (hB : ∀ x : Fin 128, B (ix2 s x) = f (128 + x.val)) (l : Fin 256) :
    beside A B (ix2 s l) = f l.val := by
  have hl := l.isLt
  unfold beside
  show (if h : l.val < 128 then A (ix2 s ⟨l.val, h⟩) else B (ix2 s ⟨l.val - 128, _⟩)) = _
  split
  · exact hA _
  · refine (hB _).trans ?_
    show f (128 + (l.val - 128)) = _
    congr 1; omega

theorem dkOut_at (s : Fin 512) (l : Fin 256) : dkOut X kb (ix2 s l) = (((H (l.val / 64)).dk (512 * kb + s.val) (l.val % 64) : ℝ) : EReal) := by
  refine beside_at (α := EReal) _ _ (fun l => (((H (l / 64)).dk (512 * kb + s.val) (l % 64) : ℝ) : EReal)) s (fun x => ?_) (fun x => ?_) l
  · refine (dk_half R hkb (fun y => y.1) (fun y => y.2.1) 0 (by decide) rfl (fun _ _ _ => rfl) rfl (fun _ _ _ => rfl) s x).trans ?_
    rw [Nat.mul_zero, Nat.zero_add]
  · refine (dk_half R hkb (fun y => y.2.2.1) (fun y => y.2.2.2.1) 1 (by decide) rfl (fun _ _ _ => rfl) rfl (fun _ _ _ => rfl) s x).trans ?_
    have e0 : (128 + x.val) / 64 = 2 * 1 + x.val / 64 := by omega
    have e1 : (128 + x.val) % 64 = x.val % 64 := by omega
    rw [e0, e1]

theorem dvOut_at (s : Fin 512) (l : Fin 256) : dvOut X kb (ix2 s l) = (((H (l.val / 64)).dv (512 * kb + s.val) (l.val % 64) : ℝ) : EReal) := by
  refine beside_at (α := EReal) _ _ (fun l => (((H (l / 64)).dv (512 * kb + s.val) (l % 64) : ℝ) : EReal)) s (fun x => ?_) (fun x => ?_) l
  · refine (dv_half R hkb (fun y => y.2.2.2.2.1) (fun y => y.2.2.2.2.2.1) 0 (by decide) rfl (fun _ _ _ => rfl) rfl (fun _ _ _ => rfl) s x).trans ?_
    rw [Nat.mul_zero, Nat.zero_add]
  · refine (dv_half R hkb (fun y => y.2.2.2.2.2.2.1) (fun y => y.2.2.2.2.2.2.2) 1 (by decide) rfl (fun _ _ _ => rfl) rfl (fun _ _ _ => rfl) s x).trans ?_
    have e0 : (128 + x.val) / 64 = 2 * 1 + x.val / 64 := by omega
    have e1 : (128 + x.val) % 64 = x.val % 64 := by omega
    rw [e0, e1]

theorem dcolOut_at (s : Fin 512) (l : Fin 256) : dcolOut X kb (ix2 s l) = (((H (other (l.val / 64))).dcol (512 * kb + s.val) : ℝ) : EReal) := by
  refine beside_at (α := EReal) _ _ (fun l => (((H (other (l / 64))).dcol (512 * kb + s.val) : ℝ) : EReal)) s (fun x => ?_) (fun x => ?_) l
  · refine (dcol_half R hkb (fun y => y.1) (fun y => y.2.1) 0 (by decide) rfl (fun _ _ _ => rfl) rfl (fun _ _ _ => rfl) s x).trans ?_
    have hx := x.isLt
    have e0 : other (x.val / 64) = 2 * 0 + (1 - x.val / 64) := by unfold other; omega
    rw [e0]
  · refine (dcol_half R hkb (fun y => y.2.2.1) (fun y => y.2.2.2.1) 1 (by decide) rfl (fun _ _ _ => rfl) rfl (fun _ _ _ => rfl) s x).trans ?_
    have hx := x.isLt
    have e0 : other ((128 + x.val) / 64) = 2 * 1 + (1 - x.val / 64) := by unfold other; omega
    rw [e0]

end

end Cert.KernelIdeal.Fox

end
-- ==== Proof.Heads.lean ====
/- The attention heads held by the step's argument arrays, and their rows of scores before normalisation. -/
module

public import proofs.«01_k».proof.KernelIdeal
public import proofs.«01_k».proof.Proof.Math
public import Idealize.ShloMosaic.Lib.Pointwise
public import Idealize.ShloMosaic.Lib.WordCmp

@[expose] public section

set_option maxRecDepth 16384

noncomputable section

namespace Fox

open Idealize.ShloMosaic
open Cert.KernelIdeal (S8192x1536 S4x8x2048 S8192x512)
open Finset (range sum_congr mem_range)

/-- Head `n` of sequence `b`: its queries, keys and values side by side in `x`, its gates in `u`, its cotangent in `g`. -/
def headOf (x : S8192x1536.Idx → EReal) (u : S4x8x2048.Idx → EReal) (g : S8192x512.Idx → EReal) (b n : ℕ) : Head where
  q i d := (x (ix2 ⟨(2048 * b + i) % 8192, Nat.mod_lt _ (by decide)⟩ ⟨(64 * n + d) % 1536, Nat.mod_lt _ (by decide)⟩)).toReal
  k i d := (x (ix2 ⟨(2048 * b + i) % 8192, Nat.mod_lt _ (by decide)⟩ ⟨(512 + (64 * n + d)) % 1536, Nat.mod_lt _ (by decide)⟩)).toReal
  v i d := (x (ix2 ⟨(2048 * b + i) % 8192, Nat.mod_lt _ (by decide)⟩ ⟨(1024 + (64 * n + d)) % 1536, Nat.mod_lt _ (by decide)⟩)).toReal
  g i d := (g (ix2 ⟨(2048 * b + i) % 8192, Nat.mod_lt _ (by decide)⟩ ⟨(64 * n + d) % 512, Nat.mod_lt _ (by decide)⟩)).toReal
  c i := (u (ix3 ⟨b % 4, Nat.mod_lt _ (by decide)⟩ ⟨n % 8, Nat.mod_lt _ (by decide)⟩ ⟨i % 2048, Nat.mod_lt _ (by decide)⟩)).toReal

/-- Every element of an array is a real number. -/
def AllReal {s : Shape} (x : s.Idx → EReal) : Prop := ∀ j, x j = (((x j).toReal : ℝ) : EReal)

section
variable {x : S8192x1536.Idx → EReal} {u : S4x8x2048.Idx → EReal} {g : S8192x512.Idx → EReal}

theorem q_at (hx : AllReal x) (b n i d : ℕ) (r : Fin 8192) (l : Fin 1536) (hr : r.val = 2048 * b + i) (hl : l.val = 64 * n + d) :
    x (ix2 r l) = (((headOf x u g b n).q i d : ℝ) : EReal) := by
  have e0 : r = ⟨(2048 * b + i) % 8192, Nat.mod_lt _ (by decide)⟩ := Fin.ext (by have := r.isLt; show r.val = (2048 * b + i) % 8192; omega)
  have e1 : l = ⟨(64 * n + d) % 1536, Nat.mod_lt _ (by decide)⟩ := Fin.ext (by have := l.isLt; show l.val = (64 * n + d) % 1536; omega)
  rw [hx, e0, e1]; rfl

theorem k_at (hx : AllReal x) (b n i d : ℕ) (r : Fin 8192) (l : Fin 1536) (hr : r.val = 2048 * b + i) (hl : l.val = 512 + (64 * n + d)) :
    x (ix2 r l) = (((headOf x u g b n).k i d : ℝ) : EReal) := by
  have e0 : r = ⟨(2048 * b + i) % 8192, Nat.mod_lt _ (by decide)⟩ := Fin.ext (by have := r.isLt; show r.val = (2048 * b + i) % 8192; omega)
  have e1 : l = ⟨(512 + (64 * n + d)) % 1536, Nat.mod_lt _ (by decide)⟩ := Fin.ext (by have := l.isLt; show l.val = (512 + (64 * n + d)) % 1536; omega)
  rw [hx, e0, e1]; rfl

theorem v_at (hx : AllReal x) (b n i d : ℕ) (r : Fin 8192) (l : Fin 1536) (hr : r.val = 2048 * b + i) (hl : l.val = 1024 + (64 * n + d)) :
    x (ix2 r l) = (((headOf x u g b n).v i d : ℝ) : EReal) := by
  have e0 : r = ⟨(2048 * b + i) % 8192, Nat.mod_lt _ (by decide)⟩ := Fin.ext (by have := r.isLt; show r.val = (2048 * b + i) % 8192; omega)
  have e1 : l = ⟨(1024 + (64 * n + d)) % 1536, Nat.mod_lt _ (by decide)⟩ := Fin.ext (by have := l.isLt; show l.val = (1024 + (64 * n + d)) % 1536; omega)
  rw [hx, e0, e1]; rfl

theorem g_at (hg : AllReal g) (b n i d : ℕ) (r : Fin 8192) (l : Fin 512) (hr : r.val = 2048 * b + i) (hl : l.val = 64 * n + d) :
    g (ix2 r l) = (((headOf x u g b n).g i d : ℝ) : EReal) := by
  have e0 : r = ⟨(2048 * b + i) % 8192, Nat.mod_lt _ (by decide)⟩ := Fin.ext (by have := r.isLt; show r.val = (2048 * b + i) % 8192; omega)
  have e1 : l = ⟨(64 * n + d) % 512, Nat.mod_lt _ (by decide)⟩ := Fin.ext (by have := l.isLt; show l.val = (64 * n + d) % 512; omega)
  rw [hg, e0, e1]; rfl

theorem c_at (hu : AllReal u) (b n i : ℕ) (r : Fin 4) (w : Fin 8) (j : Fin 2048) (hr : r.val = b) (hw : w.val = n) (hj : j.val = i) :
    u (ix3 r w j) = (((headOf x u g b n).c i : ℝ) : EReal) := by
  have e0 : r = ⟨b % 4, Nat.mod_lt _ (by decide)⟩ := Fin.ext (by have := r.isLt; show r.val = b % 4; omega)
  have e1 : w = ⟨n % 8, Nat.mod_lt _ (by decide)⟩ := Fin.ext (by have := w.isLt; show w.val = n % 8; omega)
  have e2 : j = ⟨i % 2048, Nat.mod_lt _ (by decide)⟩ := Fin.ext (by have := j.isLt; show j.val = i % 2048; omega)
  rw [hu, e0, e1, e2]; rfl
end

/-- A fold along the last axis. -/
theorem reduce_last {α : Type} (f : α → α → α) [Std.Commutative f] [Std.Associative f] (x : (⟨4, ![4, 8, 2048, 2048]⟩ : Shape).Idx → α) (init : (⟨0, ![]⟩ : Shape).Idx → α)
    (h : (⟨4, ![4, 8, 2048, 2048]⟩ : Shape).ReducesTo [3] ⟨3, ![4, 8, 2048]⟩) (hu : 0 < (⟨0, ![]⟩ : Shape).numel) (b : Fin 4) (n : Fin 8) (i : Fin 2048) :
    Host.reduce f x init h hu (ix3 b n i) = Finset.univ.fold f (init (Shape.Idx.first hu)) (fun k : Fin 2048 => x (ix4 b n i k)) := by
  rw [Host.reduce_eq_fold, Shape.ReducesTo.fold_fiber_r4_a3]
  exact congrArg (fun F => Finset.univ.fold f (init (Shape.Idx.first hu)) F) (funext fun k => rfl)

theorem lowest_eq : (Ideal.ofBits FTy.f32 0xFF800000#32 : EReal) = ⊥  := by simp [Ideal.ofBits, Ideal.ieee]
theorem fold_maximumf (f : Fin 2048 → EReal) (b : EReal) : Finset.univ.fold (FloatOps.maximumf (F := Ideal) (φ := .f32)) b f = Finset.univ.fold max b f := rfl
/-- A quotient of real numbers. -/
theorem div_real (x : ℝ) {y : ℝ} (h : y ≠ 0) : Ideal.div ((x : ℝ) : EReal) ((y : ℝ) : EReal) = ((x / y : ℝ) : EReal) := by
  rw [Ideal.div_coe h, ← EReal.coe_mul, mul_one_div]

/-- The earlier of two positions below 2048, as the machine compares them. -/
theorem sel_sle (a b : ℕ) (ha : a < 2048) (hb : b < 2048) (x y : EReal) :
    Scalar.select (IntOp.cmpi CmpIPredicate.sle (BitVec.ofNat 32 a) (BitVec.ofNat 32 b)) x y = if a ≤ b then x else y := by
  have e : IntOp.cmpi CmpIPredicate.sle (BitVec.ofNat 32 a) (BitVec.ofNat 32 b) = if a ≤ b then 1#1 else 0#1 := by
    by_cases h : a ≤ b
    · rw [if_pos h]; word_cmp
    · rw [if_neg h]; word_cmp
  rw [e]; split <;> rfl

section
variable (H : Head) (κ : ℝ) (i : ℕ)

/-- Query `i`'s score against key `j`, shifted by `κ`; −∞ for a later key. -/
def row (j : ℕ) : EReal := if j ≤ i then ((H.s i j + κ : ℝ) : EReal) else ⊥

theorem row_top (j : Fin 2048) : row H κ i j.val ≠ ⊤ := by
  unfold row; split
  · exact EReal.coe_ne_top _
  · exact bot_ne_top

theorem row_max : ∃ M : ℝ, Finset.univ.fold max (⊥ : EReal) (fun j : Fin 2048 => row H κ i j.val) = ((M : ℝ) : EReal) :=
  fold_max_real 2048 _ (row_top H κ i) ⟨0, by decide⟩ (by show row H κ i 0 ≠ ⊥; unfold row; rw [if_pos (Nat.zero_le _)]; exact EReal.coe_ne_bot _)

theorem row_exp (M : ℝ) (j : ℕ) : Ideal.exp (row H κ i j - ((M : ℝ) : EReal)) = ((Real.exp (κ - M) * H.e i j : ℝ) : EReal) := by
  unfold row Head.e
  split
  · rw [← EReal.coe_sub, exp_coe, ← Real.exp_add]; congr 2; ring
  · rw [EReal.bot_sub, exp_bot, mul_zero, EReal.coe_zero]

theorem row_sum (M : ℝ) (f : Fin 2048 → EReal) (hf : ∀ j, f j = Ideal.exp (row H κ i j.val - ((M : ℝ) : EReal))) :
    ∑ j, f j = ((Real.exp (κ - M) * H.Z i : ℝ) : EReal) := by
  rw [coe_sum 2048 f (fun j => Real.exp (κ - M) * H.e i j) (fun j => (hf j).trans (row_exp H κ i M j.val))]
  unfold Head.Z
  rw [Finset.mul_sum]

/-- The logarithm of a row's sum, by way of its greatest score. -/
theorem lse_eq {A B C : Fin 2048 → EReal} {b b' : EReal} (hb : b = ⊥) (hb' : b' = ⊥) (hA : ∀ j, A j = row H 0 i j.val) (hB : ∀ j, B j = row H 0 i j.val)
    (hC : ∀ j, C j = row H 0 i j.val) :
    Ideal.log (∑ j, Ideal.exp (A j - Finset.univ.fold max b B)) + Finset.univ.fold max b' C = ((Real.log (H.Z i) : ℝ) : EReal) := by
  obtain ⟨M, hM⟩ := row_max H 0 i
  rw [hb, hb', show B = _ from funext hB, show C = _ from funext hC, hM, row_sum H 0 i M _ (fun j => by rw [hA]), Ideal.log_coe,
    if_neg (not_le.mpr (mul_pos (Real.exp_pos _) (H.Z_pos i))), ← EReal.coe_add, Real.log_mul (Real.exp_pos _).ne' (H.Z_pos i).ne', Real.log_exp]
  congr 1; ring

/-- A weight, by way of the row's greatest score. -/
theorem weight_eq {A B C D : Fin 2048 → EReal} {a : EReal} {b b' : EReal} (j : ℕ) (hb : b = ⊥) (hb' : b' = ⊥) (ha : a = row H 0 i j) (hA : ∀ j, A j = row H 0 i j.val)
    (hB : ∀ j, B j = row H 0 i j.val) (hC : ∀ j, C j = row H 0 i j.val) :
    Ideal.div (Ideal.exp (a - Finset.univ.fold max b B)) (∑ j, Ideal.exp (A j - Finset.univ.fold max b' C)) = ((H.p i j : ℝ) : EReal) := by
  obtain ⟨M, hM⟩ := row_max H 0 i
  rw [hb, hb', show B = _ from funext hB, show C = _ from funext hC, hM, row_sum H 0 i M _ (fun j => by rw [hA]), ha, row_exp,
    div_real _ (mul_pos (Real.exp_pos _) (H.Z_pos i)).ne']
  unfold Head.p
  rw [mul_div_mul_left _ _ (Real.exp_pos _).ne']
end

end Fox

end
-- ==== Proof.Host.lean ====
/- What the host code prepares for the kernel, over the real numbers: the forward result and the logarithms of the
   rows' sums, as the heads hold them. -/
module

public import proofs.«01_k».proof.Proof.Gen.KernelIdeal.Frame
public import proofs.«01_k».proof.Proof.Heads
public import Idealize.ShloMosaic.Lib.StableHlo.ReadAt

@[expose] public section

set_option maxRecDepth 16384

noncomputable section

namespace Cert.KernelIdeal.Fox

open Idealize.ShloMosaic Idealize.ShloMosaic.TcCoe
open Cert.KernelIdeal.Gen
open _root_.Fox
open Finset (range sum_congr)

/-- The masked scores, without the queries' own gates. -/
def hostScore (x : FVec Ideal S8192x1536 .bf16) (u : FVec Ideal S4x8x2048 .f32) : FVec Ideal S4x8x2048x2048 .f32 :=
  select (broadcastInDim S4x8x2048x2048 ![2, 3] bcast_S2048x2048_S4x8x2048x2048_2_3 (cmpi .sle
      (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))
    (subf (Host.dotGeneral dot_S4x2048x8x64_S4x2048x8x64_S4x8x2048x2048_3_3_1_1_02_02 none
        (mulf (extf .f32 (shapeCast S4x2048x8x64 (extractStridedSlice S8192x512 ![0, 0] x slices_S8192x1536_S8192x512_0_0) shapeCasts_S8192x512_S4x2048x8x64) bitsLt_bf16_f32)
          (broadcastInDim S4x2048x8x64 ![] bcast_S_S4x2048x8x64 (constant S_ .f32 0x3E000000#32)))
        (extf .f32 (shapeCast S4x2048x8x64 (extractStridedSlice S8192x512 ![0, 512] x slices_S8192x1536_S8192x512_0_512) shapeCasts_S8192x512_S4x2048x8x64) bitsLt_bf16_f32))
      (broadcastInDim S4x8x2048x2048 ![0, 1, 2, 3] bcast_S4x8x1x2048_S4x8x2048x2048_0_1_2_3 (broadcastInDim S4x8x1x2048 ![0, 1, 3] bcast_S4x8x2048_S4x8x1x2048_0_1_3 u)))
    (broadcastInDim S4x8x2048x2048 ![] bcast_S_S4x8x2048x2048 (id (constant S_ .f32 0xFF800000#32)))

/-- Each row's greatest score. -/
def hostPeak (s : FVec Ideal S4x8x2048x2048 .f32) : FVec Ideal S4x8x2048 .f32 :=
  Host.reduce FloatOps.maximumf s (constant S_ .f32 0xFF800000#32) reducesTo_S4x8x2048x2048_S4x8x2048_d3 h_S_

/-- The weights before normalisation. -/
def hostExpo (s : FVec Ideal S4x8x2048x2048 .f32) : FVec Ideal S4x8x2048x2048 .f32 :=
  Host.exp (subf s (broadcastInDim S4x8x2048x2048 ![0, 1, 2, 3] bcast_S4x8x2048x1_S4x8x2048x2048_0_1_2_3 (broadcastInDim S4x8x2048x1 ![0, 1, 2] bcast_S4x8x2048_S4x8x2048x1_0_1_2 (hostPeak s))))

/-- Their row sums. -/
def hostTotal (s : FVec Ideal S4x8x2048x2048 .f32) : FVec Ideal S4x8x2048 .f32 :=
  Host.reduceAdd (hostExpo s) (constant S_ .f32 0x00000000#32) reducesTo_S4x8x2048x2048_S4x8x2048_d3 h_S_

/-- The logarithms of the row sums. -/
def hostLse (s : FVec Ideal S4x8x2048x2048 .f32) : FVec Ideal S4x8x2048 .f32 := addf (Host.log (hostTotal s)) (hostPeak s)

/-- The same, spread over each head's lanes. -/
def hostLseRows (x : FVec Ideal S8192x1536 .bf16) (u : FVec Ideal S4x8x2048 .f32) : FVec Ideal S8192x512 .f32 :=
  shapeCast S8192x512 (broadcastInDim S8192x8x64 ![0, 1] bcast_S8192x8_S8192x8x64_0_1
    (shapeCast S8192x8 (transpose S4x2048x8 [0, 2, 1] (hostLse (hostScore x u)) transposes_S4x8x2048_S4x2048x8_0_2_1) shapeCasts_S4x2048x8_S8192x8)) shapeCasts_S8192x8x64_S8192x512

/-- The forward result. -/
def hostOut (x : FVec Ideal S8192x1536 .bf16) (s : FVec Ideal S4x8x2048x2048 .f32) : FVec Ideal S8192x512 .f32 :=
  shapeCast S8192x512 (transpose S4x2048x8x64 [0, 3, 1, 2] (Host.dotGeneral dot_S4x2048x8x64_S4x8x2048x2048_S4x8x64x2048_1_3_3_2_02_01 none
      (extf .f32 (shapeCast S4x2048x8x64 (extractStridedSlice S8192x512 ![0, 1024] x slices_S8192x1536_S8192x512_0_1024) shapeCasts_S8192x512_S4x2048x8x64) bitsLt_bf16_f32)
      (Host.divf (hostExpo s) (broadcastInDim S4x8x2048x2048 ![0, 1, 2, 3] bcast_S4x8x2048x1_S4x8x2048x2048_0_1_2_3 (broadcastInDim S4x8x2048x1 ![0, 1, 2] bcast_S4x8x2048_S4x8x2048x1_0_1_2 (hostTotal s)))))
    transposes_S4x8x64x2048_S4x2048x8x64_0_3_1_2) shapeCasts_S4x2048x8x64_S8192x512

/-- The forward result, as the middle lanes of a wider array. -/
def hostCat (x : FVec Ideal S8192x1536 .bf16) (u : FVec Ideal S4x8x2048 .f32) : FVec Ideal S8192x1024 .bf16 :=
  truncf .bf16 (pad S8192x1024 ![0, 256] ![0, 256] ![0, 0] (hostOut x (hostScore x u)) (sitofp .f32 (constantI S_ 32 0#32)) pads_S8192x512_S8192x1024_000_2562560 h_S_) bitsLt_bf16_f32

variable (m : (ℓ : Loc nD τ sig) → Buf (Elt Ideal) ℓ)

theorem V_lse (c : Dev nD) : V m c main_v42 = hostLseRows (m ((c : Thread nD τ).loc main_arg0)) (m ((c : Thread nD τ).loc main_arg1)) := by
  unfold V
  after_reads_simp
  rfl

theorem V_cat (c : Dev nD) : V m c main_v38 = hostCat (m ((c : Thread nD τ).loc main_arg0)) (m ((c : Thread nD τ).loc main_arg1)) := by
  unfold V
  after_reads_simp
  rfl

theorem V_gate (c : Dev nD) : V m c main_v43 = shapeCast S32x4x1x512 (m ((c : Thread nD τ).loc main_arg1) : FVec Ideal S4x8x2048 .f32) shapeCasts_S4x8x2048_S32x4x1x512 := by
  unfold V
  after_reads_simp
  rfl

variable {x : FVec Ideal S8192x1536 .bf16} {u : FVec Ideal S4x8x2048 .f32} {g : FVec Ideal S8192x512 .bf16}

theorem hostScore_at (hx : AllReal x) (hu : AllReal u) (b : Fin 4) (n : Fin 8) (i j : Fin 2048) :
    hostScore x u (ix4 b n i j) = row (headOf x u g b.val n.val) 0 i.val j.val := by
  pointwise [hostScore]
  rw [sel_sle _ _ j.isLt i.isLt, _root_.Fox.c_at (x := x) (g := g) hu b.val n.val j.val b n j rfl rfl rfl,
    coe_sum 64 _ (fun d => (headOf x u g b.val n.val).q i.val d * (1 / 8) * (headOf x u g b.val n.val).k j.val d)
      (fun d => by
        rw [_root_.Fox.q_at (u := u) (g := g) hx b.val n.val i.val d.val _ _ (by show b.val * 2048 + i.val = _; omega) (by show n.val * 64 + d.val = _; omega),
          _root_.Fox.k_at (u := u) (g := g) hx b.val n.val j.val d.val _ _ (by show b.val * 2048 + j.val = _; omega) (by show 512 + (n.val * 64 + d.val) = _; omega),
          ofBits_eighth_f32, ← EReal.coe_mul, ← EReal.coe_mul])]
  unfold row Head.s
  split
  · rw [← EReal.coe_sub, add_zero]
  · exact lowest_eq

theorem lowest_first : (constant (F := Ideal) S_ .f32 0xFF800000#32) (Shape.Idx.first h_S_) = Ideal.ofBits FTy.f32 0xFF800000#32 := rfl

theorem hostPeak_at (s : FVec Ideal S4x8x2048x2048 .f32) (b : Fin 4) (n : Fin 8) (i : Fin 2048) :
    hostPeak s (ix3 b n i) = Finset.univ.fold max (⊥ : EReal) (fun k : Fin 2048 => s (ix4 b n i k)) := by
  unfold hostPeak
  rw [reduce_last, lowest_first, lowest_eq, fold_maximumf]

theorem hostExpo_at (s : FVec Ideal S4x8x2048x2048 .f32) (b : Fin 4) (n : Fin 8) (i j : Fin 2048) :
    hostExpo s (ix4 b n i j) = Ideal.exp (s (ix4 b n i j) - hostPeak s (ix3 b n i)) := by
  pointwise [hostExpo]

theorem hostTotal_at (s : FVec Ideal S4x8x2048x2048 .f32) (b : Fin 4) (n : Fin 8) (i : Fin 2048) :
    hostTotal s (ix3 b n i) = ∑ j : Fin 2048, hostExpo s (ix4 b n i j) := by
  pointwise [hostTotal]

theorem hostLse_at (s : FVec Ideal S4x8x2048x2048 .f32) (b : Fin 4) (n : Fin 8) (i : Fin 2048) :
    hostLse s (ix3 b n i) = Ideal.log (hostTotal s (ix3 b n i)) + hostPeak s (ix3 b n i) := by
  pointwise [hostLse]

/-- The host's row data: the unnormalised weights are the heads', all of a row times one positive number. -/
theorem host_row (hx : AllReal x) (hu : AllReal u) (b : Fin 4) (n : Fin 8) (i : Fin 2048) : ∃ M : ℝ,
    hostPeak (hostScore x u) (ix3 b n i) = ((M : ℝ) : EReal)
    ∧ (∀ j : Fin 2048, hostExpo (hostScore x u) (ix4 b n i j) = ((Real.exp (0 - M) * (headOf x u g b.val n.val).e i.val j.val : ℝ) : EReal))
    ∧ hostTotal (hostScore x u) (ix3 b n i) = ((Real.exp (0 - M) * (headOf x u g b.val n.val).Z i.val : ℝ) : EReal) := by
  obtain ⟨M, hM⟩ := row_max (headOf x u g b.val n.val) 0 i.val
  have hp : hostPeak (hostScore x u) (ix3 b n i) = ((M : ℝ) : EReal) := by
    rw [hostPeak_at, show (fun k => hostScore x u (ix4 b n i k)) = _ from funext fun k => hostScore_at (g := g) hx hu b n i k, hM]
  have he : ∀ j : Fin 2048, hostExpo (hostScore x u) (ix4 b n i j) = Ideal.exp (row (headOf x u g b.val n.val) 0 i.val j.val - ((M : ℝ) : EReal)) := fun j => by
    rw [hostExpo_at, hp, hostScore_at (g := g) hx hu]
  refine ⟨M, hp, fun j => (he j).trans (row_exp _ _ _ M j.val), ?_⟩
  rw [hostTotal_at]
  exact row_sum _ _ _ M _ he

theorem hostLse_real (hx : AllReal x) (hu : AllReal u) (b : Fin 4) (n : Fin 8) (i : Fin 2048) :
    hostLse (hostScore x u) (ix3 b n i) = ((Real.log ((headOf x u g b.val n.val).Z i.val) : ℝ) : EReal) := by
  obtain ⟨M, hp, -, ht⟩ := host_row (g := g) hx hu b n i
  rw [hostLse_at, hp, ht, Ideal.log_coe, if_neg (not_le.mpr (mul_pos (Real.exp_pos _) (Head.Z_pos _ _))), ← EReal.coe_add,
    Real.log_mul (Real.exp_pos _).ne' (Head.Z_pos _ _).ne', Real.log_exp]
  exact congrArg _ (by ring)

theorem hostProb_real (hx : AllReal x) (hu : AllReal u) (b : Fin 4) (n : Fin 8) (i j : Fin 2048) :
    Ideal.div (hostExpo (hostScore x u) (ix4 b n i j)) (hostTotal (hostScore x u) (ix3 b n i)) = (((headOf x u g b.val n.val).p i.val j.val : ℝ) : EReal) := by
  obtain ⟨M, -, he, ht⟩ := host_row (g := g) hx hu b n i
  rw [he, ht, div_real _ (mul_pos (Real.exp_pos _) (Head.Z_pos _ _)).ne', mul_div_mul_left _ _ (Real.exp_pos _).ne']
  unfold Head.p
  exact congrArg _ rfl

theorem hostLseRows_at (r : Fin 8192) (l : Fin 512) : hostLseRows x u (ix2 r l)
    = hostLse (hostScore x u) (ix3 (⟨r.val / 2048, by omega⟩ : Fin 4) (⟨l.val / 64, by omega⟩ : Fin 8) (⟨r.val % 2048, by omega⟩ : Fin 2048)) := by
  pointwise [hostLseRows]

theorem hostOut_at (s : FVec Ideal S4x8x2048x2048 .f32) (r : Fin 8192) (l : Fin 512) : hostOut x s (ix2 r l)
    = ∑ k : Fin 2048, x (ix2 (⟨r.val / 2048 * 2048 + k.val, by omega⟩ : Fin 8192) (⟨1024 + l.val, by omega⟩ : Fin 1536))
        * Ideal.div (hostExpo s (ix4 (⟨r.val / 2048, by omega⟩ : Fin 4) (⟨l.val / 64, by omega⟩ : Fin 8) (⟨r.val % 2048, by omega⟩ : Fin 2048) k))
            (hostTotal s (ix3 (⟨r.val / 2048, by omega⟩ : Fin 4) (⟨l.val / 64, by omega⟩ : Fin 8) (⟨r.val % 2048, by omega⟩ : Fin 2048))) := by
  pointwise [hostOut]

theorem hostOut_real (hx : AllReal x) (hu : AllReal u) (r : Fin 8192) (l : Fin 512) : hostOut x (hostScore x u) (ix2 r l)
    = (((headOf x u g (r.val / 2048) (l.val / 64)).o (r.val % 2048) (l.val % 64) : ℝ) : EReal) := by
  rw [hostOut_at]
  exact coe_sum 2048 _ (fun k => (headOf x u g (r.val / 2048) (l.val / 64)).p (r.val % 2048) k * (headOf x u g (r.val / 2048) (l.val / 64)).v k (l.val % 64))
    fun k => by
      rw [hostProb_real (g := g) hx hu, _root_.Fox.v_at (u := u) (g := g) hx (r.val / 2048) (l.val / 64) k.val (l.val % 64) _ _
        (by show r.val / 2048 * 2048 + k.val = _; omega) (by show 1024 + l.val = _; omega), ← EReal.coe_mul, mul_comm]

/-- The middle lanes of the wider array are the forward result. -/
theorem hostCat_at (r : Fin 8192) (l : Fin 1024) (l' : Fin 512) (h : l.val = 256 + l'.val) : hostCat x u (ix2 r l) = hostOut x (hostScore x u) (ix2 r l') := by
  have e : ∀ (y : FVec Ideal S8192x512 .f32) (z : FVec Ideal S_ .f32),
      pad S8192x1024 ![0, 256] ![0, 256] ![0, 0] y z pads_S8192x512_S8192x1024_000_2562560 h_S_ (ix2 r l) = y (ix2 r l') := fun y z => by
    rw [pad_apply, dif_pos]
    · refine congrArg y (funext fun a => Fin.ext ?_)
      match a with
      | ⟨0, _⟩ => show (r.val - 0) / (0 + 1) = r.val; omega
      | ⟨1, _⟩ => show (l.val - 256) / (0 + 1) = l'.val; omega
    · intro a
      have := l'.isLt
      have := r.isLt
      match a with
      | ⟨0, _⟩ => show 0 ≤ r.val ∧ (r.val - 0) % (0 + 1) = 0 ∧ (r.val - 0) / (0 + 1) < 8192; omega
      | ⟨1, _⟩ => show 256 ≤ l.val ∧ (l.val - 256) % (0 + 1) = 0 ∧ (l.val - 256) / (0 + 1) < 512; omega
  unfold hostCat
  exact e _ _

theorem gate_at (u : FVec Ideal S4x8x2048 .f32) (w : Fin 32) (b : Fin 4) (l : Fin 512) : shapeCast S32x4x1x512 u shapeCasts_S4x8x2048_S32x4x1x512 (ix4 w b 0 l)
    = u (ix3 (⟨w.val / 8, by omega⟩ : Fin 4) (⟨w.val % 8, by omega⟩ : Fin 8) (⟨b.val * 512 + l.val, by omega⟩ : Fin 2048)) := by
  pointwise []

end Cert.KernelIdeal.Fox

end
-- ==== Proof.Found.lean ====
/- The blocks the kernel finds at a point, over the real numbers: four heads of one sequence, and one block of keys. -/
module

public import proofs.«01_k».proof.Proof.Body
public import proofs.«01_k».proof.Proof.Sums
public import proofs.«01_k».proof.Proof.Host

@[expose] public section

set_option maxRecDepth 16384

noncomputable section

namespace Cert.KernelIdeal.Fox

open Idealize.ShloMosaic Idealize.ShloMosaic.TcCoe
open Cert.KernelIdeal.Gen
open _root_.Fox
open Finset (range sum_congr)

theorem idx0 : ∀ t : Fin cfg0.N, win0_0.index t = ![t.val / 8, t.val / 4 % 2] := (by decide +kernel : ∀ t : Fin grid0.N, _)
theorem idx1 : ∀ t : Fin cfg0.N, win0_1.index t = ![t.val / 8 * 4 + t.val % 4, 2 + t.val / 4 % 2] := (by decide +kernel : ∀ t : Fin grid0.N, _)
theorem idx2 : ∀ t : Fin cfg0.N, win0_2.index t = ![t.val / 8 * 4 + t.val % 4, 4 + t.val / 4 % 2] := (by decide +kernel : ∀ t : Fin grid0.N, _)
theorem idx3 : ∀ t : Fin cfg0.N, win0_3.index t = ![t.val / 8 * 2 + t.val / 4 % 2, t.val % 4, 0, 0] := (by decide +kernel : ∀ t : Fin grid0.N, _)
theorem idx4 : ∀ t : Fin cfg0.N, win0_4.index t = ![t.val / 8, 1 + t.val / 4 % 2] := (by decide +kernel : ∀ t : Fin grid0.N, _)
theorem idx5 : ∀ t : Fin cfg0.N, win0_5.index t = ![t.val / 8, t.val / 4 % 2] := (by decide +kernel : ∀ t : Fin grid0.N, _)
theorem idx6 : ∀ t : Fin cfg0.N, win0_6.index t = ![t.val / 8, t.val / 4 % 2] := (by decide +kernel : ∀ t : Fin grid0.N, _)
theorem idx7 : ∀ t : Fin cfg0.N, win0_7.index t = ![t.val / 8, t.val / 4 % 2] := (by decide +kernel : ∀ t : Fin grid0.N, _)
theorem idx8 : ∀ t : Fin cfg0.N, win0_8.index t = ![t.val / 8 * 4 + t.val % 4, t.val / 4 % 2] := (by decide +kernel : ∀ t : Fin grid0.N, _)
theorem idx9 : ∀ t : Fin cfg0.N, win0_9.index t = ![t.val / 8 * 4 + t.val % 4, t.val / 4 % 2] := (by decide +kernel : ∀ t : Fin grid0.N, _)
theorem idx10 : ∀ t : Fin cfg0.N, win0_10.index t = ![t.val / 8, t.val / 4 % 2] := (by decide +kernel : ∀ t : Fin grid0.N, _)
theorem idx11 : ∀ t : Fin cfg0.N, win0_11.index t = ![t.val / 8 * 4 + t.val % 4, t.val / 4 % 2] := (by decide +kernel : ∀ t : Fin grid0.N, _)

theorem point_lt (t : Fin cfg0.N) : t.val < 32 := t.isLt

variable (m : (ℓ : Loc nD τ sig) → Buf (Elt Ideal) ℓ)

/-- An element of each block, in its array. -/
theorem blk0 (c : Dev nD) (t : Fin cfg0.N) (i : Fin 2048) (l : Fin 256) : iblk m c 0 t (ix2 i l)
    = V m c main_arg0 (ix2 (⟨t.val / 8 * 2048 + i.val, by have := point_lt t; omega⟩ : Fin 8192) (⟨t.val / 4 % 2 * 256 + l.val, by omega⟩ : Fin 1536)) := by
  unfold iblk
  refine congrArg (V m c main_arg0) (funext fun a => Fin.ext ?_)
  match a with
  | ⟨0, _⟩ => blk_simp [idx0 t]
  | ⟨1, _⟩ => blk_simp [idx0 t]

theorem blk1 (c : Dev nD) (t : Fin cfg0.N) (s : Fin 512) (l : Fin 256) : iblk m c 1 t (ix2 s l)
    = V m c main_arg0 (ix2 (⟨(t.val / 8 * 4 + t.val % 4) * 512 + s.val, by have := point_lt t; omega⟩ : Fin 8192) (⟨(2 + t.val / 4 % 2) * 256 + l.val, by omega⟩ : Fin 1536)) := by
  unfold iblk
  refine congrArg (V m c main_arg0) (funext fun a => Fin.ext ?_)
  match a with
  | ⟨0, _⟩ => blk_simp [idx1 t]
  | ⟨1, _⟩ => blk_simp [idx1 t]

theorem blk2 (c : Dev nD) (t : Fin cfg0.N) (s : Fin 512) (l : Fin 256) : iblk m c 2 t (ix2 s l)
    = V m c main_arg0 (ix2 (⟨(t.val / 8 * 4 + t.val % 4) * 512 + s.val, by have := point_lt t; omega⟩ : Fin 8192) (⟨(4 + t.val / 4 % 2) * 256 + l.val, by omega⟩ : Fin 1536)) := by
  unfold iblk
  refine congrArg (V m c main_arg0) (funext fun a => Fin.ext ?_)
  match a with
  | ⟨0, _⟩ => blk_simp [idx2 t]
  | ⟨1, _⟩ => blk_simp [idx2 t]

theorem blk3 (c : Dev nD) (t : Fin cfg0.N) (w : Fin 4) (s : Fin 512) : iblk m c 3 t (ix4 w 0 0 s)
    = V m c main_v43 (ix4 (⟨(t.val / 8 * 2 + t.val / 4 % 2) * 4 + w.val, by have := point_lt t; omega⟩ : Fin 32) (⟨t.val % 4, by omega⟩ : Fin 4) (0 : Fin 1) s) := by
  unfold iblk
  refine congrArg (V m c main_v43) (funext fun a => Fin.ext ?_)
  match a with
  | ⟨0, _⟩ => blk_simp [idx3 t]
  | ⟨1, _⟩ => blk_simp [idx3 t]; exact Nat.add_zero _
  | ⟨2, _⟩ => blk_simp [idx3 t]
  | ⟨3, _⟩ => blk_simp [idx3 t]

theorem blk4 (c : Dev nD) (t : Fin cfg0.N) (i : Fin 2048) (l : Fin 256) : iblk m c 4 t (ix2 i l)
    = V m c main_v38 (ix2 (⟨t.val / 8 * 2048 + i.val, by have := point_lt t; omega⟩ : Fin 8192) (⟨(1 + t.val / 4 % 2) * 256 + l.val, by omega⟩ : Fin 1024)) := by
  unfold iblk
  refine congrArg (V m c main_v38) (funext fun a => Fin.ext ?_)
  match a with
  | ⟨0, _⟩ => blk_simp [idx4 t]
  | ⟨1, _⟩ => blk_simp [idx4 t]

theorem blk5 (c : Dev nD) (t : Fin cfg0.N) (i : Fin 2048) (l : Fin 256) : iblk m c 5 t (ix2 i l)
    = V m c main_v42 (ix2 (⟨t.val / 8 * 2048 + i.val, by have := point_lt t; omega⟩ : Fin 8192) (⟨t.val / 4 % 2 * 256 + l.val, by omega⟩ : Fin 512)) := by
  unfold iblk
  refine congrArg (V m c main_v42) (funext fun a => Fin.ext ?_)
  match a with
  | ⟨0, _⟩ => blk_simp [idx5 t]
  | ⟨1, _⟩ => blk_simp [idx5 t]

theorem blk6 (c : Dev nD) (t : Fin cfg0.N) (i : Fin 2048) (l : Fin 256) : iblk m c 6 t (ix2 i l)
    = V m c main_arg2 (ix2 (⟨t.val / 8 * 2048 + i.val, by have := point_lt t; omega⟩ : Fin 8192) (⟨t.val / 4 % 2 * 256 + l.val, by omega⟩ : Fin 512)) := by
  unfold iblk
  refine congrArg (V m c main_arg2) (funext fun a => Fin.ext ?_)
  match a with
  | ⟨0, _⟩ => blk_simp [idx6 t]
  | ⟨1, _⟩ => blk_simp [idx6 t]

/-- The arguments on a device. -/
abbrev argX (c : Dev nD) : FVec Ideal S8192x1536 .bf16 := m ((c : Thread nD τ).loc main_arg0)
abbrev argU (c : Dev nD) : FVec Ideal S4x8x2048 .f32 := m ((c : Thread nD τ).loc main_arg1)
abbrev argG (c : Dev nD) : FVec Ideal S8192x512 .bf16 := m ((c : Thread nD τ).loc main_arg2)

/-- Head `w` of the four a point works on. -/
abbrev headAt (c : Dev nD) (t : ℕ) (w : ℕ) : Head := headOf (argX m c) (argU m c) (argG m c) (t / 8) (4 * (t / 4 % 2) + w)

/-- Every argument holds real numbers. -/
structure Finite (c : Dev nD) : Prop where
  x : AllReal (argX m c)
  u : AllReal (argU m c)
  g : AllReal (argG m c)

theorem out_real (c : Dev nD) (hf : Finite m c) (b n i d : ℕ) (r : Fin 8192) (l : Fin 512) (hb : r.val / 2048 = b) (hi : r.val % 2048 = i)
    (hn : l.val / 64 = n) (hd : l.val % 64 = d) : hostOut (argX m c) (hostScore (argX m c) (argU m c)) (ix2 r l)
      = (((headOf (argX m c) (argU m c) (argG m c) b n).o i d : ℝ) : EReal) := by
  subst hb hi hn hd
  exact hostOut_real hf.x hf.u r l

theorem lse_real (c : Dev nD) (hf : Finite m c) (b n i : ℕ) (r : Fin 8192) (l : Fin 512) (hb : r.val / 2048 = b) (hi : r.val % 2048 = i)
    (hn : l.val / 64 = n) : hostLseRows (argX m c) (argU m c) (ix2 r l)
      = ((Real.log ((headOf (argX m c) (argU m c) (argG m c) b n).Z i) : ℝ) : EReal) := by
  subst hb hi hn
  rw [hostLseRows_at, hostLse_real (g := argG m c) hf.x hf.u]

theorem found_q (c : Dev nD) (hf : Finite m c) (t : Fin cfg0.N) (i : Fin 2048) (l : Fin 256) :
    (found m c t).q (ix2 i l) = (((headAt m c t.val (l.val / 64)).q i.val (l.val % 64) : ℝ) : EReal) := by
  show iblk m c 0 t (ix2 i l) = _
  rw [blk0, V_main_arg0]
  exact q_at hf.x _ _ _ _ _ _ (by show t.val / 8 * 2048 + i.val = _; omega) (by show t.val / 4 % 2 * 256 + l.val = _; omega)

theorem found_k (c : Dev nD) (hf : Finite m c) (t : Fin cfg0.N) (s : Fin 512) (l : Fin 256) :
    (found m c t).k (ix2 s l) = (((headAt m c t.val (l.val / 64)).k (512 * (t.val % 4) + s.val) (l.val % 64) : ℝ) : EReal) := by
  show iblk m c 1 t (ix2 s l) = _
  rw [blk1, V_main_arg0]
  exact k_at hf.x _ _ _ _ _ _ (by show (t.val / 8 * 4 + t.val % 4) * 512 + s.val = _; omega) (by show (2 + t.val / 4 % 2) * 256 + l.val = _; omega)

theorem found_v (c : Dev nD) (hf : Finite m c) (t : Fin cfg0.N) (s : Fin 512) (l : Fin 256) :
    (found m c t).v (ix2 s l) = (((headAt m c t.val (l.val / 64)).v (512 * (t.val % 4) + s.val) (l.val % 64) : ℝ) : EReal) := by
  show iblk m c 2 t (ix2 s l) = _
  rw [blk2, V_main_arg0]
  exact v_at hf.x _ _ _ _ _ _ (by show (t.val / 8 * 4 + t.val % 4) * 512 + s.val = _; omega) (by show (4 + t.val / 4 % 2) * 256 + l.val = _; omega)

theorem found_c (c : Dev nD) (hf : Finite m c) (t : Fin cfg0.N) (w : Fin 4) (s : Fin 512) :
    (found m c t).c (ix4 w 0 0 s) = (((headAt m c t.val w.val).c (512 * (t.val % 4) + s.val) : ℝ) : EReal) := by
  show iblk m c 3 t (ix4 w 0 0 s) = _
  have := point_lt t
  rw [blk3, V_gate, gate_at]
  exact c_at hf.u _ _ _ _ _ _ (by show ((t.val / 8 * 2 + t.val / 4 % 2) * 4 + w.val) / 8 = _; omega)
    (by show ((t.val / 8 * 2 + t.val / 4 % 2) * 4 + w.val) % 8 = _; omega) (by show t.val % 4 * 512 + s.val = _; omega)

theorem found_o (c : Dev nD) (hf : Finite m c) (t : Fin cfg0.N) (i : Fin 2048) (l : Fin 256) :
    (found m c t).o (ix2 i l) = (((headAt m c t.val (l.val / 64)).o i.val (l.val % 64) : ℝ) : EReal) := by
  show iblk m c 4 t (ix2 i l) = _
  have := point_lt t
  rw [blk4, V_cat, hostCat_at _ _ (⟨t.val / 4 % 2 * 256 + l.val, by omega⟩ : Fin 512)
    (by show (1 + t.val / 4 % 2) * 256 + l.val = 256 + (t.val / 4 % 2 * 256 + l.val); omega)]
  exact out_real m c hf _ _ _ _ _ _ (by show (t.val / 8 * 2048 + i.val) / 2048 = _; omega) (by show (t.val / 8 * 2048 + i.val) % 2048 = _; omega)
    (by show (t.val / 4 % 2 * 256 + l.val) / 64 = _; omega) (by show (t.val / 4 % 2 * 256 + l.val) % 64 = _; omega)

theorem found_l (c : Dev nD) (hf : Finite m c) (t : Fin cfg0.N) (i : Fin 2048) (l : Fin 256) :
    (found m c t).l (ix2 i l) = ((Real.log ((headAt m c t.val (l.val / 64)).Z i.val) : ℝ) : EReal) := by
  show iblk m c 5 t (ix2 i l) = _
  have := point_lt t
  rw [blk5, V_lse]
  exact lse_real m c hf _ _ _ _ _ (by show (t.val / 8 * 2048 + i.val) / 2048 = _; omega) (by show (t.val / 8 * 2048 + i.val) % 2048 = _; omega)
    (by show (t.val / 4 % 2 * 256 + l.val) / 64 = _; omega)

theorem found_g (c : Dev nD) (hf : Finite m c) (t : Fin cfg0.N) (i : Fin 2048) (l : Fin 256) :
    (found m c t).g (ix2 i l) = (((headAt m c t.val (l.val / 64)).g i.val (l.val % 64) : ℝ) : EReal) := by
  show iblk m c 6 t (ix2 i l) = _
  rw [blk6, V_main_arg2]
  exact g_at hf.g _ _ _ _ _ _ (by show t.val / 8 * 2048 + i.val = _; omega) (by show t.val / 4 % 2 * 256 + l.val = _; omega)

theorem found_reads (c : Dev nD) (hf : Finite m c) (t : Fin cfg0.N) : Reads (found m c t) (headAt m c t.val) (t.val % 4) :=
  Reads.mk (found_q m c hf t) (found_k m c hf t) (found_v m c hf t) (found_c m c hf t) (found_o m c hf t) (found_l m c hf t) (found_g m c hf t)

end Cert.KernelIdeal.Fox

end
-- ==== Proof.RefDefs.lean ====
/- The reference's gradients over the real numbers: each of its results is the corresponding gradient of the heads. -/
module

public import proofs.«01_k».proof.Proof.Gen.ReferenceIdeal.Run
public import proofs.«01_k».proof.Proof.Heads
public import Idealize.ShloMosaic.Lib.StableHlo.ReadAt

@[expose] public section

set_option maxRecDepth 16384

noncomputable section

namespace Cert.ReferenceIdeal.Fox

open Cert.ReferenceIdeal Cert.ReferenceIdeal.Gen Idealize.ShloMosaic Idealize.ShloMosaic.TcCoe Idealize.SL.Sem Idealize.ShloMosaic.StableHlo

/-- Which keys a query sees: those not after it. -/
def seen : IVec S4x8x2048x2048 1 :=
  broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The queries, scaled. -/
def query (x : FVec Ideal S8192x1536 .bf16) : FVec Ideal S4x2048x8x64 .f32 :=
  mulf (extf .f32 (shapeCast S4x2048x8x64 (extractStridedSlice S8192x512 ![0, 0] x slices_S8192x1536_S8192x512_0_0) shapeCasts_S8192x512_S4x2048x8x64) bitsLt_bf16_f32) (broadcastInDim S4x2048x8x64 ![] bcast_S_S4x2048x8x64 (constant S_ .f32 0x3E000000#32))

/-- The keys. -/
def key (x : FVec Ideal S8192x1536 .bf16) : FVec Ideal S4x2048x8x64 .f32 :=
  extf .f32 (shapeCast S4x2048x8x64 (extractStridedSlice S8192x512 ![0, 512] x slices_S8192x1536_S8192x512_0_512) shapeCasts_S8192x512_S4x2048x8x64) bitsLt_bf16_f32

/-- The values. -/
def val (x : FVec Ideal S8192x1536 .bf16) : FVec Ideal S4x2048x8x64 .f32 :=
  extf .f32 (shapeCast S4x2048x8x64 (extractStridedSlice S8192x512 ![0, 1024] x slices_S8192x1536_S8192x512_0_1024) shapeCasts_S8192x512_S4x2048x8x64) bitsLt_bf16_f32

/-- The cotangent. -/
def cot (g : FVec Ideal S8192x512 .bf16) : FVec Ideal S4x8x64x2048 .f32 :=
  transpose S4x8x64x2048 [0, 2, 3, 1] (shapeCast S4x2048x8x64 (extf .f32 g bitsLt_bf16_f32) shapeCasts_S8192x512_S4x2048x8x64) transposes_S4x2048x8x64_S4x8x64x2048_0_2_3_1

/-- The masked scores. -/
def score (x : FVec Ideal S8192x1536 .bf16) (u : FVec Ideal S4x8x2048 .f32) : FVec Ideal S4x8x2048x2048 .f32 :=
  select seen (subf (addf (Host.dotGeneral dot_S4x2048x8x64_S4x2048x8x64_S4x8x2048x2048_3_3_1_1_02_02 none (query x) (key x)) (broadcastInDim S4x8x2048x2048 ![0, 1, 2, 3] bcast_S4x8x2048x1_S4x8x2048x2048_0_1_2_3 (broadcastInDim S4x8x2048x1 ![0, 1, 2] bcast_S4x8x2048_S4x8x2048x1_0_1_2 u))) (broadcastInDim S4x8x2048x2048 ![0, 1, 2, 3] bcast_S4x8x1x2048_S4x8x2048x2048_0_1_2_3 (broadcastInDim S4x8x1x2048 ![0, 1, 3] bcast_S4x8x2048_S4x8x1x2048_0_1_3 u))) (broadcastInDim S4x8x2048x2048 ![] bcast_S_S4x8x2048x2048 (id (constant S_ .f32 0xFF800000#32)))

/-- Each row's greatest score. -/
def peak (s : FVec Ideal S4x8x2048x2048 .f32) : FVec Ideal S4x8x2048 .f32 :=
  maximumf (broadcastInDim S4x8x2048 ![] bcast_S_S4x8x2048 (constant S_ .f32 0xFF800000#32)) (Host.reduce FloatOps.maximumf s (constant S_ .f32 0xFF800000#32) reducesTo_S4x8x2048x2048_S4x8x2048_d3 h_S_)

/-- The weights before normalisation. -/
def expo (x : FVec Ideal S8192x1536 .bf16) (u : FVec Ideal S4x8x2048 .f32) : FVec Ideal S4x8x2048x2048 .f32 :=
  Host.exp (subf (score x u) (broadcastInDim S4x8x2048x2048 ![0, 1, 2, 3] bcast_S4x8x2048x1_S4x8x2048x2048_0_1_2_3 (broadcastInDim S4x8x2048x1 ![0, 1, 2] bcast_S4x8x2048_S4x8x2048x1_0_1_2 (peak (score x u)))))

/-- Their row sums. -/
def total (x : FVec Ideal S8192x1536 .bf16) (u : FVec Ideal S4x8x2048 .f32) : FVec Ideal S4x8x2048 .f32 :=
  Host.reduceAdd (expo x u) (constant S_ .f32 0x00000000#32) reducesTo_S4x8x2048x2048_S4x8x2048_d3 h_S_

/-- The cotangent of the weights. -/
def dprob (x : FVec Ideal S8192x1536 .bf16) (g : FVec Ideal S8192x512 .bf16) : FVec Ideal S4x8x2048x2048 .f32 :=
  Host.dotGeneral dot_S4x8x64x2048_S4x2048x8x64_S4x8x2048x2048_2_3_3_1_01_02 none (cot g) (val x)

/-- The cotangent of the scores. -/
def dscore (x : FVec Ideal S8192x1536 .bf16) (u : FVec Ideal S4x8x2048 .f32) (g : FVec Ideal S8192x512 .bf16) : FVec Ideal S4x8x2048x2048 .f32 :=
  select seen (mulf (addf (Host.divf (dprob x g) (broadcastInDim S4x8x2048x2048 ![0, 1, 2, 3] bcast_S4x8x2048x1_S4x8x2048x2048_0_1_2_3 (broadcastInDim S4x8x2048x1 ![0, 1, 2] bcast_S4x8x2048_S4x8x2048x1_0_1_2 (total x u)))) (broadcastInDim S4x8x2048x2048 ![0, 1, 2] bcast_S4x8x2048_S4x8x2048x2048_0_1_2 (Host.reduceAdd (Host.negf (shapeCast S4x8x2048x1 (Host.reduceAdd (mulf (mulf (dprob x g) (broadcastInDim S4x8x2048x2048 ![0, 1, 2, 3] bcast_S4x8x2048x1_S4x8x2048x2048_0_1_2_3 (Host.divf (broadcastInDim S4x8x2048x1 ![] bcast_S_S4x8x2048x1 (constant S_ .f32 0x3F800000#32)) (mulf (broadcastInDim S4x8x2048x1 ![0, 1, 2] bcast_S4x8x2048_S4x8x2048x1_0_1_2 (total x u)) (broadcastInDim S4x8x2048x1 ![0, 1, 2] bcast_S4x8x2048_S4x8x2048x1_0_1_2 (total x u)))))) (expo x u)) (constant S_ .f32 0x00000000#32) reducesTo_S4x8x2048x2048_S4x8x2048_d3 h_S_) shapeCasts_S4x8x2048_S4x8x2048x1)) (constant S_ .f32 0x00000000#32) reducesTo_S4x8x2048x1_S4x8x2048_d3 h_S_))) (expo x u)) (broadcastInDim S4x8x2048x2048 ![] bcast_S_S4x8x2048x2048 (constant S_ .f32 0x00000000#32))

/-- The queries' gradient. -/
def dqs (x : FVec Ideal S8192x1536 .bf16) (u : FVec Ideal S4x8x2048 .f32) (g : FVec Ideal S8192x512 .bf16) : FVec Ideal S8192x512 .f32 :=
  shapeCast S8192x512 (mulf (transpose S4x2048x8x64 [0, 2, 1, 3] (Host.dotGeneral dot_S4x8x2048x2048_S4x2048x8x64_S4x8x2048x64_3_1_2_3_01_02 none (dscore x u g) (key x)) transposes_S4x8x2048x64_S4x2048x8x64_0_2_1_3) (broadcastInDim S4x2048x8x64 ![] bcast_S_S4x2048x8x64 (constant S_ .f32 0x3E000000#32))) shapeCasts_S4x2048x8x64_S8192x512

/-- The keys' gradient. -/
def dks (x : FVec Ideal S8192x1536 .bf16) (u : FVec Ideal S4x8x2048 .f32) (g : FVec Ideal S8192x512 .bf16) : FVec Ideal S8192x512 .bf16 :=
  truncf .bf16 (shapeCast S8192x512 (transpose S4x2048x8x64 [0, 2, 1, 3] (Host.dotGeneral dot_S4x8x2048x2048_S4x2048x8x64_S4x8x2048x64_2_1_3_3_01_02 none (dscore x u g) (query x)) transposes_S4x8x2048x64_S4x2048x8x64_0_2_1_3) shapeCasts_S4x2048x8x64_S8192x512) bitsLt_bf16_f32

/-- The values' gradient. -/
def dvs (x : FVec Ideal S8192x1536 .bf16) (u : FVec Ideal S4x8x2048 .f32) (g : FVec Ideal S8192x512 .bf16) : FVec Ideal S8192x512 .bf16 :=
  truncf .bf16 (shapeCast S8192x512 (transpose S4x2048x8x64 [0, 3, 1, 2] (Host.dotGeneral dot_S4x8x64x2048_S4x8x2048x2048_S4x8x64x2048_3_2_2_3_01_01 none (cot g) (Host.divf (expo x u) (broadcastInDim S4x8x2048x2048 ![0, 1, 2, 3] bcast_S4x8x2048x1_S4x8x2048x2048_0_1_2_3 (broadcastInDim S4x8x2048x1 ![0, 1, 2] bcast_S4x8x2048_S4x8x2048x1_0_1_2 (total x u))))) transposes_S4x8x64x2048_S4x2048x8x64_0_3_1_2) shapeCasts_S4x2048x8x64_S8192x512) bitsLt_bf16_f32

/-- The rows' gradient, each head's in its mate's lanes. -/
def drows (x : FVec Ideal S8192x1536 .bf16) (u : FVec Ideal S4x8x2048 .f32) (g : FVec Ideal S8192x512 .bf16) : FVec Ideal S8192x512 .f32 :=
  shapeCast S8192x512 (broadcastInDim S8192x4x2x64 ![0, 1, 2, 3] bcast_S8192x4x2x1_S8192x4x2x64_0_1_2_3 (Host.reverse [2] (shapeCast S8192x4x2x1 (transpose S4x2048x8 [0, 2, 1] (Host.reduceAdd (shapeCast S4x8x2048x1 (Host.reduceAdd (dscore x u g) (constant S_ .f32 0x00000000#32) reducesTo_S4x8x2048x2048_S4x8x2048_d3 h_S_) shapeCasts_S4x8x2048_S4x8x2048x1) (constant S_ .f32 0x00000000#32) reducesTo_S4x8x2048x1_S4x8x2048_d3 h_S_) transposes_S4x8x2048_S4x2048x8_0_2_1) shapeCasts_S4x2048x8_S8192x4x2x1))) shapeCasts_S8192x4x2x64_S8192x512

/-- The columns' gradient, likewise. -/
def dcols (x : FVec Ideal S8192x1536 .bf16) (u : FVec Ideal S4x8x2048 .f32) (g : FVec Ideal S8192x512 .bf16) : FVec Ideal S8192x512 .f32 :=
  Host.negf (shapeCast S8192x512 (broadcastInDim S8192x4x2x64 ![0, 1, 2, 3] bcast_S8192x4x2x1_S8192x4x2x64_0_1_2_3 (Host.reverse [2] (shapeCast S8192x4x2x1 (transpose S4x2048x8 [0, 2, 1] (Host.reduceAdd (shapeCast S4x8x1x2048 (Host.reduceAdd (Host.negf (dscore x u g)) (constant S_ .f32 0x00000000#32) reducesTo_S4x8x2048x2048_S4x8x2048_d2 h_S_) shapeCasts_S4x8x2048_S4x8x1x2048) (constant S_ .f32 0x00000000#32) reducesTo_S4x8x1x2048_S4x8x2048_d2 h_S_) transposes_S4x8x2048_S4x2048x8_0_2_1) shapeCasts_S4x2048x8_S8192x4x2x1))) shapeCasts_S8192x4x2x64_S8192x512)

theorem dqs_eq (m : (ℓ : Loc nD τ sig) → Buf (Elt Ideal) ℓ) (c : Dev nD) :
    Value.res_out0 m c = dqs (m ((c.tc : Thread nD τ).loc main_arg0)) (m ((c.tc : Thread nD τ).loc main_arg1)) (m ((c.tc : Thread nD τ).loc main_arg2)) := rfl

theorem dks_eq (m : (ℓ : Loc nD τ sig) → Buf (Elt Ideal) ℓ) (c : Dev nD) :
    Value.res_out1 m c = dks (m ((c.tc : Thread nD τ).loc main_arg0)) (m ((c.tc : Thread nD τ).loc main_arg1)) (m ((c.tc : Thread nD τ).loc main_arg2)) := rfl

theorem dvs_eq (m : (ℓ : Loc nD τ sig) → Buf (Elt Ideal) ℓ) (c : Dev nD) :
    Value.res_out2 m c = dvs (m ((c.tc : Thread nD τ).loc main_arg0)) (m ((c.tc : Thread nD τ).loc main_arg1)) (m ((c.tc : Thread nD τ).loc main_arg2)) := rfl

theorem drows_eq (m : (ℓ : Loc nD τ sig) → Buf (Elt Ideal) ℓ) (c : Dev nD) :
    Value.res_out3 m c = drows (m ((c.tc : Thread nD τ).loc main_arg0)) (m ((c.tc : Thread nD τ).loc main_arg1)) (m ((c.tc : Thread nD τ).loc main_arg2)) := rfl

theorem dcols_eq (m : (ℓ : Loc nD τ sig) → Buf (Elt Ideal) ℓ) (c : Dev nD) :
    Value.res_out4 m c = dcols (m ((c.tc : Thread nD τ).loc main_arg0)) (m ((c.tc : Thread nD τ).loc main_arg1)) (m ((c.tc : Thread nD τ).loc main_arg2)) := rfl

end Cert.ReferenceIdeal.Fox

end
-- ==== Proof.Ref.lean ====
/- The reference's results over the real numbers: each is the gradient of the heads the arguments hold. -/
module

public import proofs.«01_k».proof.Proof.RefDefs
public import Idealize.ShloMosaic.Lib.Pointwise

@[expose] public section

set_option maxRecDepth 16384

noncomputable section

namespace Cert.ReferenceIdeal.Fox

open Cert.ReferenceIdeal Cert.ReferenceIdeal.Gen Idealize.ShloMosaic Idealize.ShloMosaic.TcCoe Idealize.SL.Sem Idealize.ShloMosaic.StableHlo
open _root_.Fox
open Finset (range sum_congr)

theorem max_at (s t : FVec Ideal S4x8x2048 .f32) (b : Fin 4) (n : Fin 8) (i : Fin 2048) : maximumf s t (ix3 b n i) = max (s (ix3 b n i)) (t (ix3 b n i)) := rfl
theorem lowest_at (b : Fin 4) (n : Fin 8) (i : Fin 2048) : (broadcastInDim S4x8x2048 ![] bcast_S_S4x8x2048 (constant (F := Ideal) S_ .f32 0xFF800000#32)) (ix3 b n i) = (Ideal.ofBits FTy.f32 0xFF800000#32) := rfl
theorem lowest : (constant (F := Ideal) S_ .f32 0xFF800000#32)  (Shape.Idx.first h_S_)= (Ideal.ofBits FTy.f32 0xFF800000#32)  := rfl
theorem peak_at (s : FVec Ideal S4x8x2048x2048 .f32) (b : Fin 4) (n : Fin 8) (i : Fin 2048) : peak s (ix3 b n i) = Finset.univ.fold max (⊥ : EReal) (fun k : Fin 2048 => s (ix4 b n i k)) := by
  unfold peak
  rw [max_at, lowest_at, reduce_last, lowest, lowest_eq, bot_sup_eq, fold_maximumf]

variable {x : FVec Ideal S8192x1536 .bf16} {u : FVec Ideal S4x8x2048 .f32} {g : FVec Ideal S8192x512 .bf16}

theorem seen_at (b : Fin 4) (n : Fin 8) (i j : Fin 2048) (y z : EReal) : Scalar.select (seen (ix4 b n i j)) y z = if j.val ≤ i.val then y else z := by
  have e : seen (ix4 b n i j) = IntOp.cmpi CmpIPredicate.sle (BitVec.ofNat 32 j.val) (BitVec.ofNat 32 i.val) := by pointwise [seen]
  rw [e, sel_sle _ _ j.isLt i.isLt]

theorem query_at (hx : AllReal x) (b : Fin 4) (n : Fin 8) (i : Fin 2048) (d : Fin 64) :
    query x (ix4 b i n d) = (((headOf x u g b.val n.val).q i.val d.val * (1 / 8) : ℝ) : EReal) := by
  pointwise [query]
  rw [_root_.Fox.q_at (u := u) (g := g) hx b.val n.val i.val d.val _ _ (by show b.val * 2048 + i.val = _; omega) (by show n.val * 64 + d.val = _; omega),
    ofBits_eighth_f32, EReal.coe_mul]

theorem key_at (hx : AllReal x) (b : Fin 4) (n : Fin 8) (i : Fin 2048) (d : Fin 64) :
    key x (ix4 b i n d) = (((headOf x u g b.val n.val).k i.val d.val : ℝ) : EReal) := by
  pointwise [key]
  exact _root_.Fox.k_at (u := u) (g := g) hx b.val n.val i.val d.val _ _ (by show b.val * 2048 + i.val = _; omega) (by show 512 + (n.val * 64 + d.val) = _; omega)

theorem val_at (hx : AllReal x) (b : Fin 4) (n : Fin 8) (i : Fin 2048) (d : Fin 64) :
    val x (ix4 b i n d) = (((headOf x u g b.val n.val).v i.val d.val : ℝ) : EReal) := by
  pointwise [val]
  exact _root_.Fox.v_at (u := u) (g := g) hx b.val n.val i.val d.val _ _ (by show b.val * 2048 + i.val = _; omega) (by show 1024 + (n.val * 64 + d.val) = _; omega)

theorem cot_at (hg : AllReal g) (b : Fin 4) (n : Fin 8) (i : Fin 2048) (d : Fin 64) :
    cot g (ix4 b n d i) = (((headOf x u g b.val n.val).g i.val d.val : ℝ) : EReal) := by
  pointwise [cot]
  exact _root_.Fox.g_at (x := x) (u := u) hg b.val n.val i.val d.val _ _ (by show b.val * 2048 + i.val = _; omega) (by show n.val * 64 + d.val = _; omega)

theorem score_at (hx : AllReal x) (hu : AllReal u) (b : Fin 4) (n : Fin 8) (i j : Fin 2048) :
    score x u (ix4 b n i j) = row (headOf x u g b.val n.val) ((headOf x u g b.val n.val).c i.val) i.val j.val := by
  pointwise [score]
  rw [seen_at, _root_.Fox.c_at (x := x) (g := g) hu b.val n.val i.val b n i rfl rfl rfl, _root_.Fox.c_at (x := x) (g := g) hu b.val n.val j.val b n j rfl rfl rfl,
    coe_sum 64 _ (fun d => (headOf x u g b.val n.val).q i.val d * (1 / 8) * (headOf x u g b.val n.val).k j.val d)
      (fun d => by rw [query_at (u := u) (g := g) hx, key_at (u := u) (g := g) hx, ← EReal.coe_mul])]
  unfold row Head.s
  split
  · rw [← EReal.coe_add, ← EReal.coe_sub]; congr 1; ring
  · exact lowest_eq

/-- The reference's unnormalised weights are the heads', all of a row times one positive number. -/
theorem expo_total (hx : AllReal x) (hu : AllReal u) (b : Fin 4) (n : Fin 8) (i : Fin 2048) :
    ∃ K : ℝ, 0 < K ∧ (∀ j : Fin 2048, expo x u (ix4 b n i j) = ((K * (headOf x u g b.val n.val).e i.val j.val : ℝ) : EReal))
      ∧ total x u (ix3 b n i) = ((K * (headOf x u g b.val n.val).Z i.val : ℝ) : EReal) := by
  obtain ⟨M, hM⟩ := row_max (headOf x u g b.val n.val) ((headOf x u g b.val n.val).c i.val) i.val
  have he : ∀ j : Fin 2048, expo x u (ix4 b n i j) = Ideal.exp (row (headOf x u g b.val n.val) ((headOf x u g b.val n.val).c i.val) i.val j.val - ((M : ℝ) : EReal)) := fun j => by
    have e : expo x u (ix4 b n i j) = Ideal.exp (score x u (ix4 b n i j) - peak (score x u) (ix3 b n i)) := by pointwise [expo]
    rw [e, peak_at, show (fun k => score x u (ix4 b n i k)) = _ from funext fun k => score_at (g := g) hx hu b n i k, hM, score_at (g := g) hx hu]
  refine ⟨_, Real.exp_pos _, fun j => (he j).trans (row_exp _ _ _ M j.val), ?_⟩
  have e : total x u (ix3 b n i) = ∑ j : Fin 2048, expo x u (ix4 b n i j) := by pointwise [total]
  rw [e]
  exact row_sum _ _ _ M _ he

theorem dprob_at (hx : AllReal x) (hg : AllReal g) (b : Fin 4) (n : Fin 8) (i j : Fin 2048) :
    dprob x g (ix4 b n i j) = (((headOf x u g b.val n.val).dp i.val j.val : ℝ) : EReal) := by
  pointwise [dprob]
  exact coe_sum 64 _ (fun d => (headOf x u g b.val n.val).g i.val d * (headOf x u g b.val n.val).v j.val d)
    (fun d => by rw [cot_at (x := x) (u := u) hg, val_at (u := u) (g := g) hx, ← EReal.coe_mul])

/-- The softmax's gradient, as the reference writes it. -/
theorem softmax_grad (H : Head) {K : ℝ} (hK : 0 < K) (i j : ℕ) :
    (H.dp i j / (K * H.Z i) + -∑ k ∈ range 2048, H.dp i k * (1 / (K * H.Z i * (K * H.Z i))) * (K * H.e i k)) * (K * H.e i j) = H.ds i j := by
  have hZ := (H.Z_pos i).ne'
  have hk := hK.ne'
  unfold Head.ds
  rw [H.delta_eq]
  have e : ∑ k ∈ range 2048, H.dp i k * (1 / (K * H.Z i * (K * H.Z i))) * (K * H.e i k) = (∑ k ∈ range 2048, H.p i k * H.dp i k) / (K * H.Z i) := by
    rw [Finset.sum_div]
    refine sum_congr rfl fun k _ => ?_
    unfold Head.p
    field_simp
  rw [e]
  unfold Head.p
  field_simp
  ring

theorem dscore_at (hx : AllReal x) (hu : AllReal u) (hg : AllReal g) (b : Fin 4) (n : Fin 8) (i j : Fin 2048) :
    dscore x u g (ix4 b n i j) = (((headOf x u g b.val n.val).ds i.val j.val : ℝ) : EReal) := by
  obtain ⟨K, hK, he, ht⟩ := expo_total (g := g) hx hu b n i
  have hT : K * (headOf x u g b.val n.val).Z i.val ≠ 0 := (mul_pos hK (Head.Z_pos _ _)).ne'
  pointwise [dscore]
  rw [seen_at]
  split
  · rw [ht, he, dprob_at (u := u) hx hg, div_real _ hT, ← EReal.coe_mul, show (1 : EReal) = ((1 : ℝ) : EReal) from rfl, div_real _ (mul_ne_zero hT hT), Fin.sum_univ_one,
      coe_sum 2048 _ (fun k => (headOf x u g b.val n.val).dp i.val k * (1 / (K * (headOf x u g b.val n.val).Z i.val * (K * (headOf x u g b.val n.val).Z i.val))) * (K * (headOf x u g b.val n.val).e i.val k))
        (fun k => by rw [dprob_at (u := u) hx hg, he, ← EReal.coe_mul, ← EReal.coe_mul]),
      ← EReal.coe_neg, ← EReal.coe_add, ← EReal.coe_mul, softmax_grad _ hK]
  · rename_i h
    rw [Head.ds_of_lt _ (not_le.mp h), EReal.coe_zero]

/-- The queries' gradient. -/
theorem dqs_at (hx : AllReal x) (hu : AllReal u) (hg : AllReal g) (r : Fin 8192) (l : Fin 512) :
    dqs x u g (ix2 r l) = (((headOf x u g (r.val / 2048) (l.val / 64)).dq (r.val % 2048) (l.val % 64) : ℝ) : EReal) := by
  pointwise [dqs]
  rw [coe_sum 2048 _ (fun k => (headOf x u g (r.val / 2048) (l.val / 64)).ds (r.val % 2048) k * (headOf x u g (r.val / 2048) (l.val / 64)).k k (l.val % 64))
      (fun k => by rw [dscore_at hx hu hg, key_at (u := u) (g := g) hx, ← EReal.coe_mul]), ofBits_eighth_f32, ← EReal.coe_mul]
  unfold Head.dq
  rw [Finset.sum_mul]
  congr 1
  exact sum_congr rfl fun k _ => by ring

/-- The keys' gradient. -/
theorem dks_at (hx : AllReal x) (hu : AllReal u) (hg : AllReal g) (r : Fin 8192) (l : Fin 512) :
    dks x u g (ix2 r l) = (((headOf x u g (r.val / 2048) (l.val / 64)).dk (r.val % 2048) (l.val % 64) : ℝ) : EReal) := by
  pointwise [dks]
  exact coe_sum 2048 _ (fun k => (headOf x u g (r.val / 2048) (l.val / 64)).ds k (r.val % 2048) * ((headOf x u g (r.val / 2048) (l.val / 64)).q k (l.val % 64) * (1 / 8)))
      (fun k => by rw [dscore_at hx hu hg, query_at (u := u) (g := g) hx, ← EReal.coe_mul])

/-- The reference's normalised weights. -/
theorem prob_at (hx : AllReal x) (hu : AllReal u) (b : Fin 4) (n : Fin 8) (i j : Fin 2048) :
    Ideal.div (expo x u (ix4 b n i j)) (total x u (ix3 b n i)) = (((headOf x u g b.val n.val).p i.val j.val : ℝ) : EReal) := by
  obtain ⟨K, hK, he, ht⟩ := expo_total (g := g) hx hu b n i
  rw [he, ht, div_real _ (mul_pos hK (Head.Z_pos _ _)).ne', mul_div_mul_left _ _ hK.ne']
  unfold Head.p
  exact congrArg _ rfl

theorem dvs_read (r : Fin 8192) (l : Fin 512) : dvs x u g (ix2 r l)
    = ∑ k : Fin 2048, cot g (ix4 (⟨r.val / 2048, by omega⟩ : Fin 4) (⟨l.val / 64, by omega⟩ : Fin 8) (⟨l.val % 64, by omega⟩ : Fin 64) k)
        * Ideal.div (expo x u (ix4 (⟨r.val / 2048, by omega⟩ : Fin 4) (⟨l.val / 64, by omega⟩ : Fin 8) k (⟨r.val % 2048, by omega⟩ : Fin 2048)))
            (total x u (ix3 (⟨r.val / 2048, by omega⟩ : Fin 4) (⟨l.val / 64, by omega⟩ : Fin 8) k)) := by
  pointwise [dvs]

/-- The values' gradient. -/
theorem dvs_at (hx : AllReal x) (hu : AllReal u) (hg : AllReal g) (r : Fin 8192) (l : Fin 512) :
    dvs x u g (ix2 r l) = (((headOf x u g (r.val / 2048) (l.val / 64)).dv (r.val % 2048) (l.val % 64) : ℝ) : EReal) := by
  rw [dvs_read]
  exact coe_sum 2048 _ (fun k => (headOf x u g (r.val / 2048) (l.val / 64)).p k (r.val % 2048) * (headOf x u g (r.val / 2048) (l.val / 64)).g k (l.val % 64))
    fun k => by rw [cot_at (x := x) (u := u) hg, prob_at (g := g) hx hu, ← EReal.coe_mul, mul_comm]

theorem dscore_congr {a a' : Fin 4} {n n' : Fin 8} {i i' j j' : Fin 2048} (ha : a = a') (hn : n = n') (hi : i = i') (hj : j = j') :
    dscore x u g (ix4 a n i j) = dscore x u g (ix4 a' n' i' j') := by
  rw [ha, hn, hi, hj]

theorem mate_lt (l : Fin 512) : l.val / 64 / 2 * 2 + (1 - l.val / 64 % 2) < 8 := by omega

theorem drows_read (r : Fin 8192) (l : Fin 512) : drows x u g (ix2 r l)
    = ∑ k : Fin 2048, dscore x u g (ix4 ⟨r.val / 2048, by omega⟩ ⟨_, mate_lt l⟩ ⟨r.val % 2048, by omega⟩ k) := by
  pointwise [drows]
  rw [Fin.sum_univ_one]
  refine sum_congr rfl fun k _ => dscore_congr (Fin.ext ?_) (Fin.ext ?_) (Fin.ext ?_) rfl
  · simp
  · simp; omega
  · simp

theorem dcols_read (r : Fin 8192) (l : Fin 512) : dcols x u g (ix2 r l)
    = -∑ k : Fin 2048, -dscore x u g (ix4 ⟨r.val / 2048, by omega⟩ ⟨_, mate_lt l⟩ k ⟨r.val % 2048, by omega⟩) := by
  pointwise [dcols]
  rw [Fin.sum_univ_one]
  refine congrArg _ (sum_congr rfl fun k _ => congrArg _ (dscore_congr (Fin.ext ?_) (Fin.ext ?_) rfl (Fin.ext ?_)))
  · simp
  · simp; omega
  · simp

/-- The rows' gradient: a head's lanes hold its mate's. -/
theorem drows_at (hx : AllReal x) (hu : AllReal u) (hg : AllReal g) (r : Fin 8192) (l : Fin 512) :
    drows x u g (ix2 r l) = (((headOf x u g (r.val / 2048) (l.val / 64 / 2 * 2 + (1 - l.val / 64 % 2))).drow (r.val % 2048) : ℝ) : EReal) := by
  rw [drows_read]
  exact coe_sum 2048 _ (fun k => (headOf x u g (r.val / 2048) (l.val / 64 / 2 * 2 + (1 - l.val / 64 % 2))).ds (r.val % 2048) k)
    fun k => by rw [dscore_at hx hu hg]

/-- The columns' gradient, likewise. -/
theorem dcols_at (hx : AllReal x) (hu : AllReal u) (hg : AllReal g) (r : Fin 8192) (l : Fin 512) :
    dcols x u g (ix2 r l) = (((headOf x u g (r.val / 2048) (l.val / 64 / 2 * 2 + (1 - l.val / 64 % 2))).dcol (r.val % 2048) : ℝ) : EReal) := by
  rw [dcols_read, coe_sum 2048 _ (fun k => -(headOf x u g (r.val / 2048) (l.val / 64 / 2 * 2 + (1 - l.val / 64 % 2))).ds k (r.val % 2048))
    fun k => by rw [dscore_at hx hu hg, EReal.coe_neg], ← EReal.coe_neg, Finset.sum_neg_distrib, neg_neg]
  unfold Head.dcol
  rfl

end Cert.ReferenceIdeal.Fox

end
-- ==== Proof.Final.lean ====
/- The arrays the kernel leaves, over the real numbers: the reference's, element by element. -/
module

public import proofs.«01_k».proof.Proof.Found
public import proofs.«01_k».proof.Proof.Ref

@[expose] public section

set_option maxRecDepth 16384

noncomputable section

namespace Cert.KernelIdeal.Fox

open Idealize.ShloMosaic Idealize.ShloMosaic.TcCoe
open Cert.KernelIdeal.Gen
open _root_.Fox
open Finset (range sum_congr)

variable (m : (ℓ : Loc nD τ sig) → Buf (Elt Ideal) ℓ)

/-- Head `w` of the four that the points `4 p … 4 p + 3` work on. -/
abbrev headOn (c : Dev nD) (p : ℕ) (w : ℕ) : Head := headOf (argX m c) (argU m c) (argG m c) (p / 2) (4 * (p % 2) + w)

theorem reads_at (c : Dev nD) (hf : Finite m c) (n : ℕ) (h : n < cfg0.N) (p kb : ℕ) (hn : n = 4 * p + kb) (hk : kb < 4) :
    Reads (found m c ⟨n, h⟩) (headOn m c p) kb := by
  have R := found_reads m c hf ⟨n, h⟩
  have e0 : n % 4 = kb := by omega
  have e1 : headAt m c n = headOn m c p := by
    funext w
    show headOf _ _ _ (n / 8) (4 * (n / 4 % 2) + w) = headOf _ _ _ (p / 2) (4 * (p % 2) + w)
    rw [show n / 8 = p / 2 by omega, show n / 4 = p by omega]
  rw [← e0, ← e1]
  exact R

theorem blank_at (i : Fin 2048) (l : Fin 256) : (blank : Vec Ideal S2048x256 .f32) (ix2 i l) = ((0 : ℝ) : EReal) := by
  show Ideal.ofBits .f32 0x00000000#32 = _
  rw [Ideal.ofBits_zero, EReal.coe_zero]

/-- The queries' gradient, the key blocks so far. -/
theorem dqAcc_at (c : Dev nD) (hf : Finite m c) (p : ℕ) (i : Fin 2048) (l : Fin 256) : ∀ (kb n : ℕ) (hn : n = 4 * p + kb) (hk : kb < 4) (h : n < cfg0.N),
    dqAcc m c n h (ix2 i l) = ((∑ a ∈ range (kb + 1), ∑ s ∈ range 512,
      (headOn m c p (l.val / 64)).ds i.val (512 * a + s) * ((headOn m c p (l.val / 64)).k (512 * a + s) (l.val % 64) * (1 / 8)) : ℝ) : EReal)
  | 0, n, hn, hk, h => by
    have R := reads_at m c hf n h p 0 hn hk
    rw [dqAcc_first m c n h (by omega), show n % 4 = 0 by omega, dqOut_at R hk blank 0 i l (blank_at i l), Finset.sum_range_one, zero_add]
  | kb + 1, n, hn, hk, h => by
    have R := reads_at m c hf n h p (kb + 1) hn hk
    have e := dqAcc_at c hf p i l kb (n - 1) (by omega) (by omega) (Nat.lt_of_le_of_lt (Nat.sub_le _ _) h)
    rw [dqAcc_next m c n h (by omega), show n % 4 = kb + 1 by omega, dqOut_at R hk _ _ i l e, Finset.sum_range_succ _ (kb + 1)]

theorem drowAcc_at (c : Dev nD) (hf : Finite m c) (p : ℕ) (i : Fin 2048) (l : Fin 256) : ∀ (kb n : ℕ) (hn : n = 4 * p + kb) (hk : kb < 4) (h : n < cfg0.N),
    drowAcc m c n h (ix2 i l) = ((∑ a ∈ range (kb + 1), ∑ s ∈ range 512, (headOn m c p (other (l.val / 64))).ds i.val (512 * a + s) : ℝ) : EReal)
  | 0, n, hn, hk, h => by
    have R := reads_at m c hf n h p 0 hn hk
    rw [drowAcc_first m c n h (by omega), show n % 4 = 0 by omega, drowOut_at R hk blank 0 i l (blank_at i l), Finset.sum_range_one, zero_add]
  | kb + 1, n, hn, hk, h => by
    have R := reads_at m c hf n h p (kb + 1) hn hk
    have e := drowAcc_at c hf p i l kb (n - 1) (by omega) (by omega) (Nat.lt_of_le_of_lt (Nat.sub_le _ _) h)
    rw [drowAcc_next m c n h (by omega), show n % 4 = kb + 1 by omega, drowOut_at R hk _ _ i l e, Finset.sum_range_succ _ (kb + 1)]

theorem dqAcc_last (c : Dev nD) (hf : Finite m c) (t : Fin cfg0.N) (h3 : t.val % 4 = 3) (i : Fin 2048) (l : Fin 256) :
    dqAcc m c t.val t.isLt (ix2 i l) = (((headOn m c (t.val / 4) (l.val / 64)).dq i.val (l.val % 64) : ℝ) : EReal) := by
  rw [dqAcc_at m c hf (t.val / 4) i l 3 t.val (by omega) (by omega) t.isLt, Head.dq, sum_blocks]

theorem drowAcc_last (c : Dev nD) (hf : Finite m c) (t : Fin cfg0.N) (h3 : t.val % 4 = 3) (i : Fin 2048) (l : Fin 256) :
    drowAcc m c t.val t.isLt (ix2 i l) = (((headOn m c (t.val / 4) (other (l.val / 64))).drow i.val : ℝ) : EReal) := by
  rw [drowAcc_at m c hf (t.val / 4) i l 3 t.val (by omega) (by omega) t.isLt, Head.drow, sum_blocks]

/-- One head, named by its place among all eight. -/
theorem headOn_eq (c : Dev nD) (p w b n : ℕ) (hb : p / 2 = b) (hn : 4 * (p % 2) + w = n) :
    headOn m c p w = headOf (argX m c) (argU m c) (argG m c) b n := by
  subst hb hn; rfl

theorem dq_cell (c : Dev nD) (hf : Finite m c) (t : Fin cfg0.N) (h3 : t.val % 4 = 3) (i : Fin 2048) (l : Fin 256) (r : Fin 8192) (l' : Fin 512)
    (hr : r.val = t.val / 8 * 2048 + i.val) (hl : l'.val = t.val / 4 % 2 * 256 + l.val) :
    dqAcc m c t.val t.isLt (ix2 i l) = Cert.ReferenceIdeal.Fox.dqs (argX m c) (argU m c) (argG m c) (ix2 r l') := by
  rw [dqAcc_last m c hf t h3 i l, Cert.ReferenceIdeal.Fox.dqs_at hf.x hf.u hf.g r l',
    headOn_eq m c _ _ (r.val / 2048) (l'.val / 64) (by omega) (by omega), show r.val % 2048 = i.val by omega, show l'.val % 64 = l.val % 64 by omega]

theorem drow_cell (c : Dev nD) (hf : Finite m c) (t : Fin cfg0.N) (h3 : t.val % 4 = 3) (i : Fin 2048) (l : Fin 256) (r : Fin 8192) (l' : Fin 512)
    (hr : r.val = t.val / 8 * 2048 + i.val) (hl : l'.val = t.val / 4 % 2 * 256 + l.val) :
    drowAcc m c t.val t.isLt (ix2 i l) = Cert.ReferenceIdeal.Fox.drows (argX m c) (argU m c) (argG m c) (ix2 r l') := by
  rw [drowAcc_last m c hf t h3 i l, Cert.ReferenceIdeal.Fox.drows_at hf.x hf.u hf.g r l',
    headOn_eq m c _ _ (r.val / 2048) (l'.val / 64 / 2 * 2 + (1 - l'.val / 64 % 2)) (by omega) (by unfold other; omega), show r.val % 2048 = i.val by omega]

theorem dk_cell (c : Dev nD) (hf : Finite m c) (t : Fin cfg0.N) (s : Fin 512) (l : Fin 256) (r : Fin 8192) (l' : Fin 512)
    (hr : r.val = (t.val / 8 * 4 + t.val % 4) * 512 + s.val) (hl : l'.val = t.val / 4 % 2 * 256 + l.val) :
    dkOut (found m c t) (t.val % 4) (ix2 s l) = Cert.ReferenceIdeal.Fox.dks (argX m c) (argU m c) (argG m c) (ix2 r l') := by
  have R := reads_at m c hf t.val t.isLt (t.val / 4) (t.val % 4) (by omega) (by omega)
  rw [dkOut_at R (by omega) s l, Cert.ReferenceIdeal.Fox.dks_at hf.x hf.u hf.g r l',
    headOn_eq m c _ _ (r.val / 2048) (l'.val / 64) (by omega) (by omega), show r.val % 2048 = 512 * (t.val % 4) + s.val by omega, show l'.val % 64 = l.val % 64 by omega]

theorem dv_cell (c : Dev nD) (hf : Finite m c) (t : Fin cfg0.N) (s : Fin 512) (l : Fin 256) (r : Fin 8192) (l' : Fin 512)
    (hr : r.val = (t.val / 8 * 4 + t.val % 4) * 512 + s.val) (hl : l'.val = t.val / 4 % 2 * 256 + l.val) :
    dvOut (found m c t) (t.val % 4) (ix2 s l) = Cert.ReferenceIdeal.Fox.dvs (argX m c) (argU m c) (argG m c) (ix2 r l') := by
  have R := reads_at m c hf t.val t.isLt (t.val / 4) (t.val % 4) (by omega) (by omega)
  rw [dvOut_at R (by omega) s l, Cert.ReferenceIdeal.Fox.dvs_at hf.x hf.u hf.g r l',
    headOn_eq m c _ _ (r.val / 2048) (l'.val / 64) (by omega) (by omega), show r.val % 2048 = 512 * (t.val % 4) + s.val by omega, show l'.val % 64 = l.val % 64 by omega]

theorem dcol_cell (c : Dev nD) (hf : Finite m c) (t : Fin cfg0.N) (s : Fin 512) (l : Fin 256) (r : Fin 8192) (l' : Fin 512)
    (hr : r.val = (t.val / 8 * 4 + t.val % 4) * 512 + s.val) (hl : l'.val = t.val / 4 % 2 * 256 + l.val) :
    dcolOut (found m c t) (t.val % 4) (ix2 s l) = Cert.ReferenceIdeal.Fox.dcols (argX m c) (argU m c) (argG m c) (ix2 r l') := by
  have R := reads_at m c hf t.val t.isLt (t.val / 4) (t.val % 4) (by omega) (by omega)
  rw [dcolOut_at R (by omega) s l, Cert.ReferenceIdeal.Fox.dcols_at hf.x hf.u hf.g r l',
    headOn_eq m c _ _ (r.val / 2048) (l'.val / 64 / 2 * 2 + (1 - l'.val / 64 % 2)) (by omega) (by unfold other; omega), show r.val % 2048 = 512 * (t.val % 4) + s.val by omega]

/-- An index by its coordinates. -/
theorem ix2_eta {a b : ℕ} (y : (⟨2, ![a, b]⟩ : Shape).Idx) : ix2 (y 0) (y 1) = y := by
  funext q
  match q with
  | ⟨0, _⟩ => rfl
  | ⟨1, _⟩ => rfl

theorem dq_arr (c : Dev nD) (hf : Finite m c) : (dats m 0 c).arrAt 7 (cfg0 : Pipeline.Cfg sig Λ₀).N
    = Cert.ReferenceIdeal.Fox.dqs (argX m c) (argU m c) (argG m c) := by
  refine (dats m 0 c).arrAt_eq_of_covers 7 _ (by decide +kernel) fun t hfl y => ?_
  blk_simp
  rw [after0_7, ← ix2_eta (((cfg0.win 7).blk t).view.emb y)]
  refine Eq.trans (congrArg (dqAcc m c t.val t.isLt) (ix2_eta y).symm) ?_
  refine dq_cell m c hf t ((flush0_7 t).mp hfl) (y 0) (y 1) _ _ ?_ ?_
  · blk_simp [idx7 t]
  · blk_simp [idx7 t]

theorem dk_arr (c : Dev nD) (hf : Finite m c) : (dats m 0 c).arrAt 8 (cfg0 : Pipeline.Cfg sig Λ₀).N
    = Cert.ReferenceIdeal.Fox.dks (argX m c) (argU m c) (argG m c) := by
  refine (dats m 0 c).arrAt_eq_of_covers 8 _ (by decide +kernel) fun t hfl y => ?_
  blk_simp
  rw [after0_8, ← ix2_eta (((cfg0.win 8).blk t).view.emb y)]
  refine Eq.trans (congrArg (dkOut (found m c t) (t.val % 4)) (ix2_eta y).symm) ?_
  refine dk_cell m c hf t (y 0) (y 1) _ _ ?_ ?_
  · blk_simp [idx8 t]
  · blk_simp [idx8 t]

theorem dv_arr (c : Dev nD) (hf : Finite m c) : (dats m 0 c).arrAt 9 (cfg0 : Pipeline.Cfg sig Λ₀).N
    = Cert.ReferenceIdeal.Fox.dvs (argX m c) (argU m c) (argG m c) := by
  refine (dats m 0 c).arrAt_eq_of_covers 9 _ (by decide +kernel) fun t hfl y => ?_
  blk_simp
  rw [after0_9, ← ix2_eta (((cfg0.win 9).blk t).view.emb y)]
  refine Eq.trans (congrArg (dvOut (found m c t) (t.val % 4)) (ix2_eta y).symm) ?_
  refine dv_cell m c hf t (y 0) (y 1) _ _ ?_ ?_
  · blk_simp [idx9 t]
  · blk_simp [idx9 t]

theorem drow_arr (c : Dev nD) (hf : Finite m c) : (dats m 0 c).arrAt 10 (cfg0 : Pipeline.Cfg sig Λ₀).N
    = Cert.ReferenceIdeal.Fox.drows (argX m c) (argU m c) (argG m c) := by
  refine (dats m 0 c).arrAt_eq_of_covers 10 _ (by decide +kernel) fun t hfl y => ?_
  blk_simp
  rw [after0_10, ← ix2_eta (((cfg0.win 10).blk t).view.emb y)]
  refine Eq.trans (congrArg (drowAcc m c t.val t.isLt) (ix2_eta y).symm) ?_
  refine drow_cell m c hf t ((flush0_10 t).mp hfl) (y 0) (y 1) _ _ ?_ ?_
  · blk_simp [idx10 t]
  · blk_simp [idx10 t]

theorem dcol_arr (c : Dev nD) (hf : Finite m c) : (dats m 0 c).arrAt 11 (cfg0 : Pipeline.Cfg sig Λ₀).N
    = Cert.ReferenceIdeal.Fox.dcols (argX m c) (argU m c) (argG m c) := by
  refine (dats m 0 c).arrAt_eq_of_covers 11 _ (by decide +kernel) fun t hfl y => ?_
  blk_simp
  rw [after0_11, ← ix2_eta (((cfg0.win 11).blk t).view.emb y)]
  refine Eq.trans (congrArg (dcolOut (found m c t) (t.val % 4)) (ix2_eta y).symm) ?_
  refine dcol_cell m c hf t (y 0) (y 1) _ _ ?_ ?_
  · blk_simp [idx11 t]
  · blk_simp [idx11 t]

end Cert.KernelIdeal.Fox

end
-- ==== Proof.Claims.lean ====
/- The two runs end with equal results. -/
module

public import proofs.«01_k».proof.Defs
public import proofs.«01_k».proof.Proof.Final

@[expose] public section

set_option maxRecDepth 16384

noncomputable section

namespace Cert.Proof

open Idealize.ShloMosaic Idealize.ShloMosaic.TcCoe Idealize.SL.Sem
open _root_.Fox (AllReal)

instance preFacts : Cert.Pre_finite_arguments.Facts where
  bitsLt_bf16_f32 := by decide
  bcast_S_S8192x1536 := by decide
  bcast_S_S4x8x2048 := by decide
  bcast_S_S8192x512 := by decide

theorem inf_eq : Ideal.ofBits .f32 0x7F800000#32 = (⊤ : EReal) := by
  simp [Ideal.ofBits, Ideal.ieee]

/-- A number whose magnitude is below infinity is real. -/
theorem real_of_lt (x : EReal) (h : Ideal.cmp .olt (max x (-x)) (⊤ : EReal) = 1#1) : x = ((x.toReal : ℝ) : EReal) := by
  have hlt : max x (-x) < ⊤ := by
    by_contra hn
    simp [Ideal.cmp, hn] at h
  have h1 := lt_of_le_of_lt (le_max_left x (-x)) hlt
  have h2 := lt_of_le_of_lt (le_max_right x (-x)) hlt
  refine _root_.Fox.coe_of_abs_lt (fun e => ?_) h1.ne
  rw [e, EReal.neg_bot] at h2
  exact lt_irrefl _ h2

theorem finite_of_pre (m : (ℓ : Loc Cert.KernelIdeal.nD Cert.KernelIdeal.τ Cert.KernelIdeal.sig) → Buf (Elt Ideal) ℓ)
    (h : Cert.Pre_KernelIdeal_finite_arguments m) (c : Dev Cert.KernelIdeal.nD) : Cert.KernelIdeal.Fox.Finite m c where
  x j := real_of_lt _ (by rw [← inf_eq]; exact congrFun (h c).1 j)
  u j := real_of_lt _ (by rw [← inf_eq]; exact congrFun (h c).2.1 j)
  g j := real_of_lt _ (by rw [← inf_eq]; exact congrFun (h c).2.2 j)

theorem frame_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

open Cert.KernelIdeal Cert.KernelIdeal.Gen Cert.KernelIdeal.Fox in
/-- The kernel ends with the reference's arrays. -/
theorem run_kernel (m : (ℓ : Loc Cert.KernelIdeal.nD Cert.KernelIdeal.τ Cert.KernelIdeal.sig) → Buf (Elt Ideal) ℓ) (g : Dev Cert.KernelIdeal.nD → PrngReg)
    (hf : ∀ c, Cert.KernelIdeal.Fox.Finite m c) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v44_0) = Cert.ReferenceIdeal.Fox.dqs (argX m c) (argU m c) (argG m c)
      ∧ r.2.mem ((c.tc : Thread Cert.KernelIdeal.nD Cert.KernelIdeal.τ).loc Cert.KernelIdeal.main_v44_1) = Cert.ReferenceIdeal.Fox.dks (argX m c) (argU m c) (argG m c)
      ∧ r.2.mem ((c.tc : Thread Cert.KernelIdeal.nD Cert.KernelIdeal.τ).loc Cert.KernelIdeal.main_v44_2) = Cert.ReferenceIdeal.Fox.dvs (argX m c) (argU m c) (argG m c)
      ∧ r.2.mem ((c.tc : Thread Cert.KernelIdeal.nD Cert.KernelIdeal.τ).loc Cert.KernelIdeal.main_v44_3) = Cert.ReferenceIdeal.Fox.drows (argX m c) (argU m c) (argG m c)
      ∧ r.2.mem ((c.tc : Thread Cert.KernelIdeal.nD Cert.KernelIdeal.τ).loc Cert.KernelIdeal.main_v44_4) = Cert.ReferenceIdeal.Fox.dcols (argX m c) (argU m c) (argG m c)) :=
  (θ_run Cert.KernelIdeal.defs _ _).mono (fun r h c => ⟨((h c).1 7).trans (dq_arr m c (hf c)), ((h c).1 8).trans (dk_arr m c (hf c)),
    ((h c).1 9).trans (dv_arr m c (hf c)), ((h c).1 10).trans (drow_arr m c (hf c)), ((h c).1 11).trans (dcol_arr m c (hf c))⟩)
    (Cert.KernelIdeal.Fox.run_main m g)

open Cert.KernelIdeal.Fox Cert.ReferenceIdeal.Fox in
theorem algebraic : Cert.algebraic_KernelIdeal_ReferenceIdeal_pre_finite_arguments := by
  intro m g m' g' hpre hag
  have hf := finite_of_pre m hpre
  refine ⟨fun c => dqs (argX m c) (argU m c) (argG m c), fun c => dks (argX m c) (argU m c) (argG m c), fun c => dvs (argX m c) (argU m c) (argG m c),
    fun c => drows (argX m c) (argU m c) (argG m c), fun c => dcols (argX m c) (argU m c) (argG m c), ?_, ?_⟩
  · exact (θ_run Cert.KernelIdeal.defs _ _).mono
      (fun r h c => ⟨(h.1 c).1, (h.1 c).2.1, (h.1 c).2.2.1, (h.1 c).2.2.2.1, (h.1 c).2.2.2.2, (h.2 c).1, (h.2 c).2.1, (h.2 c).2.2⟩)
      (θ_run_and (run_kernel m g hf) (Cert.KernelIdeal.Fox.unchanged m g))
  · refine (θ_run Cert.ReferenceIdeal.defs _ _).mono (fun r h c => ?_) (Cert.ReferenceIdeal.Value.run (F := Ideal) m' g')
    obtain ⟨h0, h1, h2, h3, h4, h5⟩ := h c
    obtain ⟨a0, a1, a2⟩ := hag c
    refine ⟨h0.trans ((dqs_eq m' c).trans ?_), h1.trans ((dks_eq m' c).trans ?_), h2.trans ((dvs_eq m' c).trans ?_),
      h3.trans ((drows_eq m' c).trans ?_), h4.trans ((dcols_eq m' c).trans ?_), h5⟩
    all_goals rw [a0, a1, a2]

end Cert.Proof

end
-- ==== Proof.Blocks.lean ====
/- A sum over rows taken block by block. -/
module

public import Idealize.ShloMosaic.Lib.Pointwise

@[expose] public section

namespace Dw

open Finset (range)

/-- Adding up `n` blocks of `b` terms is adding up the `n b` terms. -/
theorem sum_blocks {M : Type} [AddCommMonoid M] (f : ℕ → M) (b n : ℕ) :
    ∑ a ∈ range n, ∑ k ∈ range b, f (b * a + k) = ∑ t ∈ range (b * n), f t := by
  induction n with
  | zero => simp
  | succ n ih => rw [Finset.sum_range_succ, ih, Nat.mul_succ, Finset.sum_range_add]

/-- Four blocks of 2048 rows are the 8192 rows. -/
theorem sum_four (f : Fin 8192 → EReal) (g : ℕ → Fin 2048 → EReal) (h : ∀ a : ℕ, a < 4 → ∀ k : Fin 2048, ∀ t : Fin 8192, t.val = 2048 * a + k.val → g a k = f t) :
    ∑ a ∈ range 4, ∑ k : Fin 2048, g a k = ∑ t : Fin 8192, f t := by
  have e : ∀ t : Fin 8192, f t = (fun n : ℕ => f ⟨n % 8192, Nat.mod_lt _ (by decide)⟩) t.val := fun t =>
    congrArg f (Fin.ext (Nat.mod_eq_of_lt t.isLt).symm)
  rw [Finset.sum_congr rfl fun t _ => e t, Fin.sum_univ_eq_sum_range (fun n : ℕ => f ⟨n % 8192, Nat.mod_lt _ (by decide)⟩) 8192,
    show range 8192 = range (2048 * 4) from rfl, ← sum_blocks]
  refine Finset.sum_congr rfl fun a ha => ?_
  rw [← Fin.sum_univ_eq_sum_range (fun k : ℕ => f ⟨(2048 * a + k) % 8192, Nat.mod_lt _ (by decide)⟩) 2048]
  have ha' := Finset.mem_range.mp ha
  exact Finset.sum_congr rfl fun k _ => h a ha' k _ (Nat.mod_eq_of_lt (by have := k.isLt; omega))

end Dw
-- ==== Proof.UpGrad.lean ====
/- The gradient of the gate and up weights: what the kernel leaves and what the reference leaves. -/
module

public import proofs.«01_k».proof.Proof.Gen.Kernel2Ideal.Value
public import proofs.«01_k».proof.Proof.Gen.Reference2Ideal.Run
public import proofs.«01_k».proof.Proof.Blocks
public import Idealize.ShloMosaic.Lib.Pipeline.ValueKit
public import Idealize.ShloMosaic.Lib.StableHlo.ReadAt

@[expose] public section

set_option maxRecDepth 16384

noncomputable section

namespace Cert.Kernel2Ideal.Dw

open Idealize.ShloMosaic Idealize.ShloMosaic.TcCoe
open Cert.Kernel2Ideal.Gen
open Finset (range)

variable (m : (ℓ : Loc nD τ sig) → Buf (Elt Ideal) ℓ)

/-- The layer's input. -/
abbrev inX (c : Dev nD) : S8192x1024.Idx → EReal := m ((c.tc : Thread nD τ).loc main_arg0)
/-- The cotangents of the gate and of the up product. -/
abbrev inG (c : Dev nD) : S2x8192x2816.Idx → EReal := m ((c.tc : Thread nD τ).loc main_arg1)

/-- The product of one gradient column with one input column. -/
def grad (x : S8192x1024.Idx → EReal) (d : S2x8192x2816.Idx → EReal) : S2x2816x1024.Idx → EReal :=
  fun i => ∑ t : Fin 8192, d (ix3 (i 0) t (i 1)) * x (ix2 t (i 2))

theorem idx0 : ∀ t : Fin cfg0.N, win0_0.index t = ![t.val / 8, t.val % 4, t.val / 4 % 2] := (by decide +kernel : ∀ t : Fin grid0.N, _)
theorem idx1 : ∀ t : Fin cfg0.N, win0_1.index t = ![0, t.val % 4, 0] := (by decide +kernel : ∀ t : Fin grid0.N, _)
theorem idx2 : ∀ t : Fin cfg0.N, win0_2.index t = ![t.val / 8, t.val / 4 % 2, 0] := (by decide +kernel : ∀ t : Fin grid0.N, _)

theorem V_x (c : Dev nD) : V m c main_v0 = broadcastInDim S1x8192x1024 ![1, 2] bcast_S8192x1024_S1x8192x1024_1_2 (m ((c.tc : Thread nD τ).loc main_arg0)) := by
  unfold V; after_reads_simp
theorem V_g (c : Dev nD) : V m c main_arg1 = m ((c.tc : Thread nD τ).loc main_arg1) := by
  unfold V; after_reads_simp

theorem blk0 (c : Dev nD) (t : Fin cfg0.N) (k : Fin 2048) (r : Fin 1408) (g : Fin 2) (k' : Fin 8192) (r' : Fin 2816)
    (hg : g.val = t.val / 8) (hk : k'.val = 2048 * (t.val % 4) + k.val) (hr : r'.val = 1408 * (t.val / 4 % 2) + r.val) :
    iblk m c 0 t (ix3 0 k r) = inG m c (ix3 g k' r') := by
  unfold iblk
  refine (congrArg (V m c main_arg1) (funext fun a => Fin.ext ?_)).trans (congrFun (V_g m c) (ix3 g k' r'))
  match a with
  | ⟨0, _⟩ => blk_simp [idx0 t]; omega
  | ⟨1, _⟩ => blk_simp [idx0 t]; omega
  | ⟨2, _⟩ => blk_simp [idx0 t]; omega

theorem blk1 (c : Dev nD) (t : Fin cfg0.N) (k : Fin 2048) (l : Fin 1024) (k' : Fin 8192)
    (hk : k'.val = 2048 * (t.val % 4) + k.val) :
    iblk m c 1 t (ix3 0 k l) = inX m c (ix2 k' l) := by
  unfold iblk
  refine (congrArg (V m c main_v0) (a₂ := ix3 0 k' l) (funext fun a => Fin.ext ?_)).trans ?_
  · match a with
    | ⟨0, _⟩ => blk_simp [idx1 t]
    | ⟨1, _⟩ => blk_simp [idx1 t]; omega
    | ⟨2, _⟩ => blk_simp [idx1 t]
  · rw [V_x]; pointwise

/-- One product of a block's two entries. -/
abbrev mul2 (a : S1x2048x1408.Idx → EReal) (b : S1x2048x1024.Idx → EReal) (k : Fin 2048) (r : Fin 1408) (l : Fin 1024) : EReal := a (ix3 0 k r) * b (ix3 0 k l)

/-- One block's part of an element. -/
def part (c : Dev nD) (n : ℕ) (i : S1x1408x1024.Idx) : EReal :=
  if h : n < cfg0.N then ∑ k : Fin 2048, mul2 (iblk m c 0 ⟨n, h⟩) (iblk m c 1 ⟨n, h⟩) k (i 1) (i 2) else 0

theorem first (c : Dev nD) (t : Fin cfg0.N) (h : t.val % 4 = 0) (i : S1x1408x1024.Idx) :
    outsAt0 m c t.val t.isLt i = 0 + part m c t.val i := by
  rw [outsAt0_A m c t h (by omega)]
  frame_out
  unfold part
  rw [dif_pos t.isLt]
  pointwise [k0_pay2, k0_pay1]

theorem next (c : Dev nD) (t : Fin cfg0.N) (h : ¬t.val % 4 = 0) (i : S1x1408x1024.Idx) :
    outsAt0 m c t.val t.isLt i = outsAt0 m c (t.val - 1) (Nat.lt_of_le_of_lt (Nat.sub_le _ _) t.isLt) i + part m c t.val i := by
  rw [outsAt0_B m c t h (by omega)]
  frame_out
  unfold part
  rw [dif_pos t.isLt]
  pointwise [k0_pay3, k0_pay1]

theorem cell (c : Dev nD) (t : Fin cfg0.N) (h : t.val % 4 = 3) (i : S1x1408x1024.Idx) (j : S2x2816x1024.Idx)
    (h0 : (j 0).val = t.val / 8) (h1 : (j 1).val = 1408 * (t.val / 4 % 2) + (i 1).val) (h2 : (j 2).val = (i 2).val) :
    outsAt0 m c t.val t.isLt i = grad (inX m c) (inG m c) j := by
  refine (Pipeline.eq_sum_of_reset_step_apply_of_mod (fun n hn => outsAt0 m c n hn) 4 (fun _ => 0) (part m c)
    (first m c) (next m c) t h i).trans ?_
  rw [zero_add]
  have hN : t.val < 16 := t.isLt
  refine (Finset.sum_congr rfl fun a ha => ?_).trans (Dw.sum_four (fun t' => inG m c (ix3 (j 0) t' (j 1)) * inX m c (ix2 t' (j 2)))
    (fun a k => inG m c (ix3 (j 0) ⟨(2048 * a + k.val) % 8192, Nat.mod_lt _ (by decide)⟩ (j 1)) * inX m c (ix2 ⟨(2048 * a + k.val) % 8192, Nat.mod_lt _ (by decide)⟩ (j 2))) ?_)
  · have ha' := Finset.mem_range.mp ha
    have hlt : 4 * (t.val / 4) + a < cfg0.N := (by omega : 4 * (t.val / 4) + a < 16)
    unfold part
    rw [dif_pos hlt]
    refine Finset.sum_congr rfl fun k _ => ?_
    have hk := k.isLt
    have e2 : i 2 = j 2 := Fin.ext h2.symm
    refine (congrArg₂ (fun u v : EReal => u * v) (blk0 m c ⟨_, hlt⟩ k (i 1) (j 0) ⟨(2048 * a + k.val) % 8192, Nat.mod_lt _ (by decide)⟩ (j 1) (by show _ = (4 * (t.val / 4) + a) / 8; omega)
        (by show (2048 * a + k.val) % 8192 = 2048 * ((4 * (t.val / 4) + a) % 4) + _; omega) (by show _ = 1408 * ((4 * (t.val / 4) + a) / 4 % 2) + _; omega))
      (blk1 m c ⟨_, hlt⟩ k (i 2) ⟨(2048 * a + k.val) % 8192, Nat.mod_lt _ (by decide)⟩
        (by show (2048 * a + k.val) % 8192 = 2048 * ((4 * (t.val / 4) + a) % 4) + _; omega))).trans ?_
    rw [e2]
  · intro a ha k t' ht
    have e : (⟨(2048 * a + k.val) % 8192, Nat.mod_lt _ (by decide)⟩ : Fin 8192) = t' := Fin.ext (by have := t'.isLt; show (2048 * a + k.val) % 8192 = _; omega)
    rw [e]

theorem arr (c : Dev nD) : (dats m 0 c).arrAt 2 (cfg0 : Pipeline.Cfg sig Λ₀).N = grad (inX m c) (inG m c) := by
  refine (dats m 0 c).arrAt_eq_of_covers 2 _ (by decide +kernel) fun t hfl y => ?_
  blk_simp
  rw [after0_2]
  refine cell m c t ((flush0_2 t).mp hfl) y _ ?_ ?_ ?_
  · blk_simp [idx2 t]
  · blk_simp [idx2 t]; omega
  · blk_simp [idx2 t]

theorem run (g : Dev nD → PrngReg) : θ_run defs (onTc (τ := τ) (main (F := Ideal))) ⟨m, fun _ => 0, g⟩ fun r => ∀ c : Dev nD,
      r.2.mem ((c.tc : Thread nD τ).loc main_v2) = grad (inX m c) (inG m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr m c), (h c).2⟩) (Value.run_blocks m g)

end Cert.Kernel2Ideal.Dw

namespace Cert.Reference2Ideal.Dw

open Idealize.ShloMosaic Idealize.ShloMosaic.TcCoe
open Cert.Reference2Ideal.Gen

/-- The cotangents of the two products side by side. -/
def both (d : FVec Ideal S2x8192x2816 .bf16) : FVec Ideal S8192x5632 .f32 :=
  concatenate S8192x5632 1 [⟨S8192x2816, (extf .f32 (shapeCast _ (extractStridedSlice S1x8192x2816 ![0, 0, 0] d slices_S2x8192x2816_S1x8192x2816_0_0_0) shapeCasts_S1x8192x2816_S8192x2816) bitsLt_bf16_f32)⟩, ⟨S8192x2816, (extf .f32 (shapeCast _ (extractStridedSlice S1x8192x2816 ![1, 0, 0] d slices_S2x8192x2816_S1x8192x2816_1_0_0) shapeCasts_S1x8192x2816_S8192x2816) bitsLt_bf16_f32)⟩] concatenates_S8192x2816_S8192x2816_S8192x5632_d1

/-- The reference's result. -/
def result (x : FVec Ideal S8192x1024 .bf16) (d : FVec Ideal S2x8192x2816 .bf16) : FVec Ideal S2x2816x1024 .f32 :=
  shapeCast _ (transpose S5632x1024 [1, 0] (transpose S1024x5632 [1, 0] (Host.dotGeneral dot_S8192x5632_S8192x1024_S5632x1024_0_0_1_1_n_n none (both d) (extf .f32 x bitsLt_bf16_f32)) transposes_S5632x1024_S1024x5632_1_0) transposes_S1024x5632_S5632x1024_1_0) shapeCasts_S5632x1024_S2x2816x1024

theorem both_at (d : FVec Ideal S2x8192x2816 .bf16) (t : Fin 8192) (l : Fin 5632) (g : Fin 2) (r : Fin 2816) (h : l.val = 2816 * g.val + r.val) :
    both d (ix2 t l) = d (ix3 g t r) := by
  pointwise [both]
  have hr := r.isLt
  match g with
  | ⟨0, _⟩ =>
    simp only [Nat.mul_zero, Nat.zero_add] at h
    rw [dif_pos (by omega)]
    exact congrArg (fun s => d (ix3 0 t s)) (Fin.ext h)
  | ⟨1, _⟩ =>
    simp only [Nat.mul_one] at h
    rw [dif_neg (by omega)]
    exact congrArg (fun s => d (ix3 1 t s)) (Fin.ext (by show l.val - 2816 = r.val; omega))

theorem result_at (x : FVec Ideal S8192x1024 .bf16) (d : FVec Ideal S2x8192x2816 .bf16) (g : Fin 2) (r : Fin 2816) (l : Fin 1024) :
    result x d (ix3 g r l) = ∑ t : Fin 8192, d (ix3 g t r) * x (ix2 t l) := by
  pointwise [result]
  refine Finset.sum_congr rfl fun t _ => ?_
  rw [both_at d t _ g r (by first | rfl | (simp; omega))]

theorem result_eq (x : S8192x1024.Idx → EReal) (d : S2x8192x2816.Idx → EReal) : result x d = Cert.Kernel2Ideal.Dw.grad x d := by
  funext i
  rw [← ix3_eta i]
  exact result_at x d (i 0) (i 1) (i 2)

end Cert.Reference2Ideal.Dw

namespace Cert.Proof

open Idealize.ShloMosaic Idealize.ShloMosaic.TcCoe Idealize.SL.Sem

theorem run_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_v15) = Cert.Kernel2Ideal.Dw.grad (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)) :=
  (θ_run Cert.Reference2Ideal.defs _ _).mono (fun r h c => ⟨(h c).1.trans (Cert.Reference2Ideal.Dw.result_eq _ _), (h c).2⟩)
    (Cert.Reference2Ideal.Value.run (F := Ideal) m g)

end Cert.Proof

end
-- ==== Proof.DownGrad.lean ====
/- The gradient of the down weights: what the kernel leaves and what the reference leaves. -/
module

public import proofs.«01_k».proof.Proof.Gen.Kernel3Ideal.Value
public import proofs.«01_k».proof.Proof.Gen.Reference3Ideal.Run
public import proofs.«01_k».proof.Proof.Blocks
public import Idealize.ShloMosaic.Lib.Pipeline.ValueKit
public import Idealize.ShloMosaic.Lib.StableHlo.ReadAt

@[expose] public section

set_option maxRecDepth 16384

noncomputable section

namespace Cert.Kernel3Ideal.Dw

open Idealize.ShloMosaic Idealize.ShloMosaic.TcCoe
open Cert.Kernel3Ideal.Gen
open Finset (range)

variable (m : (ℓ : Loc nD τ sig) → Buf (Elt Ideal) ℓ)

/-- The gated values. -/
abbrev inG (c : Dev nD) : S8192x2816.Idx → EReal := m ((c.tc : Thread nD τ).loc main_arg0)
/-- The cotangent of the down product. -/
abbrev inX (c : Dev nD) : S8192x1024.Idx → EReal := m ((c.tc : Thread nD τ).loc main_arg1)

/-- The product of one column of values with one column of cotangents. -/
def grad (d : S8192x2816.Idx → EReal) (x : S8192x1024.Idx → EReal) : S1x2816x1024.Idx → EReal :=
  fun i => ∑ t : Fin 8192, d (ix2 t (i 1)) * x (ix2 t (i 2))

theorem idx0 : ∀ t : Fin cfg0.N, win0_0.index t = ![0, t.val % 4, t.val / 4 % 2] := (by decide +kernel : ∀ t : Fin grid0.N, _)
theorem idx1 : ∀ t : Fin cfg0.N, win0_1.index t = ![0, t.val % 4, 0] := (by decide +kernel : ∀ t : Fin grid0.N, _)
theorem idx2 : ∀ t : Fin cfg0.N, win0_2.index t = ![0, t.val / 4 % 2, 0] := (by decide +kernel : ∀ t : Fin grid0.N, _)

theorem V_g (c : Dev nD) : V m c main_v0 = broadcastInDim S1x8192x2816 ![1, 2] bcast_S8192x2816_S1x8192x2816_1_2 (m ((c.tc : Thread nD τ).loc main_arg0)) := by
  unfold V; after_reads_simp
theorem V_x (c : Dev nD) : V m c main_v1 = broadcastInDim S1x8192x1024 ![1, 2] bcast_S8192x1024_S1x8192x1024_1_2 (m ((c.tc : Thread nD τ).loc main_arg1)) := by
  unfold V; after_reads_simp

theorem blk0 (c : Dev nD) (t : Fin cfg0.N) (k : Fin 2048) (r : Fin 1408) (k' : Fin 8192) (r' : Fin 2816)
    (hk : k'.val = 2048 * (t.val % 4) + k.val) (hr : r'.val = 1408 * (t.val / 4 % 2) + r.val) :
    iblk m c 0 t (ix3 0 k r) = inG m c (ix2 k' r') := by
  unfold iblk
  refine (congrArg (V m c main_v0) (a₂ := ix3 0 k' r') (funext fun a => Fin.ext ?_)).trans ?_
  · match a with
    | ⟨0, _⟩ => blk_simp [idx0 t]
    | ⟨1, _⟩ => blk_simp [idx0 t]; omega
    | ⟨2, _⟩ => blk_simp [idx0 t]; omega
  · rw [V_g]; pointwise

theorem blk1 (c : Dev nD) (t : Fin cfg0.N) (k : Fin 2048) (l : Fin 1024) (k' : Fin 8192)
    (hk : k'.val = 2048 * (t.val % 4) + k.val) :
    iblk m c 1 t (ix3 0 k l) = inX m c (ix2 k' l) := by
  unfold iblk
  refine (congrArg (V m c main_v1) (a₂ := ix3 0 k' l) (funext fun a => Fin.ext ?_)).trans ?_
  · match a with
    | ⟨0, _⟩ => blk_simp [idx1 t]
    | ⟨1, _⟩ => blk_simp [idx1 t]; omega
    | ⟨2, _⟩ => blk_simp [idx1 t]
  · rw [V_x]; pointwise

/-- One product of a block's two entries. -/
abbrev mul2 (a : S1x2048x1408.Idx → EReal) (b : S1x2048x1024.Idx → EReal) (k : Fin 2048) (r : Fin 1408) (l : Fin 1024) : EReal := a (ix3 0 k r) * b (ix3 0 k l)

/-- One block's part of an element. -/
def part (c : Dev nD) (n : ℕ) (i : S1x1408x1024.Idx) : EReal :=
  if h : n < cfg0.N then ∑ k : Fin 2048, mul2 (iblk m c 0 ⟨n, h⟩) (iblk m c 1 ⟨n, h⟩) k (i 1) (i 2) else 0

theorem first (c : Dev nD) (t : Fin cfg0.N) (h : t.val % 4 = 0) (i : S1x1408x1024.Idx) :
    outsAt0 m c t.val t.isLt i = 0 + part m c t.val i := by
  rw [outsAt0_A m c t h (by omega)]
  frame_out
  unfold part
  rw [dif_pos t.isLt]
  pointwise [k0_pay2, k0_pay1]

theorem next (c : Dev nD) (t : Fin cfg0.N) (h : ¬t.val % 4 = 0) (i : S1x1408x1024.Idx) :
    outsAt0 m c t.val t.isLt i = outsAt0 m c (t.val - 1) (Nat.lt_of_le_of_lt (Nat.sub_le _ _) t.isLt) i + part m c t.val i := by
  rw [outsAt0_B m c t h (by omega)]
  frame_out
  unfold part
  rw [dif_pos t.isLt]
  pointwise [k0_pay3, k0_pay1]

theorem cell (c : Dev nD) (t : Fin cfg0.N) (h : t.val % 4 = 3) (i : S1x1408x1024.Idx) (j : S1x2816x1024.Idx)
    (h1 : (j 1).val = 1408 * (t.val / 4 % 2) + (i 1).val) (h2 : (j 2).val = (i 2).val) :
    outsAt0 m c t.val t.isLt i = grad (inG m c) (inX m c) j := by
  refine (Pipeline.eq_sum_of_reset_step_apply_of_mod (fun n hn => outsAt0 m c n hn) 4 (fun _ => 0) (part m c)
    (first m c) (next m c) t h i).trans ?_
  rw [zero_add]
  have hN : t.val < 8 := t.isLt
  refine (Finset.sum_congr rfl fun a ha => ?_).trans (Dw.sum_four (fun t' => inG m c (ix2 t' (j 1)) * inX m c (ix2 t' (j 2)))
    (fun a k => inG m c (ix2 ⟨(2048 * a + k.val) % 8192, Nat.mod_lt _ (by decide)⟩ (j 1)) * inX m c (ix2 ⟨(2048 * a + k.val) % 8192, Nat.mod_lt _ (by decide)⟩ (j 2))) ?_)
  · have ha' := Finset.mem_range.mp ha
    have hlt : 4 * (t.val / 4) + a < cfg0.N := (by omega : 4 * (t.val / 4) + a < 8)
    unfold part
    rw [dif_pos hlt]
    refine Finset.sum_congr rfl fun k _ => ?_
    have hk := k.isLt
    have e2 : i 2 = j 2 := Fin.ext h2.symm
    refine (congrArg₂ (fun u v : EReal => u * v) (blk0 m c ⟨_, hlt⟩ k (i 1) ⟨(2048 * a + k.val) % 8192, Nat.mod_lt _ (by decide)⟩ (j 1)
        (by show (2048 * a + k.val) % 8192 = 2048 * ((4 * (t.val / 4) + a) % 4) + _; omega) (by show _ = 1408 * ((4 * (t.val / 4) + a) / 4 % 2) + _; omega))
      (blk1 m c ⟨_, hlt⟩ k (i 2) ⟨(2048 * a + k.val) % 8192, Nat.mod_lt _ (by decide)⟩
        (by show (2048 * a + k.val) % 8192 = 2048 * ((4 * (t.val / 4) + a) % 4) + _; omega))).trans ?_
    rw [e2]
  · intro a ha k t' ht
    have e : (⟨(2048 * a + k.val) % 8192, Nat.mod_lt _ (by decide)⟩ : Fin 8192) = t' := Fin.ext (by have := t'.isLt; show (2048 * a + k.val) % 8192 = _; omega)
    rw [e]

theorem arr (c : Dev nD) : (dats m 0 c).arrAt 2 (cfg0 : Pipeline.Cfg sig Λ₀).N = grad (inG m c) (inX m c) := by
  refine (dats m 0 c).arrAt_eq_of_covers 2 _ (by decide +kernel) fun t hfl y => ?_
  blk_simp
  rw [after0_2]
  refine cell m c t ((flush0_2 t).mp hfl) y _ ?_ ?_
  · blk_simp [idx2 t]; omega
  · blk_simp [idx2 t]

theorem run (g : Dev nD → PrngReg) : θ_run defs (onTc (τ := τ) (main (F := Ideal))) ⟨m, fun _ => 0, g⟩ fun r => ∀ c : Dev nD,
      r.2.mem ((c.tc : Thread nD τ).loc main_v3) = grad (inG m c) (inX m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr m c), (h c).2⟩) (Value.run_blocks m g)

end Cert.Kernel3Ideal.Dw

namespace Cert.Reference3Ideal.Dw

open Idealize.ShloMosaic Idealize.ShloMosaic.TcCoe
open Cert.Reference3Ideal.Gen

/-- The reference's result. -/
def result (d : FVec Ideal S8192x2816 .bf16) (x : FVec Ideal S8192x1024 .bf16) : FVec Ideal S1x2816x1024 .f32 :=
  broadcastInDim S1x2816x1024 ![1, 2] bcast_S2816x1024_S1x2816x1024_1_2 (transpose S2816x1024 [1, 0] (Host.dotGeneral dot_S8192x1024_S8192x2816_S1024x2816_0_0_1_1_n_n none (extf .f32 x bitsLt_bf16_f32) (extf .f32 d bitsLt_bf16_f32)) transposes_S1024x2816_S2816x1024_1_0)

theorem result_at (d : FVec Ideal S8192x2816 .bf16) (x : FVec Ideal S8192x1024 .bf16) (g : Fin 1) (r : Fin 2816) (l : Fin 1024) :
    result d x (ix3 g r l) = ∑ t : Fin 8192, d (ix2 t r) * x (ix2 t l) := by
  pointwise [result]
  exact Finset.sum_congr rfl fun t _ => mul_comm _ _

theorem result_eq (d : S8192x2816.Idx → EReal) (x : S8192x1024.Idx → EReal) : result d x = Cert.Kernel3Ideal.Dw.grad d x := by
  funext i
  rw [← ix3_eta i]
  exact result_at d x (i 0) (i 1) (i 2)

end Cert.Reference3Ideal.Dw

namespace Cert.Proof

open Idealize.ShloMosaic Idealize.ShloMosaic.TcCoe Idealize.SL.Sem

theorem run_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_v6) = Cert.Kernel3Ideal.Dw.grad (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)) :=
  (θ_run Cert.Reference3Ideal.defs _ _).mono (fun r h c => ⟨(h c).1.trans (Cert.Reference3Ideal.Dw.result_eq _ _), (h c).2⟩)
    (Cert.Reference3Ideal.Value.run (F := Ideal) m g)

end Cert.Proof

end
-- ==== Proof.Weights.lean ====
/- The claims of the two weight gradients. -/
module

public import proofs.«01_k».proof.Defs
public import proofs.«01_k».proof.Proof.UpGrad
public import proofs.«01_k».proof.Proof.DownGrad
public import proofs.«01_k».proof.Proof.Gen.Kernel2
public import proofs.«01_k».proof.Proof.Gen.Kernel3

@[expose] public section

set_option maxRecDepth 65536

noncomputable section

namespace Cert.Proof

open Idealize.ShloMosaic Idealize.ShloMosaic.TcCoe Idealize.SL.Sem

/-- The printed program and its idealization are one text. -/
theorem body_eq2 : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => with_unfolding_all rfl

theorem defs_eq2 : Cert.Kernel2.defs (F := Bits) = Cert.Kernel2Ideal.defs (F := Bits) := by
  unfold Cert.Kernel2.defs Cert.Kernel2Ideal.defs
  exact congrArg (Pipeline.defs Cert.Kernel2Ideal.pcfgs) body_eq2

theorem main_eq2 : Cert.Kernel2.main (F := Bits) = Cert.Kernel2Ideal.main (F := Bits) := by
  with_unfolding_all rfl

theorem frame_kernel2 : Cert.quiescent_Kernel2 := by
  intro m ρ _
  have h : ∀ D M, D = Cert.Kernel2Ideal.defs (F := Bits) → M = Cert.Kernel2Ideal.main (F := Bits) →
      θ_run D (onTc (τ := Cert.Kernel2Ideal.τ) M) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0) := by
    intro D M hD hM
    subst hD hM
    exact Cert.Kernel2Ideal.Gen.frame m ρ
  exact h _ _ defs_eq2 main_eq2
theorem frame_kernel2Ideal : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic2 : Cert.algebraic_Kernel2Ideal_Reference2Ideal := by
  intro m g m' g' hpre hag
  refine ⟨fun c => Cert.Kernel2Ideal.Dw.grad (Cert.Kernel2Ideal.Dw.inX m c) (Cert.Kernel2Ideal.Dw.inG m c), Cert.Kernel2Ideal.Dw.run m g, ?_⟩
  refine (θ_run Cert.Reference2Ideal.defs _ _).mono (fun r h c => ⟨(h c).1.trans ?_, (h c).2⟩) (run_reference2 m' g')
  rw [(hag c).1, (hag c).2]

/-- The printed program and its idealization are one text. -/
theorem body_eq3 : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => with_unfolding_all rfl

theorem defs_eq3 : Cert.Kernel3.defs (F := Bits) = Cert.Kernel3Ideal.defs (F := Bits) := by
  unfold Cert.Kernel3.defs Cert.Kernel3Ideal.defs
  exact congrArg (Pipeline.defs Cert.Kernel3Ideal.pcfgs) body_eq3

theorem main_eq3 : Cert.Kernel3.main (F := Bits) = Cert.Kernel3Ideal.main (F := Bits) := by
  with_unfolding_all rfl

theorem frame_kernel3 : Cert.quiescent_Kernel3 := by
  intro m ρ _
  have h : ∀ D M, D = Cert.Kernel3Ideal.defs (F := Bits) → M = Cert.Kernel3Ideal.main (F := Bits) →
      θ_run D (onTc (τ := Cert.Kernel3Ideal.τ) M) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0) := by
    intro D M hD hM
    subst hD hM
    exact Cert.Kernel3Ideal.Gen.frame m ρ
  exact h _ _ defs_eq3 main_eq3
theorem frame_kernel3Ideal : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic3 : Cert.algebraic_Kernel3Ideal_Reference3Ideal := by
  intro m g m' g' hpre hag
  refine ⟨fun c => Cert.Kernel3Ideal.Dw.grad (Cert.Kernel3Ideal.Dw.inG m c) (Cert.Kernel3Ideal.Dw.inX m c), Cert.Kernel3Ideal.Dw.run m g, ?_⟩
  refine (θ_run Cert.Reference3Ideal.defs _ _).mono (fun r h c => ⟨(h c).1.trans ?_, (h c).2⟩) (run_reference3 m' g')
  rw [(hag c).1, (hag c).2]

end Cert.Proof

end
-- ==== Proof.MixOutGrad.lean ====
/- The gradient of the mixer's output weights: what the kernel leaves and what the reference leaves. -/
module

public import proofs.«01_k».proof.Proof.Gen.Kernel6Ideal.Value
public import proofs.«01_k».proof.Proof.Gen.Reference6Ideal.Run
public import proofs.«01_k».proof.Proof.Blocks
public import Idealize.ShloMosaic.Lib.Pipeline.ValueKit
public import Idealize.ShloMosaic.Lib.StableHlo.ReadAt

@[expose] public section

set_option maxRecDepth 16384

noncomputable section

namespace Cert.Kernel6Ideal.Dw

open Idealize.ShloMosaic Idealize.ShloMosaic.TcCoe
open Cert.Kernel6Ideal.Gen
open Finset (range)

variable (m : (ℓ : Loc nD τ sig) → Buf (Elt Ideal) ℓ)

/-- The mixers' values. -/
abbrev inG (c : Dev nD) : S8192x1024.Idx → EReal := m ((c.tc : Thread nD τ).loc main_arg0)
/-- The cotangent of their product with the weights. -/
abbrev inX (c : Dev nD) : S8192x1024.Idx → EReal := m ((c.tc : Thread nD τ).loc main_arg1)

/-- The product of one column of values with one column of cotangents. -/
def grad (d : S8192x1024.Idx → EReal) (x : S8192x1024.Idx → EReal) : S1x1024x1024.Idx → EReal :=
  fun i => ∑ t : Fin 8192, d (ix2 t (i 1)) * x (ix2 t (i 2))

theorem idx0 : ∀ t : Fin cfg0.N, win0_0.index t = ![0, t.val % 4, t.val / 4 % 2] := (by decide +kernel : ∀ t : Fin grid0.N, _)
theorem idx1 : ∀ t : Fin cfg0.N, win0_1.index t = ![0, t.val % 4, 0] := (by decide +kernel : ∀ t : Fin grid0.N, _)
theorem idx2 : ∀ t : Fin cfg0.N, win0_2.index t = ![0, t.val / 4 % 2, 0] := (by decide +kernel : ∀ t : Fin grid0.N, _)

theorem V_g (c : Dev nD) : V m c main_v0 = broadcastInDim S1x8192x1024 ![1, 2] bcast_S8192x1024_S1x8192x1024_1_2 (m ((c.tc : Thread nD τ).loc main_arg0)) := by
  unfold V; after_reads_simp
theorem V_x (c : Dev nD) : V m c main_v1 = broadcastInDim S1x8192x1024 ![1, 2] bcast_S8192x1024_S1x8192x1024_1_2 (m ((c.tc : Thread nD τ).loc main_arg1)) := by
  unfold V; after_reads_simp

theorem blk0 (c : Dev nD) (t : Fin cfg0.N) (k : Fin 2048) (r : Fin 512) (k' : Fin 8192) (r' : Fin 1024)
    (hk : k'.val = 2048 * (t.val % 4) + k.val) (hr : r'.val = 512 * (t.val / 4 % 2) + r.val) :
    iblk m c 0 t (ix3 0 k r) = inG m c (ix2 k' r') := by
  unfold iblk
  refine (congrArg (V m c main_v0) (a₂ := ix3 0 k' r') (funext fun a => Fin.ext ?_)).trans ?_
  · match a with
    | ⟨0, _⟩ => blk_simp [idx0 t]
    | ⟨1, _⟩ => blk_simp [idx0 t]; omega
    | ⟨2, _⟩ => blk_simp [idx0 t]; omega
  · rw [V_g]; pointwise

theorem blk1 (c : Dev nD) (t : Fin cfg0.N) (k : Fin 2048) (l : Fin 1024) (k' : Fin 8192)
    (hk : k'.val = 2048 * (t.val % 4) + k.val) :
    iblk m c 1 t (ix3 0 k l) = inX m c (ix2 k' l) := by
  unfold iblk
  refine (congrArg (V m c main_v1) (a₂ := ix3 0 k' l) (funext fun a => Fin.ext ?_)).trans ?_
  · match a with
    | ⟨0, _⟩ => blk_simp [idx1 t]
    | ⟨1, _⟩ => blk_simp [idx1 t]; omega
    | ⟨2, _⟩ => blk_simp [idx1 t]
  · rw [V_x]; pointwise

/-- One product of a block's two entries. -/
abbrev mul2 (a : S1x2048x512.Idx → EReal) (b : S1x2048x1024.Idx → EReal) (k : Fin 2048) (r : Fin 512) (l : Fin 1024) : EReal := a (ix3 0 k r) * b (ix3 0 k l)

/-- One block's part of an element. -/
def part (c : Dev nD) (n : ℕ) (i : S1x512x1024.Idx) : EReal :=
  if h : n < cfg0.N then ∑ k : Fin 2048, mul2 (iblk m c 0 ⟨n, h⟩) (iblk m c 1 ⟨n, h⟩) k (i 1) (i 2) else 0

theorem first (c : Dev nD) (t : Fin cfg0.N) (h : t.val % 4 = 0) (i : S1x512x1024.Idx) :
    outsAt0 m c t.val t.isLt i = 0 + part m c t.val i := by
  rw [outsAt0_A m c t h (by omega)]
  frame_out
  unfold part
  rw [dif_pos t.isLt]
  pointwise [k0_pay2, k0_pay1]

theorem next (c : Dev nD) (t : Fin cfg0.N) (h : ¬t.val % 4 = 0) (i : S1x512x1024.Idx) :
    outsAt0 m c t.val t.isLt i = outsAt0 m c (t.val - 1) (Nat.lt_of_le_of_lt (Nat.sub_le _ _) t.isLt) i + part m c t.val i := by
  rw [outsAt0_B m c t h (by omega)]
  frame_out
  unfold part
  rw [dif_pos t.isLt]
  pointwise [k0_pay3, k0_pay1]

theorem cell (c : Dev nD) (t : Fin cfg0.N) (h : t.val % 4 = 3) (i : S1x512x1024.Idx) (j : S1x1024x1024.Idx)
    (h1 : (j 1).val = 512 * (t.val / 4 % 2) + (i 1).val) (h2 : (j 2).val = (i 2).val) :
    outsAt0 m c t.val t.isLt i = grad (inG m c) (inX m c) j := by
  refine (Pipeline.eq_sum_of_reset_step_apply_of_mod (fun n hn => outsAt0 m c n hn) 4 (fun _ => 0) (part m c)
    (first m c) (next m c) t h i).trans ?_
  rw [zero_add]
  have hN : t.val < 8 := t.isLt
  refine (Finset.sum_congr rfl fun a ha => ?_).trans (Dw.sum_four (fun t' => inG m c (ix2 t' (j 1)) * inX m c (ix2 t' (j 2)))
    (fun a k => inG m c (ix2 ⟨(2048 * a + k.val) % 8192, Nat.mod_lt _ (by decide)⟩ (j 1)) * inX m c (ix2 ⟨(2048 * a + k.val) % 8192, Nat.mod_lt _ (by decide)⟩ (j 2))) ?_)
  · have ha' := Finset.mem_range.mp ha
    have hlt : 4 * (t.val / 4) + a < cfg0.N := (by omega : 4 * (t.val / 4) + a < 8)
    unfold part
    rw [dif_pos hlt]
    refine Finset.sum_congr rfl fun k _ => ?_
    have hk := k.isLt
    have e2 : i 2 = j 2 := Fin.ext h2.symm
    refine (congrArg₂ (fun u v : EReal => u * v) (blk0 m c ⟨_, hlt⟩ k (i 1) ⟨(2048 * a + k.val) % 8192, Nat.mod_lt _ (by decide)⟩ (j 1)
        (by show (2048 * a + k.val) % 8192 = 2048 * ((4 * (t.val / 4) + a) % 4) + _; omega) (by show _ = 512 * ((4 * (t.val / 4) + a) / 4 % 2) + _; omega))
      (blk1 m c ⟨_, hlt⟩ k (i 2) ⟨(2048 * a + k.val) % 8192, Nat.mod_lt _ (by decide)⟩
        (by show (2048 * a + k.val) % 8192 = 2048 * ((4 * (t.val / 4) + a) % 4) + _; omega))).trans ?_
    rw [e2]
  · intro a ha k t' ht
    have e : (⟨(2048 * a + k.val) % 8192, Nat.mod_lt _ (by decide)⟩ : Fin 8192) = t' := Fin.ext (by have := t'.isLt; show (2048 * a + k.val) % 8192 = _; omega)
    rw [e]

theorem arr (c : Dev nD) : (dats m 0 c).arrAt 2 (cfg0 : Pipeline.Cfg sig Λ₀).N = grad (inG m c) (inX m c) := by
  refine (dats m 0 c).arrAt_eq_of_covers 2 _ (by decide +kernel) fun t hfl y => ?_
  blk_simp
  rw [after0_2]
  refine cell m c t ((flush0_2 t).mp hfl) y _ ?_ ?_
  · blk_simp [idx2 t]; omega
  · blk_simp [idx2 t]

theorem run (g : Dev nD → PrngReg) : θ_run defs (onTc (τ := τ) (main (F := Ideal))) ⟨m, fun _ => 0, g⟩ fun r => ∀ c : Dev nD,
      r.2.mem ((c.tc : Thread nD τ).loc main_v3) = grad (inG m c) (inX m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr m c), (h c).2⟩) (Value.run_blocks m g)

end Cert.Kernel6Ideal.Dw

namespace Cert.Reference6Ideal.Dw

open Idealize.ShloMosaic Idealize.ShloMosaic.TcCoe
open Cert.Reference6Ideal.Gen

/-- The reference's result. -/
def result (d : FVec Ideal S8192x1024 .bf16) (x : FVec Ideal S8192x1024 .bf16) : FVec Ideal S1x1024x1024 .f32 :=
  broadcastInDim S1x1024x1024 ![1, 2] bcast_S1024x1024_S1x1024x1024_1_2 (transpose S1024x1024 [1, 0] (Host.dotGeneral dot_S8192x1024_S8192x1024_S1024x1024_0_0_1_1_n_n none (extf .f32 x bitsLt_bf16_f32) (extf .f32 d bitsLt_bf16_f32)) transposes_S1024x1024_S1024x1024_1_0)

theorem result_at (d : FVec Ideal S8192x1024 .bf16) (x : FVec Ideal S8192x1024 .bf16) (g : Fin 1) (r : Fin 1024) (l : Fin 1024) :
    result d x (ix3 g r l) = ∑ t : Fin 8192, d (ix2 t r) * x (ix2 t l) := by
  pointwise [result]
  exact Finset.sum_congr rfl fun t _ => mul_comm _ _

theorem result_eq (d : S8192x1024.Idx → EReal) (x : S8192x1024.Idx → EReal) : result d x = Cert.Kernel6Ideal.Dw.grad d x := by
  funext i
  rw [← ix3_eta i]
  exact result_at d x (i 0) (i 1) (i 2)

end Cert.Reference6Ideal.Dw

namespace Cert.Proof

open Idealize.ShloMosaic Idealize.ShloMosaic.TcCoe Idealize.SL.Sem

theorem run_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => ∀ c : Dev Cert.Reference6Ideal.nD,
      r.2.mem ((c.tc : Thread Cert.Reference6Ideal.nD Cert.Reference6Ideal.τ).loc Cert.Reference6Ideal.main_v6) = Cert.Kernel6Ideal.Dw.grad (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)) :=
  (θ_run Cert.Reference6Ideal.defs _ _).mono (fun r h c => ⟨(h c).1.trans (Cert.Reference6Ideal.Dw.result_eq _ _), (h c).2⟩)
    (Cert.Reference6Ideal.Value.run (F := Ideal) m g)

end Cert.Proof

end
-- ==== Proof.MixInGrad.lean ====
/- The gradient of the mixer's input weights: what the kernel leaves and what the reference leaves. -/
module

public import proofs.«01_k».proof.Proof.Gen.Kernel7Ideal.Value
public import proofs.«01_k».proof.Proof.Gen.Reference7Ideal.Run
public import proofs.«01_k».proof.Proof.Blocks
public import Idealize.ShloMosaic.Lib.Pipeline.ValueKit
public import Idealize.ShloMosaic.Lib.StableHlo.ReadAt

@[expose] public section

set_option maxRecDepth 16384

noncomputable section

namespace Cert.Kernel7Ideal.Dw

open Idealize.ShloMosaic Idealize.ShloMosaic.TcCoe
open Cert.Kernel7Ideal.Gen
open Finset (range)

variable (m : (ℓ : Loc nD τ sig) → Buf (Elt Ideal) ℓ)

/-- The mixer's input. -/
abbrev inG (c : Dev nD) : S8192x1024.Idx → EReal := m ((c.tc : Thread nD τ).loc main_arg0)
/-- The cotangents of its projections. -/
abbrev inX (c : Dev nD) : S8192x2944.Idx → EReal := m ((c.tc : Thread nD τ).loc main_arg1)

/-- The product of one column of values with one column of cotangents. -/
def grad (d : S8192x1024.Idx → EReal) (x : S8192x2944.Idx → EReal) : S1x1024x2944.Idx → EReal :=
  fun i => ∑ t : Fin 8192, d (ix2 t (i 1)) * x (ix2 t (i 2))

theorem idx0 : ∀ t : Fin cfg0.N, win0_0.index t = ![0, t.val % 4, t.val / 4 % 2] := (by decide +kernel : ∀ t : Fin grid0.N, _)
theorem idx1 : ∀ t : Fin cfg0.N, win0_1.index t = ![0, t.val % 4, 0] := (by decide +kernel : ∀ t : Fin grid0.N, _)
theorem idx2 : ∀ t : Fin cfg0.N, win0_2.index t = ![0, t.val / 4 % 2, 0] := (by decide +kernel : ∀ t : Fin grid0.N, _)

theorem V_g (c : Dev nD) : V m c main_v0 = broadcastInDim S1x8192x1024 ![1, 2] bcast_S8192x1024_S1x8192x1024_1_2 (m ((c.tc : Thread nD τ).loc main_arg0)) := by
  unfold V; after_reads_simp
theorem V_x (c : Dev nD) : V m c main_v1 = broadcastInDim S1x8192x2944 ![1, 2] bcast_S8192x2944_S1x8192x2944_1_2 (m ((c.tc : Thread nD τ).loc main_arg1)) := by
  unfold V; after_reads_simp

theorem blk0 (c : Dev nD) (t : Fin cfg0.N) (k : Fin 2048) (r : Fin 512) (k' : Fin 8192) (r' : Fin 1024)
    (hk : k'.val = 2048 * (t.val % 4) + k.val) (hr : r'.val = 512 * (t.val / 4 % 2) + r.val) :
    iblk m c 0 t (ix3 0 k r) = inG m c (ix2 k' r') := by
  unfold iblk
  refine (congrArg (V m c main_v0) (a₂ := ix3 0 k' r') (funext fun a => Fin.ext ?_)).trans ?_
  · match a with
    | ⟨0, _⟩ => blk_simp [idx0 t]
    | ⟨1, _⟩ => blk_simp [idx0 t]; omega
    | ⟨2, _⟩ => blk_simp [idx0 t]; omega
  · rw [V_g]; pointwise

theorem blk1 (c : Dev nD) (t : Fin cfg0.N) (k : Fin 2048) (l : Fin 2944) (k' : Fin 8192)
    (hk : k'.val = 2048 * (t.val % 4) + k.val) :
    iblk m c 1 t (ix3 0 k l) = inX m c (ix2 k' l) := by
  unfold iblk
  refine (congrArg (V m c main_v1) (a₂ := ix3 0 k' l) (funext fun a => Fin.ext ?_)).trans ?_
  · match a with
    | ⟨0, _⟩ => blk_simp [idx1 t]
    | ⟨1, _⟩ => blk_simp [idx1 t]; omega
    | ⟨2, _⟩ => blk_simp [idx1 t]
  · rw [V_x]; pointwise

/-- One product of a block's two entries. -/
abbrev mul2 (a : S1x2048x512.Idx → EReal) (b : S1x2048x2944.Idx → EReal) (k : Fin 2048) (r : Fin 512) (l : Fin 2944) : EReal := a (ix3 0 k r) * b (ix3 0 k l)

/-- One block's part of an element. -/
def part (c : Dev nD) (n : ℕ) (i : S1x512x2944.Idx) : EReal :=
  if h : n < cfg0.N then ∑ k : Fin 2048, mul2 (iblk m c 0 ⟨n, h⟩) (iblk m c 1 ⟨n, h⟩) k (i 1) (i 2) else 0

theorem first (c : Dev nD) (t : Fin cfg0.N) (h : t.val % 4 = 0) (i : S1x512x2944.Idx) :
    outsAt0 m c t.val t.isLt i = 0 + part m c t.val i := by
  rw [outsAt0_A m c t h (by omega)]
  frame_out
  unfold part
  rw [dif_pos t.isLt]
  pointwise [k0_pay2, k0_pay1]

theorem next (c : Dev nD) (t : Fin cfg0.N) (h : ¬t.val % 4 = 0) (i : S1x512x2944.Idx) :
    outsAt0 m c t.val t.isLt i = outsAt0 m c (t.val - 1) (Nat.lt_of_le_of_lt (Nat.sub_le _ _) t.isLt) i + part m c t.val i := by
  rw [outsAt0_B m c t h (by omega)]
  frame_out
  unfold part
  rw [dif_pos t.isLt]
  pointwise [k0_pay3, k0_pay1]

theorem cell (c : Dev nD) (t : Fin cfg0.N) (h : t.val % 4 = 3) (i : S1x512x2944.Idx) (j : S1x1024x2944.Idx)
    (h1 : (j 1).val = 512 * (t.val / 4 % 2) + (i 1).val) (h2 : (j 2).val = (i 2).val) :
    outsAt0 m c t.val t.isLt i = grad (inG m c) (inX m c) j := by
  refine (Pipeline.eq_sum_of_reset_step_apply_of_mod (fun n hn => outsAt0 m c n hn) 4 (fun _ => 0) (part m c)
    (first m c) (next m c) t h i).trans ?_
  rw [zero_add]
  have hN : t.val < 8 := t.isLt
  refine (Finset.sum_congr rfl fun a ha => ?_).trans (Dw.sum_four (fun t' => inG m c (ix2 t' (j 1)) * inX m c (ix2 t' (j 2)))
    (fun a k => inG m c (ix2 ⟨(2048 * a + k.val) % 8192, Nat.mod_lt _ (by decide)⟩ (j 1)) * inX m c (ix2 ⟨(2048 * a + k.val) % 8192, Nat.mod_lt _ (by decide)⟩ (j 2))) ?_)
  · have ha' := Finset.mem_range.mp ha
    have hlt : 4 * (t.val / 4) + a < cfg0.N := (by omega : 4 * (t.val / 4) + a < 8)
    unfold part
    rw [dif_pos hlt]
    refine Finset.sum_congr rfl fun k _ => ?_
    have hk := k.isLt
    have e2 : i 2 = j 2 := Fin.ext h2.symm
    refine (congrArg₂ (fun u v : EReal => u * v) (blk0 m c ⟨_, hlt⟩ k (i 1) ⟨(2048 * a + k.val) % 8192, Nat.mod_lt _ (by decide)⟩ (j 1)
        (by show (2048 * a + k.val) % 8192 = 2048 * ((4 * (t.val / 4) + a) % 4) + _; omega) (by show _ = 512 * ((4 * (t.val / 4) + a) / 4 % 2) + _; omega))
      (blk1 m c ⟨_, hlt⟩ k (i 2) ⟨(2048 * a + k.val) % 8192, Nat.mod_lt _ (by decide)⟩
        (by show (2048 * a + k.val) % 8192 = 2048 * ((4 * (t.val / 4) + a) % 4) + _; omega))).trans ?_
    rw [e2]
  · intro a ha k t' ht
    have e : (⟨(2048 * a + k.val) % 8192, Nat.mod_lt _ (by decide)⟩ : Fin 8192) = t' := Fin.ext (by have := t'.isLt; show (2048 * a + k.val) % 8192 = _; omega)
    rw [e]

theorem arr (c : Dev nD) : (dats m 0 c).arrAt 2 (cfg0 : Pipeline.Cfg sig Λ₀).N = grad (inG m c) (inX m c) := by
  refine (dats m 0 c).arrAt_eq_of_covers 2 _ (by decide +kernel) fun t hfl y => ?_
  blk_simp
  rw [after0_2]
  refine cell m c t ((flush0_2 t).mp hfl) y _ ?_ ?_
  · blk_simp [idx2 t]; omega
  · blk_simp [idx2 t]

theorem run (g : Dev nD → PrngReg) : θ_run defs (onTc (τ := τ) (main (F := Ideal))) ⟨m, fun _ => 0, g⟩ fun r => ∀ c : Dev nD,
      r.2.mem ((c.tc : Thread nD τ).loc main_v3) = grad (inG m c) (inX m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr m c), (h c).2⟩) (Value.run_blocks m g)

end Cert.Kernel7Ideal.Dw

namespace Cert.Reference7Ideal.Dw

open Idealize.ShloMosaic Idealize.ShloMosaic.TcCoe
open Cert.Reference7Ideal.Gen

/-- The reference's result. -/
def result (d : FVec Ideal S8192x1024 .bf16) (x : FVec Ideal S8192x2944 .bf16) : FVec Ideal S1x1024x2944 .f32 :=
  broadcastInDim S1x1024x2944 ![1, 2] bcast_S1024x2944_S1x1024x2944_1_2 (transpose S1024x2944 [1, 0] (Host.dotGeneral dot_S8192x2944_S8192x1024_S2944x1024_0_0_1_1_n_n none (extf .f32 x bitsLt_bf16_f32) (extf .f32 d bitsLt_bf16_f32)) transposes_S2944x1024_S1024x2944_1_0)

theorem result_at (d : FVec Ideal S8192x1024 .bf16) (x : FVec Ideal S8192x2944 .bf16) (g : Fin 1) (r : Fin 1024) (l : Fin 2944) :
    result d x (ix3 g r l) = ∑ t : Fin 8192, d (ix2 t r) * x (ix2 t l) := by
  pointwise [result]
  exact Finset.sum_congr rfl fun t _ => mul_comm _ _

theorem result_eq (d : S8192x1024.Idx → EReal) (x : S8192x2944.Idx → EReal) : result d x = Cert.Kernel7Ideal.Dw.grad d x := by
  funext i
  rw [← ix3_eta i]
  exact result_at d x (i 0) (i 1) (i 2)

end Cert.Reference7Ideal.Dw

namespace Cert.Proof

open Idealize.ShloMosaic Idealize.ShloMosaic.TcCoe Idealize.SL.Sem

theorem run_reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => ∀ c : Dev Cert.Reference7Ideal.nD,
      r.2.mem ((c.tc : Thread Cert.Reference7Ideal.nD Cert.Reference7Ideal.τ).loc Cert.Reference7Ideal.main_v6) = Cert.Kernel7Ideal.Dw.grad (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))
      ∧ r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)) :=
  (θ_run Cert.Reference7Ideal.defs _ _).mono (fun r h c => ⟨(h c).1.trans (Cert.Reference7Ideal.Dw.result_eq _ _), (h c).2⟩)
    (Cert.Reference7Ideal.Value.run (F := Ideal) m g)

end Cert.Proof

end
-- ==== Proof.FfnSpec.lean ====
/- The feed-forward layer's row functions over the extended reals. -/
module

public import Idealize.ShloMosaic.PureOps.Ideal
public import Idealize.ShloMosaic.Lib.Pointwise
public import Mathlib.Algebra.BigOperators.Fin

@[expose] public section

noncomputable section

namespace Ffn

open Idealize.ShloMosaic

/-- The gate under its sigmoid, times the up entry. -/
def act (a b : EReal) : EReal := a * Ideal.logistic a * b

/-- A sum over the hidden units is the sum of the sums over the four chunks. -/
theorem sum_chunks (f : Fin 2816 → EReal) :
    (∑ a : Fin 768, f ⟨a.val, by omega⟩) + (∑ a : Fin 768, f ⟨768 + a.val, by omega⟩) + (∑ a : Fin 768, f ⟨1536 + a.val, by omega⟩)
      + (∑ a : Fin 512, f ⟨2304 + a.val, by omega⟩) = ∑ a : Fin 2816, f a := by
  have h := Fin.sum_univ_add (a := 768 + 768 + 768) (b := 512) f
  rw [Fin.sum_univ_add (a := 768 + 768) (b := 768), Fin.sum_univ_add (a := 768) (b := 768)] at h
  exact h.symm

/-- One row's norm: the row less its mean, times the reciprocal root of its variance and a small constant, scaled and shifted. -/
def lnorm (v : Fin 1024 → EReal) (g b : EReal) (l : Fin 1024) : EReal :=
  (v l - Ideal.div (∑ x, v x) (Ideal.ofBits FTy.f32 0x44800000#32)) *
          Ideal.rsqrt
            (Ideal.div
                (∑ x,
                  (v x - Ideal.div (∑ x, v x) (Ideal.ofBits FTy.f32 0x44800000#32)) *
                    (v x - Ideal.div (∑ x, v x) (Ideal.ofBits FTy.f32 0x44800000#32)))
                (Ideal.ofBits FTy.f32 0x44800000#32) +
              Ideal.ofBits FTy.f32 0x3727C5AC#32) *
        g + b

end Ffn
end
-- ==== Proof.FfnBlock.lean ====
/- The feed-forward layer of one block of rows: what the body's values are, entry by entry. -/
module

public import proofs.«01_k».proof.Proof.Gen.Kernel5Ideal.Skeleton
public import proofs.«01_k».proof.Proof.FfnSpec
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.StableHlo.ReadAt

@[expose] public section

set_option maxRecDepth 16384

noncomputable section

namespace Cert.Kernel5Ideal.Ffn

open Idealize.ShloMosaic Idealize.ShloMosaic.TcCoe
open Cert.Kernel5Ideal.Gen
open _root_.Ffn

theorem pay3_at (v3 : Vec Ideal S512x1024 .f32) (v8 : Vec Ideal S1x768x1024 .bf16) (r : Fin 512) (f : Fin 768) :
    k0_pay3 v3 v8 (ix2 r f) = ∑ k : Fin 1024, v3 (ix2 r k) * v8 (ix3 0 f k) := by
  pointwise [k0_pay3, k0_pay1]

theorem pay7_at (v3 : Vec Ideal S512x1024 .f32) (v8 v11 : Vec Ideal S1x768x1024 .bf16) (v26 : Vec Ideal S768x1024 .bf16) (r : Fin 512) (l : Fin 1024) :
    k0_pay7 v3 v8 v11 v26 (ix2 r l) = ∑ f : Fin 768, act (∑ k : Fin 1024, v3 (ix2 r k) * v8 (ix3 0 f k)) (∑ k : Fin 1024, v3 (ix2 r k) * v11 (ix3 0 f k)) * v26 (ix2 f l) := by
  pointwise [k0_pay7, k0_pay4, k0_pay3, k0_pay1, act]

theorem pay12_at (v3 v27 : Vec Ideal S512x1024 .f32) (v8 v11 : Vec Ideal S1x768x1024 .bf16) (v26 : Vec Ideal S768x1024 .bf16) (r : Fin 512) (l : Fin 1024) :
    k0_pay12 (k0_pay1 v3) v27 v8 v11 v26 (ix2 r l) = v27 (ix2 r l) + ∑ f : Fin 768, act (∑ k : Fin 1024, v3 (ix2 r k) * v8 (ix3 0 f k)) (∑ k : Fin 1024, v3 (ix2 r k) * v11 (ix3 0 f k)) * v26 (ix2 f l) := by
  pointwise [k0_pay12, k0_pay8, k0_pay9, k0_pay1, act]

theorem pay22_at (v3 v48 : Vec Ideal S512x1024 .f32) (v49 v52 : Vec Ideal S1x768x1024 .bf16) (v67 : Vec Ideal S768x1024 .bf16)
    (v70 v73 : Vec Ideal S1x512x1024 .bf16) (v88 : Vec Ideal S512x1024 .bf16) (r : Fin 512) (l : Fin 1024) :
    k0_pay22 (k0_pay1 v3) v48 (k0_pay13 (k0_pay1 v3) v49) (k0_pay14 (k0_pay1 v3) v52) v67 v70 v73 v88 (ix2 r l) = v48 (ix2 r l)
      + (∑ f : Fin 768, act (∑ k : Fin 1024, v3 (ix2 r k) * v49 (ix3 0 f k)) (∑ k : Fin 1024, v3 (ix2 r k) * v52 (ix3 0 f k)) * v67 (ix2 f l))
      + ∑ f : Fin 512, act (∑ k : Fin 1024, v3 (ix2 r k) * v70 (ix3 0 f k)) (∑ k : Fin 1024, v3 (ix2 r k) * v73 (ix3 0 f k)) * v88 (ix2 f l) := by
  pointwise [k0_pay22, k0_pay13, k0_pay14, k0_pay18, k0_pay19, k0_pay1, act]

theorem pay24_at (v90 v91 : Vec Ideal S512x1024 .f32) (a : EReal) (g b : Vec Ideal S1x1024 .f32) (z : Fin 512 → Fin 1024 → EReal)
    (h : ∀ r l, k0_pay23 v90 v91 a (ix2 r l) = z r l) (r : Fin 512) (l : Fin 1024) :
    k0_pay24 v90 v91 a g b (ix2 r l) = lnorm (z r) (g (ix2 0 l)) (b (ix2 0 l)) l := by
  pointwise [k0_pay24, h, lnorm]

/-- The layer's product of one block of rows, as the body computes it from the weights `W` and `D`. -/
def pre (x : Vec Ideal S512x1024 .f32) (W : Vec Ideal S2x2816x1024 .bf16) (D : Vec Ideal S2816x1024 .bf16) : Vec Ideal S512x1024 .f32 :=
  k0_pay22 (k0_pay1 x)
    (k0_pay12 (k0_pay1 x)
      (k0_pay7 x (View.ld W (Rect.unit ![0, 0, 0] ![1, 768, 1024] inb_S2x2816x1024_S1x768x1024_0_0_0)) (View.ld W (Rect.unit ![1, 0, 0] ![1, 768, 1024] inb_S2x2816x1024_S1x768x1024_1_0_0)) (View.ld D (Rect.unit ![0, 0] ![768, 1024] inb_S2816x1024_S768x1024_0_0)))
      (View.ld W (Rect.unit ![0, 768, 0] ![1, 768, 1024] inb_S2x2816x1024_S1x768x1024_0_768_0)) (View.ld W (Rect.unit ![1, 768, 0] ![1, 768, 1024] inb_S2x2816x1024_S1x768x1024_1_768_0)) (View.ld D (Rect.unit ![768, 0] ![768, 1024] inb_S2816x1024_S768x1024_768_0)))
    (k0_pay13 (k0_pay1 x) (View.ld W (Rect.unit ![0, 1536, 0] ![1, 768, 1024] inb_S2x2816x1024_S1x768x1024_0_1536_0)))
    (k0_pay14 (k0_pay1 x) (View.ld W (Rect.unit ![1, 1536, 0] ![1, 768, 1024] inb_S2x2816x1024_S1x768x1024_1_1536_0)))
    (View.ld D (Rect.unit ![1536, 0] ![768, 1024] inb_S2816x1024_S768x1024_1536_0)) (View.ld W (Rect.unit ![0, 2304, 0] ![1, 512, 1024] inb_S2x2816x1024_S1x512x1024_0_2304_0)) (View.ld W (Rect.unit ![1, 2304, 0] ![1, 512, 1024] inb_S2x2816x1024_S1x512x1024_1_2304_0)) (View.ld D (Rect.unit ![2304, 0] ![512, 1024] inb_S2816x1024_S512x1024_2304_0))

/-- The stores of the gate and up products of one block of rows, the last first. -/
def parts (x : Vec Ideal S512x1024 .f32) (W : Vec Ideal S2x2816x1024 .bf16) : List (View.Piece (Elt Ideal) S2x512x2816 .bf16) :=
  [⟨Rect.unit ![1, 0, 2304] ![1, 512, 512] inb_S2x512x2816_S1x512x512_1_0_2304, k0_pay21 (k0_pay1 x) (View.ld W (Rect.unit ![1, 2304, 0] ![1, 512, 1024] inb_S2x2816x1024_S1x512x1024_1_2304_0))⟩,
    ⟨Rect.unit ![0, 0, 2304] ![1, 512, 512] inb_S2x512x2816_S1x512x512_0_0_2304, k0_pay20 (k0_pay1 x) (View.ld W (Rect.unit ![0, 2304, 0] ![1, 512, 1024] inb_S2x2816x1024_S1x512x1024_0_2304_0))⟩,
    ⟨Rect.unit ![1, 0, 1536] ![1, 512, 768] inb_S2x512x2816_S1x512x768_1_0_1536, k0_pay17 (k0_pay16 (k0_pay1 x) (View.ld W (Rect.unit ![1, 1536, 0] ![1, 768, 1024] inb_S2x2816x1024_S1x768x1024_1_1536_0)))⟩,
    ⟨Rect.unit ![0, 0, 1536] ![1, 512, 768] inb_S2x512x2816_S1x512x768_0_0_1536, k0_pay15 (k0_pay1 x) (View.ld W (Rect.unit ![0, 1536, 0] ![1, 768, 1024] inb_S2x2816x1024_S1x768x1024_0_1536_0))⟩,
    ⟨Rect.unit ![1, 0, 768] ![1, 512, 768] inb_S2x512x2816_S1x512x768_1_0_768, k0_pay11 (k0_pay1 x) (View.ld W (Rect.unit ![1, 768, 0] ![1, 768, 1024] inb_S2x2816x1024_S1x768x1024_1_768_0))⟩,
    ⟨Rect.unit ![0, 0, 768] ![1, 512, 768] inb_S2x512x2816_S1x512x768_0_0_768, k0_pay10 (k0_pay1 x) (View.ld W (Rect.unit ![0, 768, 0] ![1, 768, 1024] inb_S2x2816x1024_S1x768x1024_0_768_0))⟩,
    ⟨Rect.unit ![1, 0, 0] ![1, 512, 768] inb_S2x512x2816_S1x512x768_1_0_0, k0_pay6 x (View.ld W (Rect.unit ![1, 0, 0] ![1, 768, 1024] inb_S2x2816x1024_S1x768x1024_1_0_0))⟩,
    ⟨Rect.unit ![0, 0, 0] ![1, 512, 768] inb_S2x512x2816_S1x512x768_0_0_0, k0_pay5 x (View.ld W (Rect.unit ![0, 0, 0] ![1, 768, 1024] inb_S2x2816x1024_S1x768x1024_0_0_0))⟩]

/-- One hidden entry of a block of rows. -/
def hidB (x : S512x1024.Idx → EReal) (W : S2x2816x1024.Idx → EReal) (g : Fin 2) (r : Fin 512) (f : Fin 2816) : EReal :=
  ∑ k : Fin 1024, x (ix2 r k) * W (ix3 g f k)

theorem pre_at (x : Vec Ideal S512x1024 .f32) (W : Vec Ideal S2x2816x1024 .bf16) (D : Vec Ideal S2816x1024 .bf16) (r : Fin 512) (l : Fin 1024) :
    pre x W D (ix2 r l) = ∑ f : Fin 2816, act (hidB x W 0 r f) (hidB x W 1 r f) * D (ix2 f l) := by
  unfold pre
  rw [pay22_at, pay12_at, pay7_at, ← sum_chunks]
  pointwise [hidB]

theorem z_at (x : Vec Ideal S512x1024 .f32) (p : Vec Ideal S512x1024 .f32) (r : Fin 512) (l : Fin 1024) :
    k0_pay23 p x (FloatOps.ofBits FTy.f32 0x3FB504F3#32) (ix2 r l) = Ideal.ofBits .f32 0x3FB504F3#32 * x (ix2 r l) + Ideal.ofBits .f32 0x3F000000#32 * p (ix2 r l) := by
  pointwise [k0_pay23]

theorem parts_at (x : Vec Ideal S512x1024 .f32) (W : Vec Ideal S2x2816x1024 .bf16) (g : Fin 2) (r : Fin 512) (f : Fin 2816) :
    View.canon (parts x W) (ix3 g r f) = hidB x W g r f := by
  have hp : View.PiecesOf (fun i : S2x512x2816.Idx => hidB x W (i 0) (i 1) (i 2)) (parts x W) := by
    unfold parts
    refine ⟨fun y => ?_, fun y => ?_, fun y => ?_, fun y => ?_, fun y => ?_, fun y => ?_, fun y => ?_, fun y => ?_, trivial⟩
    · show _ = hidB x W _ _ _
      pointwise [k0_pay21, k0_pay19, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay20, k0_pay18, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay17, k0_pay16, k0_pay14, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay15, k0_pay13, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay11, k0_pay9, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay10, k0_pay8, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay6, k0_pay4, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay5, k0_pay3, k0_pay1, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
  exact View.canon_apply_of_pieces (fun i : S2x512x2816.Idx => hidB x W (i 0) (i 1) (i 2)) (parts x W) hp.mem (ix3 g r f) (View.cover_of_tiledBy (parts x W) ![1, 512, 256] (by sl_kernel_rfl) _)

end Cert.Kernel5Ideal.Ffn
end
-- ==== Proof.FfnRef.lean ====
/- The feed-forward layer of the reference, entry by entry. -/
module

public import proofs.«01_k».proof.Proof.Gen.Reference5Ideal.Run
public import proofs.«01_k».proof.Proof.FfnSpec
public import Idealize.ShloMosaic.Lib.Pipeline.ValueKit
public import Idealize.ShloMosaic.Lib.StableHlo.ReadAt

@[expose] public section

set_option maxRecDepth 16384

noncomputable section

namespace Cert.Reference5Ideal.Ffn

open Idealize.ShloMosaic Idealize.ShloMosaic.TcCoe
open Cert.Reference5Ideal.Gen
open _root_.Ffn

/-- The gate and up products side by side. -/
def proj (x : FVec Ideal S8192x1024 .f32) (w : FVec Ideal S1024x5632 .f32) : FVec Ideal S8192x5632 .f32 :=
  Host.dotGeneral dot_S8192x1024_S1024x5632_S8192x5632_1_0_0_1_n_n none x w

/-- One entry of the gate or of the up product. -/
def hid (x : S8192x1024.Idx → EReal) (w : S1024x5632.Idx → EReal) (t : Fin 8192) (r : Fin 5632) : EReal :=
  ∑ k : Fin 1024, x (ix2 t k) * w (ix2 k r)

theorem proj_at (x : FVec Ideal S8192x1024 .f32) (w : FVec Ideal S1024x5632 .f32) (t : Fin 8192) (r : Fin 5632) :
    proj x w (ix2 t r) = hid x w t r := by
  pointwise [proj, hid]

/-- The gated product. -/
def gated (p : FVec Ideal S8192x5632 .f32) : FVec Ideal S8192x2816 .f32 :=
  mulf (mulf (extractStridedSlice S8192x2816 ![0, 0] p slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] p slices_S8192x5632_S8192x2816_0_0)))))) (extractStridedSlice S8192x2816 ![0, 2816] p slices_S8192x5632_S8192x2816_0_2816)

def lo (f : Fin 2816) : Fin 5632 := ⟨f.val, by omega⟩
def hi (f : Fin 2816) : Fin 5632 := ⟨2816 + f.val, by omega⟩

theorem gated_at (p : FVec Ideal S8192x5632 .f32) (t : Fin 8192) (f : Fin 2816) :
    gated p (ix2 t f) = act (p (ix2 t (lo f))) (p (ix2 t (hi f))) := by
  pointwise [gated, act, lo, hi, Ideal.logistic]

/-- The layer's sum before its norm. -/
def resid (x : FVec Ideal S8192x1024 .f32) (w : FVec Ideal S1024x5632 .f32) (d : FVec Ideal S2816x1024 .f32) : FVec Ideal S8192x1024 .f32 :=
  addf (mulf (broadcastInDim S8192x1024 ![] bcast_S_S8192x1024 (constant S_ .f32 0x3FB504F3#32)) x) (mulf (broadcastInDim S8192x1024 ![] bcast_S_S8192x1024 (constant S_ .f32 0x3F000000#32)) (Host.dotGeneral dot_S8192x2816_S2816x1024_S8192x1024_1_0_0_1_n_n none (gated (proj x w)) d))

/-- One entry of the sum before the norm: the input times 1.4142135 plus half the layer's product. -/
def zAt (x : S8192x1024.Idx → EReal) (w : S1024x5632.Idx → EReal) (d : S2816x1024.Idx → EReal) (t : Fin 8192) (l : Fin 1024) : EReal :=
  Ideal.ofBits .f32 0x3FB504F3#32 * x (ix2 t l) + Ideal.ofBits .f32 0x3F000000#32 * ∑ f : Fin 2816, act (hid x w t (lo f)) (hid x w t (hi f)) * d (ix2 f l)

theorem resid_at (x : FVec Ideal S8192x1024 .f32) (w : FVec Ideal S1024x5632 .f32) (d : FVec Ideal S2816x1024 .f32) (t : Fin 8192) (l : Fin 1024) :
    resid x w d (ix2 t l) = zAt x w d t l := by
  pointwise [resid, zAt, gated_at, proj_at]

/-- The norm of every row. -/
def norm (z : FVec Ideal S8192x1024 .f32) (g b : FVec Ideal S1024 .f32) : FVec Ideal S8192x1024 .f32 :=
  addf (mulf (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))

theorem norm_at (z : FVec Ideal S8192x1024 .f32) (g b : FVec Ideal S1024 .f32) (t : Fin 8192) (l : Fin 1024) :
    norm z g b (ix2 t l) = lnorm (fun k => z (ix2 t k)) (g (ix1 l)) (b (ix1 l)) l := by
  pointwise [norm, lnorm]

/-- The gate and the up products as the kernel leaves them. -/
def pair (p : FVec Ideal S8192x5632 .f32) : FVec Ideal S2x8192x2816 .bf16 :=
  truncf .bf16 (concatenate S2x8192x2816 0 [⟨S1x8192x2816, (broadcastInDim S1x8192x2816 ![1, 2] bcast_S8192x2816_S1x8192x2816_1_2 (extractStridedSlice S8192x2816 ![0, 0] p slices_S8192x5632_S8192x2816_0_0))⟩, ⟨S1x8192x2816, (broadcastInDim S1x8192x2816 ![1, 2] bcast_S8192x2816_S1x8192x2816_1_2 (extractStridedSlice S8192x2816 ![0, 2816] p slices_S8192x5632_S8192x2816_0_2816))⟩] concatenates_S1x8192x2816_S1x8192x2816_S2x8192x2816_d0) bitsLt_bf16_f32

theorem pair_lo (p : FVec Ideal S8192x5632 .f32) (t : Fin 8192) (f : Fin 2816) : pair p (ix3 0 t f) = p (ix2 t (lo f)) := by
  pointwise [pair, lo]
theorem pair_hi (p : FVec Ideal S8192x5632 .f32) (t : Fin 8192) (f : Fin 2816) : pair p (ix3 1 t f) = p (ix2 t (hi f)) := by
  pointwise [pair, hi]

/-- The normalized rows. -/
def outN (x : S8192x1024.Idx → EReal) (w : S1024x5632.Idx → EReal) (d : S2816x1024.Idx → EReal) (g b : S1024.Idx → EReal) : S8192x1024.Idx → EReal :=
  fun i => lnorm (zAt x w d (i 0)) (g (ix1 (i 1))) (b (ix1 (i 1))) (i 1)
/-- The rows before the norm. -/
def outZ (x : S8192x1024.Idx → EReal) (w : S1024x5632.Idx → EReal) (d : S2816x1024.Idx → EReal) : S8192x1024.Idx → EReal :=
  fun i => zAt x w d (i 0) (i 1)
/-- The gate and the up products. -/
def outP (x : S8192x1024.Idx → EReal) (w : S1024x5632.Idx → EReal) : S2x8192x2816.Idx → EReal :=
  fun i => hid x w (i 1) ⟨2816 * (i 0).val + (i 2).val, by have h0 : (i 0).val < 2 := (i 0).isLt; have h2 : (i 2).val < 2816 := (i 2).isLt; omega⟩

theorem norm_eq (x : S8192x1024.Idx → EReal) (w : S1024x5632.Idx → EReal) (d : S2816x1024.Idx → EReal) (g b : S1024.Idx → EReal) :
    norm (resid x w d) g b = outN x w d g b := by
  funext i
  rw [← ix2_eta i]
  refine (norm_at _ g b (i 0) (i 1)).trans ?_
  exact congrArg (fun v => lnorm v (g (ix1 (i 1))) (b (ix1 (i 1))) (i 1)) (funext fun k => resid_at x w d (i 0) k)

theorem resid_eq (x : S8192x1024.Idx → EReal) (w : S1024x5632.Idx → EReal) (d : S2816x1024.Idx → EReal) : resid x w d = outZ x w d := by
  funext i
  rw [← ix2_eta i]
  exact resid_at x w d (i 0) (i 1)

theorem pair_at (x : S8192x1024.Idx → EReal) (w : S1024x5632.Idx → EReal) (a : Fin 2) (t : Fin 8192) (f : Fin 2816) :
    pair (proj x w) (ix3 a t f) = outP x w (ix3 a t f) := by
  match a with
  | ⟨0, _⟩ => exact (pair_lo _ t f).trans ((proj_at x w t (lo f)).trans (congrArg (hid x w t) (Fin.ext (by show f.val = 2816 * 0 + f.val; omega))))
  | ⟨1, _⟩ => exact (pair_hi _ t f).trans ((proj_at x w t (hi f)).trans (congrArg (hid x w t) (Fin.ext (by show 2816 + f.val = 2816 * 1 + f.val; omega))))

theorem pair_eq (x : S8192x1024.Idx → EReal) (w : S1024x5632.Idx → EReal) : pair (proj x w) = outP x w := by
  funext i
  rw [← ix3_eta i]
  exact pair_at x w (i 0) (i 1) (i 2)

end Cert.Reference5Ideal.Ffn
end
-- ==== Proof.FfnFwd.lean ====
/- The feed-forward layer's forward call: what it leaves in its results. -/
module

public import proofs.«01_k».proof.Proof.Gen.Kernel5Ideal.Value
public import proofs.«01_k».proof.Proof.FfnBlock
public import proofs.«01_k».proof.Proof.FfnRef
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel5Ideal.Ffn

open Idealize.ShloMosaic Idealize.ShloMosaic.TcCoe
open Cert.Kernel5Ideal.Gen
open _root_.Ffn
open Cert.Reference5Ideal.Ffn (outN outZ outP zAt hid lo hi)

/-- One store of a whole buffer leaves the store. -/
theorem canon_whole {s : Shape} {e : EltTy} (Z : s.Idx → Elt Ideal e) : View.canon [⟨Rect.whole s, Z⟩] = Z := by
  funext y
  exact View.canon_apply_of_pieces Z _ (fun p hp x => by
    rcases List.mem_singleton.mp hp with rfl
    exact congrArg Z (funext fun a => Fin.ext (by simp [Rect.whole, Rect.emb]))) y ⟨_, List.mem_singleton.mpr rfl, by rw [Rect.set_whole]; exact Finset.mem_univ y⟩

/-- A load after a store of the whole buffer reads the store. -/
theorem readCov_whole {sig : RefSig} {κ : Kind} {sp : Space} {s : Shape} {e : EltTy} (v : View sig κ sp s e) (Z : s.Idx → Elt Ideal e) (r : Rect s) :
    v.readCov [⟨Rect.whole s, Z⟩] r.toLoadRect = View.ld Z r := by
  rw [View.readCov_eq_canon', canon_whole]

variable (m : (ℓ : Loc nD τ sig) → Buf (Elt Ideal) ℓ)

abbrev inX (c : Dev nD) : S8192x1024.Idx → EReal := m ((c.tc : Thread nD τ).loc main_arg0)
abbrev inW (c : Dev nD) : S1024x5632.Idx → EReal := m ((c.tc : Thread nD τ).loc main_arg1)
abbrev inD (c : Dev nD) : S2816x1024.Idx → EReal := m ((c.tc : Thread nD τ).loc main_arg2)
abbrev inG (c : Dev nD) : S1024.Idx → EReal := m ((c.tc : Thread nD τ).loc main_arg3)
abbrev inB (c : Dev nD) : S1024.Idx → EReal := m ((c.tc : Thread nD τ).loc main_arg4)

/-- The weights the body copies to its scratch. -/
abbrev W (c : Dev nD) : Vec Ideal S2x2816x1024 .bf16 := V m c main_v2
abbrev D (c : Dev nD) : Vec Ideal S2816x1024 .bf16 := V m c main_v3

theorem scr_A (c : Dev nD) (t : Fin cfg0.N) (h : t.val % 16 = 0) :
    (outsAt0 m c t.val t.isLt).2.2.2.2.2 = (W m c, D m c) := by
  rw [outsAt0_A m c t h]
  refine Prod.ext ?_ ?_
  · frame_out
    rw [canon_whole]; rfl
  · frame_out
    rw [canon_whole]; rfl

theorem scr_B (c : Dev nD) (t : Fin cfg0.N) (h : ¬t.val % 16 = 0) :
    (outsAt0 m c t.val t.isLt).2.2.2.2.2 = (outsAt0 m c (t.val - 1) (Nat.lt_of_le_of_lt (Nat.sub_le _ _) t.isLt)).2.2.2.2.2 := by
  rw [outsAt0_B m c t h]
  rfl

theorem scr (c : Dev nD) : ∀ (n : ℕ) (hn : n < cfg0.N), (outsAt0 m c n hn).2.2.2.2.2 = (W m c, D m c)
  | 0, hn => scr_A m c ⟨0, hn⟩ rfl
  | n + 1, hn => (scr_B m c ⟨n + 1, hn⟩ (by have : n + 1 < 16 := hn; show ¬(n + 1) % 16 = 0; omega)).trans (scr c n (Nat.lt_of_succ_lt hn))

/-- The block's rows before the norm. -/
abbrev alpha : EReal := FloatOps.ofBits (F := Ideal) FTy.f32 0x3FB504F3#32

theorem out_z (c : Dev nD) (t : Fin cfg0.N) :
    (outsAt0 m c t.val t.isLt).2.2.1 = k0_pay25 (pre (iblk m c 0 t) (W m c) (D m c)) (iblk m c 0 t) alpha := by
  by_cases h : t.val % 16 = 0
  · rw [outsAt0_A m c t h]
    frame_out
    simp only [readCov_whole]
    rfl
  · rw [outsAt0_B m c t h, scr m c]
    frame_out
    simp only [read_unread_whole]
    rfl

theorem out_n (c : Dev nD) (t : Fin cfg0.N) :
    (outsAt0 m c t.val t.isLt).1 = k0_pay26 (pre (iblk m c 0 t) (W m c) (D m c)) (iblk m c 0 t) alpha (iblk m c 1 t) (iblk m c 2 t) := by
  by_cases h : t.val % 16 = 0
  · rw [outsAt0_A m c t h]
    frame_out
    simp only [readCov_whole]
    rfl
  · rw [outsAt0_B m c t h, scr m c]
    frame_out
    simp only [read_unread_whole]
    rfl

theorem out_nb (c : Dev nD) (t : Fin cfg0.N) :
    (outsAt0 m c t.val t.isLt).2.1 = k0_pay27 (pre (iblk m c 0 t) (W m c) (D m c)) (iblk m c 0 t) alpha (iblk m c 1 t) (iblk m c 2 t) := by
  by_cases h : t.val % 16 = 0
  · rw [outsAt0_A m c t h]
    frame_out
    simp only [readCov_whole]
    rfl
  · rw [outsAt0_B m c t h, scr m c]
    frame_out
    simp only [read_unread_whole]
    rfl

theorem out_p (c : Dev nD) (t : Fin cfg0.N) :
    (outsAt0 m c t.val t.isLt).2.2.2.1 = View.canon (parts (iblk m c 0 t) (W m c)) := by
  by_cases h : t.val % 16 = 0
  · rw [outsAt0_A m c t h]
    frame_out
    simp only [readCov_whole]
    rfl
  · rw [outsAt0_B m c t h, scr m c]
    frame_out
    simp only [read_unread_whole]
    rfl

theorem out_x (c : Dev nD) (t : Fin cfg0.N) :
    (outsAt0 m c t.val t.isLt).2.2.2.2.1 = k0_pay2 (iblk m c 0 t) := by
  by_cases h : t.val % 16 = 0
  · rw [outsAt0_A m c t h]
    frame_out
  · rw [outsAt0_B m c t h]
    frame_out

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![t.val, 0] := (by decide +kernel : ∀ t : Fin grid0.N, _)

theorem V_x (c : Dev nD) : V m c main_arg0 = m ((c.tc : Thread nD τ).loc main_arg0) := by
  unfold V; after_reads_simp
theorem V_w (c : Dev nD) : V m c main_v2 = truncf (F := Ideal) .bf16 (shapeCast S2x2816x1024 (transpose S5632x1024 [1, 0] (m ((c.tc : Thread nD τ).loc main_arg1)) transposes_S1024x5632_S5632x1024_1_0) shapeCasts_S5632x1024_S2x2816x1024) bitsLt_bf16_f32 := by
  unfold V; after_reads_simp; rfl
theorem V_d (c : Dev nD) : V m c main_v3 = truncf (F := Ideal) .bf16 (m ((c.tc : Thread nD τ).loc main_arg2)) bitsLt_bf16_f32 := by
  unfold V; after_reads_simp
theorem V_g (c : Dev nD) : V m c main_v4 = shapeCast S1x1024 (m ((c.tc : Thread nD τ).loc main_arg3)) shapeCasts_S1024_S1x1024 := by
  unfold V; after_reads_simp; rfl
theorem V_b (c : Dev nD) : V m c main_v5 = shapeCast S1x1024 (m ((c.tc : Thread nD τ).loc main_arg4)) shapeCasts_S1024_S1x1024 := by
  unfold V; after_reads_simp; rfl

theorem W_at (c : Dev nD) (g : Fin 2) (f : Fin 2816) (k : Fin 1024) (r : Fin 5632) (h : r.val = 2816 * g.val + f.val) :
    W m c (ix3 g f k) = inW m c (ix2 k r) := by
  show V m c main_v2 (ix3 g f k) = _
  rw [V_w]
  pointwise
  exact congrArg (fun r => inW m c (ix2 k r)) (Fin.ext (by simp; omega))

theorem D_at (c : Dev nD) (f : Fin 2816) (l : Fin 1024) : D m c (ix2 f l) = inD m c (ix2 f l) := by
  show V m c main_v3 (ix2 f l) = _
  rw [V_d]
  pointwise

theorem blk0 (c : Dev nD) (t : Fin cfg0.N) (r : Fin 512) (l : Fin 1024) (r' : Fin 8192) (hr : r'.val = 512 * t.val + r.val) :
    iblk m c 0 t (ix2 r l) = inX m c (ix2 r' l) := by
  unfold iblk
  refine (congrArg (V m c main_arg0) (funext fun a => Fin.ext ?_)).trans (congrFun (V_x m c) (ix2 r' l))
  match a with
  | ⟨0, _⟩ => blk_simp [idx0 t]; omega
  | ⟨1, _⟩ => blk_simp [idx0 t]

theorem blk1 (c : Dev nD) (t : Fin cfg0.N) (l : Fin 1024) : iblk m c 1 t (ix2 0 l) = inG m c (ix1 l) := by
  unfold iblk
  refine (congrArg (V m c main_v4) (a₂ := ix2 0 l) (funext fun a => Fin.ext ?_)).trans ?_
  · match a with
    | ⟨0, _⟩ => blk_simp [idx1 t]
    | ⟨1, _⟩ => blk_simp [idx1 t]
  · rw [V_g]; pointwise

theorem blk2 (c : Dev nD) (t : Fin cfg0.N) (l : Fin 1024) : iblk m c 2 t (ix2 0 l) = inB m c (ix1 l) := by
  unfold iblk
  refine (congrArg (V m c main_v5) (a₂ := ix2 0 l) (funext fun a => Fin.ext ?_)).trans ?_
  · match a with
    | ⟨0, _⟩ => blk_simp [idx2 t]
    | ⟨1, _⟩ => blk_simp [idx2 t]
  · rw [V_b]; pointwise

theorem hid_at (c : Dev nD) (t : Fin cfg0.N) (r : Fin 512) (r' : Fin 8192) (hr : r'.val = 512 * t.val + r.val) (g : Fin 2) (f : Fin 2816)
    (q : Fin 5632) (hq : q.val = 2816 * g.val + f.val) :
    hidB (iblk m c 0 t) (W m c) g r f = hid (inX m c) (inW m c) r' q := by
  unfold hidB hid
  exact Finset.sum_congr rfl fun k _ => congrArg₂ (fun u v : EReal => u * v) (blk0 m c t r k r' hr) (W_at m c g f k q hq)

theorem row_at (c : Dev nD) (t : Fin cfg0.N) (r : Fin 512) (r' : Fin 8192) (hr : r'.val = 512 * t.val + r.val) (l : Fin 1024) :
    k0_pay23 (pre (iblk m c 0 t) (W m c) (D m c)) (iblk m c 0 t) alpha (ix2 r l) = zAt (inX m c) (inW m c) (inD m c) r' l := by
  refine (z_at _ _ r l).trans ?_
  unfold zAt
  refine congrArg₂ (fun u v : EReal => Ideal.ofBits .f32 0x3FB504F3#32 * u + Ideal.ofBits .f32 0x3F000000#32 * v) (blk0 m c t r l r' hr) ?_
  refine (pre_at _ _ _ r l).trans (Finset.sum_congr rfl fun f _ => congrArg₂ (fun u v : EReal => u * v) (congrArg₂ act ?_ ?_) (D_at m c f l))
  · exact hid_at m c t r r' hr 0 f (lo f) (by show f.val = 2816 * 0 + f.val; omega)
  · exact hid_at m c t r r' hr 1 f (hi f) (by show 2816 + f.val = 2816 * 1 + f.val; omega)

theorem norm_at (c : Dev nD) (t : Fin cfg0.N) (r : Fin 512) (r' : Fin 8192) (hr : r'.val = 512 * t.val + r.val) (l : Fin 1024) :
    k0_pay24 (pre (iblk m c 0 t) (W m c) (D m c)) (iblk m c 0 t) alpha (iblk m c 1 t) (iblk m c 2 t) (ix2 r l)
      = outN (inX m c) (inW m c) (inD m c) (inG m c) (inB m c) (ix2 r' l) := by
  refine (pay24_at _ _ _ _ _ (fun r l => k0_pay23 (pre (iblk m c 0 t) (W m c) (D m c)) (iblk m c 0 t) alpha (ix2 r l)) (fun _ _ => rfl) r l).trans ?_
  show lnorm _ _ _ l = lnorm _ _ _ l
  rw [blk1, blk2]
  exact congrArg (fun v => lnorm v _ _ l) (funext fun k => row_at m c t r r' hr k)

theorem cell3 (c : Dev nD) (t : Fin cfg0.N) (i : S512x1024.Idx) (j : S8192x1024.Idx) (h0 : (j 0).val = 512 * t.val + (i 0).val) (h1 : (j 1).val = (i 1).val) :
    (outsAt0 m c t.val t.isLt).1 i = outN (inX m c) (inW m c) (inD m c) (inG m c) (inB m c) j := by
  rw [out_n, ← ix2_eta i, ← ix2_eta j, show i 1 = j 1 from Fin.ext h1.symm]
  refine Eq.trans ?_ (norm_at m c t (i 0) (j 0) h0 (j 1))
  pointwise [k0_pay26]

theorem cell4 (c : Dev nD) (t : Fin cfg0.N) (i : S512x1024.Idx) (j : S8192x1024.Idx) (h0 : (j 0).val = 512 * t.val + (i 0).val) (h1 : (j 1).val = (i 1).val) :
    (outsAt0 m c t.val t.isLt).2.1 i = outN (inX m c) (inW m c) (inD m c) (inG m c) (inB m c) j := by
  rw [out_nb, ← ix2_eta i, ← ix2_eta j, show i 1 = j 1 from Fin.ext h1.symm]
  refine Eq.trans ?_ (norm_at m c t (i 0) (j 0) h0 (j 1))
  pointwise [k0_pay27]

theorem cell5 (c : Dev nD) (t : Fin cfg0.N) (i : S512x1024.Idx) (j : S8192x1024.Idx) (h0 : (j 0).val = 512 * t.val + (i 0).val) (h1 : (j 1).val = (i 1).val) :
    (outsAt0 m c t.val t.isLt).2.2.1 i = outZ (inX m c) (inW m c) (inD m c) j := by
  rw [out_z, ← ix2_eta i, ← ix2_eta j, show i 1 = j 1 from Fin.ext h1.symm]
  refine Eq.trans ?_ (row_at m c t (i 0) (j 0) h0 (j 1))
  pointwise [k0_pay25]

theorem cell6 (c : Dev nD) (t : Fin cfg0.N) (i : S2x512x2816.Idx) (j : S2x8192x2816.Idx) (h0 : (j 0).val = (i 0).val) (h1 : (j 1).val = 512 * t.val + (i 1).val)
    (h2 : (j 2).val = (i 2).val) :
    (outsAt0 m c t.val t.isLt).2.2.2.1 i = outP (inX m c) (inW m c) j := by
  rw [out_p, ← ix3_eta i]
  refine (parts_at _ _ (i 0) (i 1) (i 2)).trans ?_
  exact hid_at m c t (i 1) (j 1) h1 (i 0) (i 2) _ (by show 2816 * (j 0).val + (j 2).val = _; rw [h0, h2])

theorem cell7 (c : Dev nD) (t : Fin cfg0.N) (i : S512x1024.Idx) (j : S8192x1024.Idx) (h0 : (j 0).val = 512 * t.val + (i 0).val) (h1 : (j 1).val = (i 1).val) :
    (outsAt0 m c t.val t.isLt).2.2.2.2.1 i = inX m c j := by
  rw [out_x, ← ix2_eta i, ← ix2_eta j, show i 1 = j 1 from Fin.ext h1.symm]
  refine Eq.trans ?_ (blk0 m c t (i 0) (j 1) (j 0) h0)
  pointwise [k0_pay2, k0_pay1]

theorem arr3 (c : Dev nD) : (dats m 0 c).arrAt 3 (cfg0 : Pipeline.Cfg sig Λ₀).N = outN (inX m c) (inW m c) (inD m c) (inG m c) (inB m c) := by
  refine (dats m 0 c).arrAt_eq_of_covers 3 _ (by decide +kernel) fun t hfl y => ?_
  blk_simp
  rw [after0_3]
  refine cell3 m c t y _ ?_ ?_
  · blk_simp [idx3 t]; omega
  · blk_simp [idx3 t]
theorem arr4 (c : Dev nD) : (dats m 0 c).arrAt 4 (cfg0 : Pipeline.Cfg sig Λ₀).N = outN (inX m c) (inW m c) (inD m c) (inG m c) (inB m c) := by
  refine (dats m 0 c).arrAt_eq_of_covers 4 _ (by decide +kernel) fun t hfl y => ?_
  blk_simp
  rw [after0_4]
  refine cell4 m c t y _ ?_ ?_
  · blk_simp [idx4 t]; omega
  · blk_simp [idx4 t]
theorem arr5 (c : Dev nD) : (dats m 0 c).arrAt 5 (cfg0 : Pipeline.Cfg sig Λ₀).N = outZ (inX m c) (inW m c) (inD m c) := by
  refine (dats m 0 c).arrAt_eq_of_covers 5 _ (by decide +kernel) fun t hfl y => ?_
  blk_simp
  rw [after0_5]
  refine cell5 m c t y _ ?_ ?_
  · blk_simp [idx5 t]; omega
  · blk_simp [idx5 t]
theorem arr6 (c : Dev nD) : (dats m 0 c).arrAt 6 (cfg0 : Pipeline.Cfg sig Λ₀).N = outP (inX m c) (inW m c) := by
  refine (dats m 0 c).arrAt_eq_of_covers 6 _ (by decide +kernel) fun t hfl y => ?_
  blk_simp
  rw [after0_6]
  refine cell6 m c t y _ ?_ ?_ ?_
  · blk_simp [idx6 t]
  · blk_simp [idx6 t]; omega
  · blk_simp [idx6 t]
theorem arr7 (c : Dev nD) : (dats m 0 c).arrAt 7 (cfg0 : Pipeline.Cfg sig Λ₀).N = inX m c := by
  refine (dats m 0 c).arrAt_eq_of_covers 7 _ (by decide +kernel) fun t hfl y => ?_
  blk_simp
  rw [after0_7]
  refine cell7 m c t y _ ?_ ?_
  · blk_simp [idx7 t]; omega
  · blk_simp [idx7 t]

theorem run (g : Dev nD → PrngReg) : θ_run defs (onTc (τ := τ) (main (F := Ideal))) ⟨m, fun _ => 0, g⟩ fun r => ∀ c : Dev nD,
      r.2.mem ((c.tc : Thread nD τ).loc main_v7_0) = outN (inX m c) (inW m c) (inD m c) (inG m c) (inB m c)
      ∧ r.2.mem ((c.tc : Thread nD τ).loc main_v7_1) = outN (inX m c) (inW m c) (inD m c) (inG m c) (inB m c)
      ∧ r.2.mem ((c.tc : Thread nD τ).loc main_v7_2) = outZ (inX m c) (inW m c) (inD m c)
      ∧ r.2.mem ((c.tc : Thread nD τ).loc main_v7_3) = outP (inX m c) (inW m c)
      ∧ r.2.mem ((c.tc : Thread nD τ).loc main_v7_4) = inX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (arr3 m c), (h c).2.1.trans (arr4 m c), (h c).2.2.1.trans (arr5 m c),
    (h c).2.2.2.1.trans (arr6 m c), (h c).2.2.2.2.1.trans (arr7 m c), (h c).2.2.2.2.2⟩) (Value.run_blocks m g)

end Cert.Kernel5Ideal.Ffn

namespace Cert.Proof

open Idealize.ShloMosaic Idealize.ShloMosaic.TcCoe Idealize.SL.Sem
open Cert.Reference5Ideal Cert.Reference5Ideal.Ffn

theorem run_reference5 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v32) = outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10) = outZ (m ((c.tc : Thread nD τ).loc main_arg0)) (m ((c.tc : Thread nD τ).loc main_arg1)) (m ((c.tc : Thread nD τ).loc main_arg2))
      ∧ r.2.mem ((c.tc : Thread nD τ).loc main_v37) = outP (m ((c.tc : Thread nD τ).loc main_arg0)) (m ((c.tc : Thread nD τ).loc main_arg1))
      ∧ r.2.mem ((c.tc : Thread nD τ).loc main_v38) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (norm_eq _ _ _ _ _), (h c).2.1.trans (norm_eq _ _ _ _ _),
    (h c).2.2.1.trans (resid_eq _ _ _), (h c).2.2.2.1.trans (pair_eq _ _), (h c).2.2.2.2.1.trans rfl, (h c).2.2.2.2.2⟩)
    (Cert.Reference5Ideal.Value.run (F := Ideal) m g)

end Cert.Proof
end
-- ==== Proof.Layers.lean ====
/- The claims of the mixer's weight gradients and of the feed-forward layer. -/
module

public import proofs.«01_k».proof.Defs
public import proofs.«01_k».proof.Proof.MixOutGrad
public import proofs.«01_k».proof.Proof.MixInGrad
public import proofs.«01_k».proof.Proof.FfnFwd
public import proofs.«01_k».proof.Proof.Gen.Kernel5
public import proofs.«01_k».proof.Proof.Gen.Kernel6
public import proofs.«01_k».proof.Proof.Gen.Kernel7

@[expose] public section

set_option maxRecDepth 65536

noncomputable section

namespace Cert.Proof

open Idealize.ShloMosaic Idealize.ShloMosaic.TcCoe Idealize.SL.Sem

/-- The printed program and its idealization are one text. -/
theorem body_eq5 : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) => with_unfolding_all rfl

theorem defs_eq5 : Cert.Kernel5.defs (F := Bits) = Cert.Kernel5Ideal.defs (F := Bits) := by
  unfold Cert.Kernel5.defs Cert.Kernel5Ideal.defs
  exact congrArg (Pipeline.defs Cert.Kernel5Ideal.pcfgs) body_eq5

theorem main_eq5 : Cert.Kernel5.main (F := Bits) = Cert.Kernel5Ideal.main (F := Bits) := by
  with_unfolding_all rfl

theorem frame_kernel5 : Cert.quiescent_Kernel5 := by
  intro m ρ _
  have h : ∀ D M, D = Cert.Kernel5Ideal.defs (F := Bits) → M = Cert.Kernel5Ideal.main (F := Bits) →
      θ_run D (onTc (τ := Cert.Kernel5Ideal.τ) M) ⟨m, fun _ => 0, ρ⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0) := by
    intro D M hD hM
    subst hD hM
    exact Cert.Kernel5Ideal.Gen.frame m ρ
  exact h _ _ defs_eq5 main_eq5
theorem frame_kernel5Ideal : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun r h => ⟨fun c => (h c).2.2.2.2.2,
      Idealize.ShloMosaic.sem_eq_zero_of_no_sems (by decide) r.2⟩)
    (Cert.Reference5Ideal.Value.run (F := Ideal) m ρ)

theorem algebraic5 : Cert.algebraic_Kernel5Ideal_Reference5Ideal := by
  intro m g m' g' hpre hag
  refine ⟨_, _, _, _, _, Cert.Kernel5Ideal.Ffn.run m g, ?_⟩
  refine (θ_run Cert.Reference5Ideal.defs _ _).mono (fun r h c => ?_) (run_reference5 m' g')
  obtain ⟨a0, a1, a2, a3, a4⟩ := hag c
  obtain ⟨r0, r1, r2, r3, r4, h'⟩ := h c
  rw [a0, a1, a2, a3, a4] at r0 r1
  rw [a0, a1, a2] at r2
  rw [a0, a1] at r3
  rw [a0] at r4
  exact ⟨r0, r1, r2, r3, r4, h'⟩

/-- The printed program and its idealization are one text. -/
theorem body_eq6 : Cert.Kernel6.defs₀ (F := Bits) = Cert.Kernel6Ideal.defs₀ (F := Bits) := by
  unfold Cert.Kernel6.defs₀ Cert.Kernel6Ideal.defs₀
  refine congrArg Defs.onTc (funext fun l => funext fun a => ?_)
  match l, a with
  | 0, (t, s) => with_unfolding_all rfl

theorem defs_eq6 : Cert.Kernel6.defs (F := Bits) = Cert.Kernel6Ideal.defs (F := Bits) := by
  unfold Cert.Kernel6.defs Cert.Kernel6Ideal.defs
  exact congrArg (Pipeline.defs Cert.Kernel6Ideal.pcfgs) body_eq6

theorem main_eq6 : Cert.Kernel6.main (F := Bits) = Cert.Kernel6Ideal.main (F := Bits) := by
  with_unfolding_all rfl

theorem frame_kernel6 : Cert.quiescent_Kernel6 := by
  intro m ρ _
  have h : ∀ D M, D = Cert.Kernel6Ideal.defs (F := Bits) → M = Cert.Kernel6Ideal.main (F := Bits) →
      θ_run D (onTc (τ := Cert.Kernel6Ideal.τ) M) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0) := by
    intro D M hD hM
    subst hD hM
    exact Cert.Kernel6Ideal.Gen.frame m ρ
  exact h _ _ defs_eq6 main_eq6
theorem frame_kernel6Ideal : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem algebraic6 : Cert.algebraic_Kernel6Ideal_Reference6Ideal := by
  intro m g m' g' hpre hag
  refine ⟨fun c => Cert.Kernel6Ideal.Dw.grad (Cert.Kernel6Ideal.Dw.inG m c) (Cert.Kernel6Ideal.Dw.inX m c), Cert.Kernel6Ideal.Dw.run m g, ?_⟩
  refine (θ_run Cert.Reference6Ideal.defs _ _).mono (fun r h c => ⟨(h c).1.trans ?_, (h c).2⟩) (run_reference6 m' g')
  rw [(hag c).1, (hag c).2]

/-- The printed program and its idealization are one text. -/
theorem body_eq7 : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | 0, (t, s) => with_unfolding_all rfl

theorem defs_eq7 : Cert.Kernel7.defs (F := Bits) = Cert.Kernel7Ideal.defs (F := Bits) := by
  unfold Cert.Kernel7.defs Cert.Kernel7Ideal.defs
  exact congrArg (Pipeline.defs Cert.Kernel7Ideal.pcfgs) body_eq7

theorem main_eq7 : Cert.Kernel7.main (F := Bits) = Cert.Kernel7Ideal.main (F := Bits) := by
  with_unfolding_all rfl

theorem frame_kernel7 : Cert.quiescent_Kernel7 := by
  intro m ρ _
  have h : ∀ D M, D = Cert.Kernel7Ideal.defs (F := Bits) → M = Cert.Kernel7Ideal.main (F := Bits) →
      θ_run D (onTc (τ := Cert.Kernel7Ideal.τ) M) ⟨m, fun _ => 0, ρ⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0) := by
    intro D M hD hM
    subst hD hM
    exact Cert.Kernel7Ideal.Gen.frame m ρ
  exact h _ _ defs_eq7 main_eq7
theorem frame_kernel7Ideal : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem algebraic7 : Cert.algebraic_Kernel7Ideal_Reference7Ideal := by
  intro m g m' g' hpre hag
  refine ⟨fun c => Cert.Kernel7Ideal.Dw.grad (Cert.Kernel7Ideal.Dw.inG m c) (Cert.Kernel7Ideal.Dw.inX m c), Cert.Kernel7Ideal.Dw.run m g, ?_⟩
  refine (θ_run Cert.Reference7Ideal.defs _ _).mono (fun r h c => ⟨(h c).1.trans ?_, (h c).2⟩) (run_reference7 m' g')
  rw [(hag c).1, (hag c).2]

end Cert.Proof

end
-- ==== Proof.LossBlock.lean ====
/- The last feed-forward layer and its loss of one block of rows: what the body's values are, entry by entry. -/
module

public import proofs.«01_k».proof.Proof.Gen.Kernel8Ideal.Skeleton
public import proofs.«01_k».proof.Proof.FfnSpec
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.StableHlo.ReadAt

@[expose] public section

set_option maxRecDepth 16384

noncomputable section

namespace Cert.Kernel8Ideal.Loss

open Idealize.ShloMosaic Idealize.ShloMosaic.TcCoe
open Cert.Kernel8Ideal.Gen
open _root_.Ffn

theorem pay8_at (v3 : Vec Ideal S512x1024 .f32) (v5 v8 : Vec Ideal S1x768x1024 .bf16) (v23 : Vec Ideal S768x1024 .bf16) (r : Fin 512) (l : Fin 1024) :
    k0_pay8 v3 v5 v8 v23 (ix2 r l) = ∑ f : Fin 768, act (∑ k : Fin 1024, v3 (ix2 r k) * v5 (ix3 0 f k)) (∑ k : Fin 1024, v3 (ix2 r k) * v8 (ix3 0 f k)) * v23 (ix2 f l) := by
  pointwise [k0_pay8, k0_pay4, k0_pay5, k0_pay3, act]

theorem pay13_at (v3 v24 : Vec Ideal S512x1024 .f32) (v25 v28 : Vec Ideal S1x768x1024 .bf16) (v43 : Vec Ideal S768x1024 .bf16) (r : Fin 512) (l : Fin 1024) :
    k0_pay13 (k0_pay3 v3) v24 (k0_pay9 v3 v25) v28 v43 (ix2 r l) = v24 (ix2 r l) + ∑ f : Fin 768, act (∑ k : Fin 1024, v3 (ix2 r k) * v25 (ix3 0 f k)) (∑ k : Fin 1024, v3 (ix2 r k) * v28 (ix3 0 f k)) * v43 (ix2 f l) := by
  pointwise [k0_pay13, k0_pay9, k0_pay10, k0_pay3, act]

theorem pay22_at (v3 v45 : Vec Ideal S512x1024 .f32) (v46 v49 : Vec Ideal S1x768x1024 .bf16) (v64 : Vec Ideal S768x1024 .bf16)
    (v67 v70 : Vec Ideal S1x512x1024 .bf16) (v85 : Vec Ideal S512x1024 .bf16) (r : Fin 512) (l : Fin 1024) :
    k0_pay22 (k0_pay3 v3) v45 (k0_pay14 (k0_pay3 v3) v46) (k0_pay15 (k0_pay3 v3) v49) v64 v67 v70 v85 v3 (ix2 r l) = Ideal.ofBits .f32 0x3FB504F3#32 * v3 (ix2 r l) + Ideal.ofBits .f32 0x3F000000#32 * (v45 (ix2 r l)
      + (∑ f : Fin 768, act (∑ k : Fin 1024, v3 (ix2 r k) * v46 (ix3 0 f k)) (∑ k : Fin 1024, v3 (ix2 r k) * v49 (ix3 0 f k)) * v64 (ix2 f l))
      + ∑ f : Fin 512, act (∑ k : Fin 1024, v3 (ix2 r k) * v67 (ix3 0 f k)) (∑ k : Fin 1024, v3 (ix2 r k) * v70 (ix3 0 f k)) * v85 (ix2 f l)) := by
  pointwise [k0_pay22, k0_pay14, k0_pay15, k0_pay18, k0_pay19, k0_pay3, act]

theorem pay24_at (v93 : Vec Ideal S512x1024 .f32) (g b : Vec Ideal S1x1024 .f32) (y : Vec Ideal S512x1024 .f32) (z : Fin 512 → Fin 1024 → EReal)
    (h : ∀ r l, v93 (ix2 r l) = z r l) (r : Fin 512) (l : Fin 1024) :
    k0_pay24 v93 g b y (ix2 r l) = lnorm (z r) (g (ix2 0 l)) (b (ix2 0 l)) l - y (ix2 r l) := by
  pointwise [k0_pay24, h, lnorm]

theorem pay25_at (v93 : Vec Ideal S512x1024 .f32) (g b : Vec Ideal S1x1024 .f32) (y : Vec Ideal S512x1024 .f32) (r : Fin 512) (l : Fin 1024) :
    k0_pay25 v93 g b y (ix2 r l) = k0_pay24 v93 g b y (ix2 r l) * Ideal.ofBits .f32 0x3A800000#32 := by
  pointwise [k0_pay25]

theorem pay26_at (v93 : Vec Ideal S512x1024 .f32) (g b : Vec Ideal S1x1024 .f32) (y : Vec Ideal S512x1024 .f32) (i : S1x1.Idx) :
    k0_pay26 v93 g b y i = ∑ r : Fin 512, ∑ l : Fin 1024, k0_pay24 v93 g b y (ix2 r l) * k0_pay24 v93 g b y (ix2 r l) := by
  pointwise [k0_pay26]

theorem pay2_at (u : FVec Ideal S1x1 .f32) (c : EReal) (p : Vec Ideal S1x128 .f32) (i : Fin 1) (j : Fin 128) :
    k0_pay2 u c p (ix2 i j) = p (ix2 i j) + u (ix2 0 0) * c := by
  pointwise [k0_pay2]

/-- The rows before the norm of one block, as the body computes them from the weights `W` and `D`. -/
def pre (x : Vec Ideal S512x1024 .f32) (W : Vec Ideal S2x2816x1024 .bf16) (D : Vec Ideal S2816x1024 .bf16) : Vec Ideal S512x1024 .f32 :=
  k0_pay22 (k0_pay3 x)
    (k0_pay13 (k0_pay3 x)
      (k0_pay8 x (View.ld W (Rect.unit ![0, 0, 0] ![1, 768, 1024] inb_S2x2816x1024_S1x768x1024_0_0_0)) (View.ld W (Rect.unit ![1, 0, 0] ![1, 768, 1024] inb_S2x2816x1024_S1x768x1024_1_0_0)) (View.ld D (Rect.unit ![0, 0] ![768, 1024] inb_S2816x1024_S768x1024_0_0)))
      (k0_pay9 x (View.ld W (Rect.unit ![0, 768, 0] ![1, 768, 1024] inb_S2x2816x1024_S1x768x1024_0_768_0))) (View.ld W (Rect.unit ![1, 768, 0] ![1, 768, 1024] inb_S2x2816x1024_S1x768x1024_1_768_0)) (View.ld D (Rect.unit ![768, 0] ![768, 1024] inb_S2816x1024_S768x1024_768_0)))
    (k0_pay14 (k0_pay3 x) (View.ld W (Rect.unit ![0, 1536, 0] ![1, 768, 1024] inb_S2x2816x1024_S1x768x1024_0_1536_0)))
    (k0_pay15 (k0_pay3 x) (View.ld W (Rect.unit ![1, 1536, 0] ![1, 768, 1024] inb_S2x2816x1024_S1x768x1024_1_1536_0)))
    (View.ld D (Rect.unit ![1536, 0] ![768, 1024] inb_S2816x1024_S768x1024_1536_0)) (View.ld W (Rect.unit ![0, 2304, 0] ![1, 512, 1024] inb_S2x2816x1024_S1x512x1024_0_2304_0)) (View.ld W (Rect.unit ![1, 2304, 0] ![1, 512, 1024] inb_S2x2816x1024_S1x512x1024_1_2304_0)) (View.ld D (Rect.unit ![2304, 0] ![512, 1024] inb_S2816x1024_S512x1024_2304_0)) x

/-- The stores of the gate and up products of one block of rows, the last first. -/
def parts (x : Vec Ideal S512x1024 .f32) (W : Vec Ideal S2x2816x1024 .bf16) : List (View.Piece (Elt Ideal) S2x512x2816 .bf16) :=
  [⟨Rect.unit ![1, 0, 2304] ![1, 512, 512] inb_S2x512x2816_S1x512x512_1_0_2304, k0_pay21 (k0_pay3 x) (View.ld W (Rect.unit ![1, 2304, 0] ![1, 512, 1024] inb_S2x2816x1024_S1x512x1024_1_2304_0))⟩,
    ⟨Rect.unit ![0, 0, 2304] ![1, 512, 512] inb_S2x512x2816_S1x512x512_0_0_2304, k0_pay20 (k0_pay3 x) (View.ld W (Rect.unit ![0, 2304, 0] ![1, 512, 1024] inb_S2x2816x1024_S1x512x1024_0_2304_0))⟩,
    ⟨Rect.unit ![1, 0, 1536] ![1, 512, 768] inb_S2x512x2816_S1x512x768_1_0_1536, k0_pay17 (k0_pay3 x) (View.ld W (Rect.unit ![1, 1536, 0] ![1, 768, 1024] inb_S2x2816x1024_S1x768x1024_1_1536_0))⟩,
    ⟨Rect.unit ![0, 0, 1536] ![1, 512, 768] inb_S2x512x2816_S1x512x768_0_0_1536, k0_pay16 (k0_pay3 x) (View.ld W (Rect.unit ![0, 1536, 0] ![1, 768, 1024] inb_S2x2816x1024_S1x768x1024_0_1536_0))⟩,
    ⟨Rect.unit ![1, 0, 768] ![1, 512, 768] inb_S2x512x2816_S1x512x768_1_0_768, k0_pay12 (k0_pay3 x) (View.ld W (Rect.unit ![1, 768, 0] ![1, 768, 1024] inb_S2x2816x1024_S1x768x1024_1_768_0))⟩,
    ⟨Rect.unit ![0, 0, 768] ![1, 512, 768] inb_S2x512x2816_S1x512x768_0_0_768, k0_pay11 (k0_pay9 x (View.ld W (Rect.unit ![0, 768, 0] ![1, 768, 1024] inb_S2x2816x1024_S1x768x1024_0_768_0)))⟩,
    ⟨Rect.unit ![1, 0, 0] ![1, 512, 768] inb_S2x512x2816_S1x512x768_1_0_0, k0_pay7 x (View.ld W (Rect.unit ![1, 0, 0] ![1, 768, 1024] inb_S2x2816x1024_S1x768x1024_1_0_0))⟩,
    ⟨Rect.unit ![0, 0, 0] ![1, 512, 768] inb_S2x512x2816_S1x512x768_0_0_0, k0_pay6 x (View.ld W (Rect.unit ![0, 0, 0] ![1, 768, 1024] inb_S2x2816x1024_S1x768x1024_0_0_0))⟩]

/-- One hidden entry of a block of rows. -/
def hidB (x : S512x1024.Idx → EReal) (W : S2x2816x1024.Idx → EReal) (g : Fin 2) (r : Fin 512) (f : Fin 2816) : EReal :=
  ∑ k : Fin 1024, x (ix2 r k) * W (ix3 g f k)

theorem pre_at (x : Vec Ideal S512x1024 .f32) (W : Vec Ideal S2x2816x1024 .bf16) (D : Vec Ideal S2816x1024 .bf16) (r : Fin 512) (l : Fin 1024) :
    pre x W D (ix2 r l) = Ideal.ofBits .f32 0x3FB504F3#32 * x (ix2 r l) + Ideal.ofBits .f32 0x3F000000#32 * ∑ f : Fin 2816, act (hidB x W 0 r f) (hidB x W 1 r f) * D (ix2 f l) := by
  unfold pre
  rw [pay22_at, pay13_at, pay8_at, ← sum_chunks]
  pointwise [hidB]

theorem parts_at (x : Vec Ideal S512x1024 .f32) (W : Vec Ideal S2x2816x1024 .bf16) (g : Fin 2) (r : Fin 512) (f : Fin 2816) :
    View.canon (parts x W) (ix3 g r f) = hidB x W g r f := by
  have hp : View.PiecesOf (fun i : S2x512x2816.Idx => hidB x W (i 0) (i 1) (i 2)) (parts x W) := by
    unfold parts
    refine ⟨fun y => ?_, fun y => ?_, fun y => ?_, fun y => ?_, fun y => ?_, fun y => ?_, fun y => ?_, fun y => ?_, trivial⟩
    · show _ = hidB x W _ _ _
      pointwise [k0_pay21, k0_pay19, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay20, k0_pay18, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay17, k0_pay15, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay16, k0_pay14, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay12, k0_pay10, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay11, k0_pay9, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay7, k0_pay5, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
    · show _ = hidB x W _ _ _
      pointwise [k0_pay6, k0_pay4, k0_pay3, hidB]
      have h0 : (y 0).val < 1 := (y 0).isLt
      refine Finset.sum_congr rfl fun k _ => congrArg₂ (fun u v : EReal => u * v) (congrArg (fun a => x (ix2 a k)) (Fin.ext ?_)) (congrArg₂ (fun a b => W (ix3 a b k)) (Fin.ext ?_) (Fin.ext ?_)) <;>
        (blk_simp; try first | rfl | omega)
  exact View.canon_apply_of_pieces (fun i : S2x512x2816.Idx => hidB x W (i 0) (i 1) (i 2)) (parts x W) hp.mem (ix3 g r f) (View.cover_of_tiledBy (parts x W) ![1, 512, 256] (by sl_kernel_rfl) _)

end Cert.Kernel8Ideal.Loss
end
-- ==== Proof.LossRef.lean ====
/- The last layer's loss and its cotangent in the reference, entry by entry. -/
module

public import proofs.«01_k».proof.Proof.Gen.Reference8Ideal.Run
public import proofs.«01_k».proof.Proof.FfnRef
public import Idealize.ShloMosaic.Lib.Pipeline.ValueKit
public import Idealize.ShloMosaic.Lib.StableHlo.ReadAt

@[expose] public section

set_option maxRecDepth 16384

noncomputable section

namespace Cert.Reference8Ideal.Loss

open Idealize.ShloMosaic Idealize.ShloMosaic.TcCoe
open Cert.Reference8Ideal.Gen
open _root_.Ffn
open Cert.Reference5Ideal.Ffn (outN outZ outP zAt hid lo hi)

theorem bits_half : Ideal.ofBits .f32 0x3F000000#32 = (((1 : ℝ) / 2 : ℝ) : EReal) := by
  simp [Ideal.ofBits, Ideal.ieee, -EReal.coe_mul]
  norm_num
theorem bits_one : Ideal.ofBits .f32 0x3F800000#32 = ((1 : ℝ) : EReal) := by
  simp [Ideal.ofBits, Ideal.ieee, -EReal.coe_mul]
  norm_num
theorem bits_two : Ideal.ofBits .f32 0x40000000#32 = ((2 : ℝ) : EReal) := by
  simp [Ideal.ofBits, Ideal.ieee, -EReal.coe_mul]
  norm_num
theorem bits_1024 : Ideal.ofBits .f32 0x44800000#32 = ((1024 : ℝ) : EReal) := by
  simp [Ideal.ofBits, Ideal.ieee, -EReal.coe_mul]
  norm_num
theorem bits_inv1024 : Ideal.ofBits .f32 0x3A800000#32 = (((1 : ℝ) / 1024 : ℝ) : EReal) := by
  simp [Ideal.ofBits, Ideal.ieee, -EReal.coe_mul]
  norm_num
theorem bits_inv2048 : Ideal.ofBits .f32 0x3A000000#32 = (((1 : ℝ) / 2048 : ℝ) : EReal) := by
  simp [Ideal.ofBits, Ideal.ieee, -EReal.coe_mul]
  norm_num

/-- The square of an extended real is not negative. -/
theorem sq_nonneg (x : EReal) : 0 ≤ x * x := by
  induction x with
  | bot => simp
  | coe x => exact_mod_cast mul_self_nonneg x
  | top => simp

/-- A factor goes into a sum of terms that are not negative. -/
theorem sum_mul {ι : Type} (s : Finset ι) (f : ι → EReal) (h : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

/-- The cotangent's factors together are one over the width. -/
theorem scale (x : EReal) :
    Ideal.div (Ideal.ofBits .f32 0x3F000000#32 * Ideal.ofBits .f32 0x3F800000#32) (Ideal.ofBits .f32 0x44800000#32) * (Ideal.ofBits .f32 0x40000000#32 * x)
      = x * Ideal.ofBits .f32 0x3A800000#32 := by
  rw [bits_half, bits_one, bits_two, bits_1024, bits_inv1024, Ideal.div_coe (by norm_num), ← mul_assoc, ← EReal.coe_mul, ← EReal.coe_mul, ← EReal.coe_mul, mul_comm]
  congr 2
  norm_num

/-- Half the mean of a row's squares. -/
theorem half_mean (x : EReal) :
    Ideal.div x (Ideal.ofBits .f32 0x44800000#32) * Ideal.ofBits .f32 0x3F000000#32 = x * Ideal.ofBits .f32 0x3A000000#32 := by
  rw [bits_half, bits_1024, bits_inv2048, Ideal.div_coe (by norm_num), mul_assoc, ← EReal.coe_mul]
  congr 2
  norm_num

theorem mean_nonneg (x : EReal) (h : 0 ≤ x) : 0 ≤ Ideal.div x (Ideal.ofBits .f32 0x44800000#32) := by
  rw [bits_1024, Ideal.div_coe (by norm_num)]
  exact mul_nonneg h (by exact_mod_cast (by norm_num : (0 : ℝ) ≤ 1 / 1024))

/-- The cotangent of the normalized rows from their distance to the target. -/
def cot (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)

theorem cot_at (e : FVec Ideal S8192x1024 .f32) (t : Fin 8192) (l : Fin 1024) : cot e (ix2 t l) = e (ix2 t l) * Ideal.ofBits .f32 0x3A800000#32 := by
  refine Eq.trans ?_ (scale _)
  pointwise [cot]

/-- The loss at every column. -/
def loss (e : FVec Ideal S8192x1024 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

/-- Half the sum of the rows' mean squares. -/
def lossOf (e : Fin 8192 → Fin 1024 → EReal) : EReal :=
  ∑ t : Fin 8192, (∑ l : Fin 1024, e t l * e t l) * Ideal.ofBits .f32 0x3A000000#32

theorem loss_at (e : FVec Ideal S8192x1024 .f32) (a : Fin 1) (b : Fin 128) : loss e (ix2 a b) = lossOf fun t l => e (ix2 t l) := by
  unfold lossOf
  refine Eq.trans ?_ (Finset.sum_congr rfl fun t _ => half_mean (∑ l : Fin 1024, e (ix2 t l) * e (ix2 t l)))
  refine Eq.trans ?_ (sum_mul Finset.univ _ (fun t => mean_nonneg _ (Finset.sum_nonneg fun l _ => sq_nonneg _)) _)
  rw [mul_comm]
  pointwise [loss]

/-- A normalized row's distance to its target. -/
def errAt (x : S8192x1024.Idx → EReal) (w : S1024x5632.Idx → EReal) (d : S2816x1024.Idx → EReal) (g b : S1024.Idx → EReal) (y : S8192x1024.Idx → EReal) (t : Fin 8192) (l : Fin 1024) : EReal :=
  outN x w d g b (ix2 t l) - y (ix2 t l)
/-- The cotangent. -/
def outE (x : S8192x1024.Idx → EReal) (w : S1024x5632.Idx → EReal) (d : S2816x1024.Idx → EReal) (g b : S1024.Idx → EReal) (y : S8192x1024.Idx → EReal) : S8192x1024.Idx → EReal :=
  fun i => errAt x w d g b y (i 0) (i 1) * Ideal.ofBits .f32 0x3A800000#32
/-- The loss. -/
def outL (x : S8192x1024.Idx → EReal) (w : S1024x5632.Idx → EReal) (d : S2816x1024.Idx → EReal) (g b : S1024.Idx → EReal) (y : S8192x1024.Idx → EReal) : S1x128.Idx → EReal :=
  fun _ => lossOf (errAt x w d g b y)

theorem cot_eq (n y : S8192x1024.Idx → EReal) (x : S8192x1024.Idx → EReal) (w : S1024x5632.Idx → EReal) (d : S2816x1024.Idx → EReal) (g b : S1024.Idx → EReal) (h : n = outN x w d g b) :
    cot (subf (F := Ideal) (s := S8192x1024) (φ := .f32) n y) = outE x w d g b y := by
  subst h
  funext i
  rw [← ix2_eta i]
  exact cot_at _ (i 0) (i 1)

theorem loss_eq (n y : S8192x1024.Idx → EReal) (x : S8192x1024.Idx → EReal) (w : S1024x5632.Idx → EReal) (d : S2816x1024.Idx → EReal) (g b : S1024.Idx → EReal) (h : n = outN x w d g b) :
    loss (subf (F := Ideal) (s := S8192x1024) (φ := .f32) n y) = outL x w d g b y := by
  subst h
  funext i
  rw [← ix2_eta i]
  exact loss_at _ (i 0) (i 1)

end Cert.Reference8Ideal.Loss

namespace Cert.Proof

open Idealize.ShloMosaic Idealize.ShloMosaic.TcCoe Idealize.SL.Sem
open Cert.Reference8Ideal Cert.Reference8Ideal.Loss
open Cert.Reference5Ideal.Ffn (outN outZ outP norm_eq resid_eq pair_eq)

theorem run_reference8 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v47) = outE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v48) = outL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v10) = outZ (m ((c.tc : Thread nD τ).loc main_arg0)) (m ((c.tc : Thread nD τ).loc main_arg1)) (m ((c.tc : Thread nD τ).loc main_arg2))
      ∧ r.2.mem ((c.tc : Thread nD τ).loc main_v52) = outP (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (cot_eq _ _ _ _ _ _ _ (norm_eq _ _ _ _ _)), (h c).2.1.trans (loss_eq _ _ _ _ _ _ _ (norm_eq _ _ _ _ _)),
    (h c).2.2.1.trans (resid_eq _ _ _), (h c).2.2.2.1.trans (pair_eq _ _), (h c).2.2.2.2⟩)
    (Cert.Reference8Ideal.Value.run (F := Ideal) m g)

end Cert.Proof
end
-- ==== Proof.LossFwd.lean ====
/- The last feed-forward layer's forward call with the loss: what it leaves in its results. -/
module

public import proofs.«01_k».proof.Proof.Gen.Kernel8Ideal.Value
public import proofs.«01_k».proof.Proof.LossBlock
public import proofs.«01_k».proof.Proof.LossRef
public import proofs.«01_k».proof.Proof.Blocks
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel8Ideal.Loss

open Idealize.ShloMosaic Idealize.ShloMosaic.TcCoe
open Cert.Kernel8Ideal.Gen
open _root_.Ffn
open Cert.Reference5Ideal.Ffn (outN outZ outP zAt hid lo hi)
open Cert.Reference8Ideal.Loss (outE outL errAt lossOf sq_nonneg sum_mul)

/-- One store of a whole buffer leaves the store. -/
theorem canon_whole {s : Shape} {e : EltTy} (Z : s.Idx → Elt Ideal e) : View.canon [⟨Rect.whole s, Z⟩] = Z := by
  funext y
  exact View.canon_apply_of_pieces Z _ (fun p hp x => by
    rcases List.mem_singleton.mp hp with rfl
    exact congrArg Z (funext fun a => Fin.ext (by simp [Rect.whole, Rect.emb]))) y ⟨_, List.mem_singleton.mpr rfl, by rw [Rect.set_whole]; exact Finset.mem_univ y⟩

/-- A load after a store of the whole buffer reads the store. -/
theorem readCov_whole {sig : RefSig} {κ : Kind} {sp : Space} {s : Shape} {e : EltTy} (v : View sig κ sp s e) (Z : s.Idx → Elt Ideal e) (r : Rect s) :
    v.readCov [⟨Rect.whole s, Z⟩] r.toLoadRect = View.ld Z r := by
  rw [View.readCov_eq_canon', canon_whole]

variable (m : (ℓ : Loc nD τ sig) → Buf (Elt Ideal) ℓ)

abbrev inX (c : Dev nD) : S8192x1024.Idx → EReal := m ((c.tc : Thread nD τ).loc main_arg0)
abbrev inW (c : Dev nD) : S1024x5632.Idx → EReal := m ((c.tc : Thread nD τ).loc main_arg1)
abbrev inD (c : Dev nD) : S2816x1024.Idx → EReal := m ((c.tc : Thread nD τ).loc main_arg2)
abbrev inG (c : Dev nD) : S1024.Idx → EReal := m ((c.tc : Thread nD τ).loc main_arg3)
abbrev inB (c : Dev nD) : S1024.Idx → EReal := m ((c.tc : Thread nD τ).loc main_arg4)
abbrev inY (c : Dev nD) : S8192x1024.Idx → EReal := m ((c.tc : Thread nD τ).loc main_arg5)

/-- The weights the body copies to its scratch. -/
abbrev W (c : Dev nD) : Vec Ideal S2x2816x1024 .bf16 := V m c main_v2
abbrev D (c : Dev nD) : Vec Ideal S2816x1024 .bf16 := V m c main_v3

theorem scr_A (c : Dev nD) (t : Fin cfg0.N) (h : t.val % 16 = 0) :
    (outsAt0 m c t.val t.isLt).2.2.2.2 = (W m c, D m c) := by
  rw [outsAt0_A m c t h h]
  refine Prod.ext ?_ ?_
  · frame_out
    rw [canon_whole]; rfl
  · frame_out
    rw [canon_whole]; rfl

theorem scr_B (c : Dev nD) (t : Fin cfg0.N) (h : ¬t.val % 16 = 0) :
    (outsAt0 m c t.val t.isLt).2.2.2.2 = (outsAt0 m c (t.val - 1) (Nat.lt_of_le_of_lt (Nat.sub_le _ _) t.isLt)).2.2.2.2 := by
  rw [outsAt0_B m c t h h]
  rfl

theorem scr (c : Dev nD) : ∀ (n : ℕ) (hn : n < cfg0.N), (outsAt0 m c n hn).2.2.2.2 = (W m c, D m c)
  | 0, hn => scr_A m c ⟨0, hn⟩ rfl
  | n + 1, hn => (scr_B m c ⟨n + 1, hn⟩ (by have : n + 1 < 16 := hn; show ¬(n + 1) % 16 = 0; omega)).trans (scr c n (Nat.lt_of_succ_lt hn))

/-- The block's rows before the norm. -/
abbrev rows (c : Dev nD) (t : Fin cfg0.N) : Vec Ideal S512x1024 .f32 := pre (iblk m c 0 t) (W m c) (D m c)

theorem out_e (c : Dev nD) (t : Fin cfg0.N) :
    (outsAt0 m c t.val t.isLt).1 = k0_pay25 (rows m c t) (iblk m c 1 t) (iblk m c 2 t) (iblk m c 3 t) := by
  by_cases h : t.val % 16 = 0
  · rw [outsAt0_A m c t h h]
    frame_out
    simp only [readCov_whole]
    rfl
  · rw [outsAt0_B m c t h h, scr m c]
    frame_out
    simp only [read_unread_whole]
    rfl

theorem out_z (c : Dev nD) (t : Fin cfg0.N) :
    (outsAt0 m c t.val t.isLt).2.2.1 = k0_pay23 (F := Ideal) (rows m c t) := by
  by_cases h : t.val % 16 = 0
  · rw [outsAt0_A m c t h h]
    frame_out
    simp only [readCov_whole]
    rfl
  · rw [outsAt0_B m c t h h, scr m c]
    frame_out
    simp only [read_unread_whole]
    rfl

theorem out_p (c : Dev nD) (t : Fin cfg0.N) :
    (outsAt0 m c t.val t.isLt).2.2.2.1 = View.canon (parts (iblk m c 0 t) (W m c)) := by
  by_cases h : t.val % 16 = 0
  · rw [outsAt0_A m c t h h]
    frame_out
    simp only [readCov_whole]
    rfl
  · rw [outsAt0_B m c t h h, scr m c]
    frame_out
    simp only [read_unread_whole]
    rfl

/-- The factor of the loss. -/
abbrev half : EReal := FloatOps.ofBits (F := Ideal) FTy.f32 0x3A000000#32

theorem out_first (c : Dev nD) (t : Fin cfg0.N) (h : t.val % 16 = 0) :
    (outsAt0 m c t.val t.isLt).2.1 = k0_pay2 (k0_pay26 (rows m c t) (iblk m c 1 t) (iblk m c 2 t) (iblk m c 3 t)) half (k0_pay1 (F := Ideal)) := by
  rw [outsAt0_A m c t h h]
  frame_out
  simp only [readCov_whole]
  rfl

theorem out_next (c : Dev nD) (t : Fin cfg0.N) (h : ¬t.val % 16 = 0) :
    (outsAt0 m c t.val t.isLt).2.1 = k0_pay2 (k0_pay26 (rows m c t) (iblk m c 1 t) (iblk m c 2 t) (iblk m c 3 t)) half
      (outsAt0 m c (t.val - 1) (Nat.lt_of_le_of_lt (Nat.sub_le _ _) t.isLt)).2.1 := by
  rw [outsAt0_B m c t h h, scr m c]
  frame_out
  simp only [read_unread_whole]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, t.val, 0] := (by decide +kernel : ∀ t : Fin grid0.N, _)

theorem V_x (c : Dev nD) : V m c main_arg0 = m ((c.tc : Thread nD τ).loc main_arg0) := by
  unfold V; after_reads_simp
theorem V_y (c : Dev nD) : V m c main_arg5 = m ((c.tc : Thread nD τ).loc main_arg5) := by
  unfold V; after_reads_simp
theorem V_w (c : Dev nD) : V m c main_v2 = truncf (F := Ideal) .bf16 (shapeCast S2x2816x1024 (transpose S5632x1024 [1, 0] (m ((c.tc : Thread nD τ).loc main_arg1)) transposes_S1024x5632_S5632x1024_1_0) shapeCasts_S5632x1024_S2x2816x1024) bitsLt_bf16_f32 := by
  unfold V; after_reads_simp; rfl
theorem V_d (c : Dev nD) : V m c main_v3 = truncf (F := Ideal) .bf16 (m ((c.tc : Thread nD τ).loc main_arg2)) bitsLt_bf16_f32 := by
  unfold V; after_reads_simp
theorem V_g (c : Dev nD) : V m c main_v4 = shapeCast S1x1024 (m ((c.tc : Thread nD τ).loc main_arg3)) shapeCasts_S1024_S1x1024 := by
  unfold V; after_reads_simp; rfl
theorem V_b (c : Dev nD) : V m c main_v5 = shapeCast S1x1024 (m ((c.tc : Thread nD τ).loc main_arg4)) shapeCasts_S1024_S1x1024 := by
  unfold V; after_reads_simp; rfl

theorem W_at (c : Dev nD) (g : Fin 2) (f : Fin 2816) (k : Fin 1024) (r : Fin 5632) (h : r.val = 2816 * g.val + f.val) :
    W m c (ix3 g f k) = inW m c (ix2 k r) := by
  show V m c main_v2 (ix3 g f k) = _
  rw [V_w]
  pointwise
  exact congrArg (fun r => inW m c (ix2 k r)) (Fin.ext (by simp; omega))

theorem D_at (c : Dev nD) (f : Fin 2816) (l : Fin 1024) : D m c (ix2 f l) = inD m c (ix2 f l) := by
  show V m c main_v3 (ix2 f l) = _
  rw [V_d]
  pointwise

theorem blk0 (c : Dev nD) (t : Fin cfg0.N) (r : Fin 512) (l : Fin 1024) (r' : Fin 8192) (hr : r'.val = 512 * t.val + r.val) :
    iblk m c 0 t (ix2 r l) = inX m c (ix2 r' l) := by
  unfold iblk
  refine (congrArg (V m c main_arg0) (funext fun a => Fin.ext ?_)).trans (congrFun (V_x m c) (ix2 r' l))
  match a with
  | ⟨0, _⟩ => blk_simp [idx0 t]; omega
  | ⟨1, _⟩ => blk_simp [idx0 t]

theorem blk1 (c : Dev nD) (t : Fin cfg0.N) (l : Fin 1024) : iblk m c 1 t (ix2 0 l) = inG m c (ix1 l) := by
  unfold iblk
  refine (congrArg (V m c main_v4) (a₂ := ix2 0 l) (funext fun a => Fin.ext ?_)).trans ?_
  · match a with
    | ⟨0, _⟩ => blk_simp [idx1 t]
    | ⟨1, _⟩ => blk_simp [idx1 t]
  · rw [V_g]; pointwise

theorem blk2 (c : Dev nD) (t : Fin cfg0.N) (l : Fin 1024) : iblk m c 2 t (ix2 0 l) = inB m c (ix1 l) := by
  unfold iblk
  refine (congrArg (V m c main_v5) (a₂ := ix2 0 l) (funext fun a => Fin.ext ?_)).trans ?_
  · match a with
    | ⟨0, _⟩ => blk_simp [idx2 t]
    | ⟨1, _⟩ => blk_simp [idx2 t]
  · rw [V_b]; pointwise

theorem blk3 (c : Dev nD) (t : Fin cfg0.N) (r : Fin 512) (l : Fin 1024) (r' : Fin 8192) (hr : r'.val = 512 * t.val + r.val) :
    iblk m c 3 t (ix2 r l) = inY m c (ix2 r' l) := by
  unfold iblk
  refine (congrArg (V m c main_arg5) (funext fun a => Fin.ext ?_)).trans (congrFun (V_y m c) (ix2 r' l))
  match a with
  | ⟨0, _⟩ => blk_simp [idx3 t]; omega
  | ⟨1, _⟩ => blk_simp [idx3 t]

theorem hid_at (c : Dev nD) (t : Fin cfg0.N) (r : Fin 512) (r' : Fin 8192) (hr : r'.val = 512 * t.val + r.val) (g : Fin 2) (f : Fin 2816)
    (q : Fin 5632) (hq : q.val = 2816 * g.val + f.val) :
    hidB (iblk m c 0 t) (W m c) g r f = hid (inX m c) (inW m c) r' q := by
  unfold hidB hid
  exact Finset.sum_congr rfl fun k _ => congrArg₂ (fun u v : EReal => u * v) (blk0 m c t r k r' hr) (W_at m c g f k q hq)

theorem row_at (c : Dev nD) (t : Fin cfg0.N) (r : Fin 512) (r' : Fin 8192) (hr : r'.val = 512 * t.val + r.val) (l : Fin 1024) :
    rows m c t (ix2 r l) = zAt (inX m c) (inW m c) (inD m c) r' l := by
  refine (pre_at _ _ _ r l).trans ?_
  unfold zAt
  refine congrArg₂ (fun u v : EReal => Ideal.ofBits .f32 0x3FB504F3#32 * u + Ideal.ofBits .f32 0x3F000000#32 * v) (blk0 m c t r l r' hr) ?_
  refine Finset.sum_congr rfl fun f _ => congrArg₂ (fun u v : EReal => u * v) (congrArg₂ act ?_ ?_) (D_at m c f l)
  · exact hid_at m c t r r' hr 0 f (lo f) (by show f.val = 2816 * 0 + f.val; omega)
  · exact hid_at m c t r r' hr 1 f (hi f) (by show 2816 + f.val = 2816 * 1 + f.val; omega)

theorem err_at (c : Dev nD) (t : Fin cfg0.N) (r : Fin 512) (r' : Fin 8192) (hr : r'.val = 512 * t.val + r.val) (l : Fin 1024) :
    k0_pay24 (rows m c t) (iblk m c 1 t) (iblk m c 2 t) (iblk m c 3 t) (ix2 r l)
      = errAt (inX m c) (inW m c) (inD m c) (inG m c) (inB m c) (inY m c) r' l := by
  refine (pay24_at _ _ _ _ (fun r l => rows m c t (ix2 r l)) (fun _ _ => rfl) r l).trans ?_
  show lnorm _ _ _ l - _ = lnorm _ _ _ l - _
  rw [blk1, blk2, blk3 m c t r l r' hr]
  exact congrArg (fun v => lnorm v (inG m c (ix1 l)) (inB m c (ix1 l)) l - inY m c (ix2 r' l)) (funext fun k => row_at m c t r r' hr k)

theorem cell4 (c : Dev nD) (t : Fin cfg0.N) (i : S512x1024.Idx) (j : S8192x1024.Idx) (h0 : (j 0).val = 512 * t.val + (i 0).val) (h1 : (j 1).val = (i 1).val) :
    (outsAt0 m c t.val t.isLt).1 i = outE (inX m c) (inW m c) (inD m c) (inG m c) (inB m c) (inY m c) j := by
  rw [out_e, ← ix2_eta i, ← ix2_eta j, show i 1 = j 1 from Fin.ext h1.symm]
  exact (pay25_at _ _ _ _ (i 0) (j 1)).trans (congrArg (fun u : EReal => u * Ideal.ofBits .f32 0x3A800000#32) (err_at m c t (i 0) (j 0) h0 (j 1)))

/-- One block's part of the loss. -/
def part (c : Dev nD) (n : ℕ) (i : S1x128.Idx) : EReal :=
  if h : n < cfg0.N then (∑ r : Fin 512, ∑ l : Fin 1024, k0_pay24 (rows m c ⟨n, h⟩) (iblk m c 1 ⟨n, h⟩) (iblk m c 2 ⟨n, h⟩) (iblk m c 3 ⟨n, h⟩) (ix2 r l)
      * k0_pay24 (rows m c ⟨n, h⟩) (iblk m c 1 ⟨n, h⟩) (iblk m c 2 ⟨n, h⟩) (iblk m c 3 ⟨n, h⟩) (ix2 r l)) * half else 0

theorem first (c : Dev nD) (t : Fin cfg0.N) (h : t.val % 16 = 0) (i : S1x128.Idx) :
    (outsAt0 m c t.val t.isLt).2.1 i = 0 + part m c t.val i := by
  rw [out_first m c t h, ← ix2_eta i]
  refine (pay2_at _ _ _ (i 0) (i 1)).trans ?_
  unfold part
  rw [dif_pos t.isLt, pay26_at]
  refine congrArg (fun u : EReal => u + _) ?_
  pointwise [k0_pay1]

theorem next (c : Dev nD) (t : Fin cfg0.N) (h : ¬t.val % 16 = 0) (i : S1x128.Idx) :
    (outsAt0 m c t.val t.isLt).2.1 i = (outsAt0 m c (t.val - 1) (Nat.lt_of_le_of_lt (Nat.sub_le _ _) t.isLt)).2.1 i + part m c t.val i := by
  rw [out_next m c t h, ← ix2_eta i]
  refine (pay2_at _ _ _ (i 0) (i 1)).trans ?_
  unfold part
  rw [dif_pos t.isLt, pay26_at]

/-- Sixteen blocks of 512 rows are the 8192 rows. -/
theorem sum_sixteen (f : Fin 8192 → EReal) (g : ℕ → Fin 512 → EReal) (h : ∀ a : ℕ, a < 16 → ∀ k : Fin 512, ∀ t : Fin 8192, t.val = 512 * a + k.val → g a k = f t) :
    ∑ a ∈ Finset.range 16, ∑ k : Fin 512, g a k = ∑ t : Fin 8192, f t := by
  have e : ∀ t : Fin 8192, f t = (fun n : ℕ => f ⟨n % 8192, Nat.mod_lt _ (by decide)⟩) t.val := fun t =>
    congrArg f (Fin.ext (Nat.mod_eq_of_lt t.isLt).symm)
  rw [Finset.sum_congr rfl fun t _ => e t, Fin.sum_univ_eq_sum_range (fun n : ℕ => f ⟨n % 8192, Nat.mod_lt _ (by decide)⟩) 8192,
    show Finset.range 8192 = Finset.range (512 * 16) from rfl, ← _root_.Dw.sum_blocks]
  refine Finset.sum_congr rfl fun a ha => ?_
  rw [← Fin.sum_univ_eq_sum_range (fun k : ℕ => f ⟨(512 * a + k) % 8192, Nat.mod_lt _ (by decide)⟩) 512]
  have ha' := Finset.mem_range.mp ha
  exact Finset.sum_congr rfl fun k _ => h a ha' k _ (Nat.mod_eq_of_lt (by have := k.isLt; omega))

/-- A row's squares times the factor. -/
abbrev term (c : Dev nD) (t' : Fin 8192) : EReal :=
  (∑ l : Fin 1024, errAt (inX m c) (inW m c) (inD m c) (inG m c) (inB m c) (inY m c) t' l * errAt (inX m c) (inW m c) (inD m c) (inG m c) (inB m c) (inY m c) t' l) * Ideal.ofBits .f32 0x3A000000#32

theorem cell5 (c : Dev nD) (t : Fin cfg0.N) (h : t.val % 16 = 15) (i : S1x128.Idx) (j : S1x128.Idx) :
    (outsAt0 m c t.val t.isLt).2.1 i = outL (inX m c) (inW m c) (inD m c) (inG m c) (inB m c) (inY m c) j := by
  refine (Pipeline.eq_sum_of_reset_step_apply_of_mod (fun n hn => (outsAt0 m c n hn).2.1) 16 (fun _ => 0) (part m c)
    (first m c) (next m c) t h i).trans ?_
  rw [zero_add]
  have hN : t.val < 16 := t.isLt
  refine (Finset.sum_congr rfl fun a ha => ?_).trans (sum_sixteen (term m c)
    (fun a k => term m c ⟨(512 * a + k.val) % 8192, Nat.mod_lt _ (by decide)⟩) ?_)
  · have ha' := Finset.mem_range.mp ha
    have hlt : 16 * (t.val / 16) + a < cfg0.N := (by omega : 16 * (t.val / 16) + a < 16)
    unfold part
    rw [dif_pos hlt]
    refine (sum_mul Finset.univ _ (fun r => Finset.sum_nonneg fun l _ => sq_nonneg _) _).trans ?_
    refine Finset.sum_congr rfl fun k _ => ?_
    have hk := k.isLt
    refine congrArg (fun u : EReal => u * Ideal.ofBits .f32 0x3A000000#32) (Finset.sum_congr rfl fun l _ => ?_)
    have e := err_at m c ⟨_, hlt⟩ k ⟨(512 * a + k.val) % 8192, Nat.mod_lt _ (by decide)⟩ (by show (512 * a + k.val) % 8192 = 512 * (16 * (t.val / 16) + a) + k.val; omega) l
    exact congrArg₂ (fun u v : EReal => u * v) e e
  · intro a ha k t' ht
    have e : (⟨(512 * a + k.val) % 8192, Nat.mod_lt _ (by decide)⟩ : Fin 8192) = t' := Fin.ext (by have := t'.isLt; show (512 * a + k.val) % 8192 = _; omega)
    rw [e]

theorem cell6 (c : Dev nD) (t : Fin cfg0.N) (i : S512x1024.Idx) (j : S8192x1024.Idx) (h0 : (j 0).val = 512 * t.val + (i 0).val) (h1 : (j 1).val = (i 1).val) :
    (outsAt0 m c t.val t.isLt).2.2.1 i = outZ (inX m c) (inW m c) (inD m c) j := by
  rw [out_z, ← ix2_eta i, ← ix2_eta j, show i 1 = j 1 from Fin.ext h1.symm]
  refine Eq.trans ?_ (row_at m c t (i 0) (j 0) h0 (j 1))
  pointwise [k0_pay23]

theorem cell7 (c : Dev nD) (t : Fin cfg0.N) (i : S2x512x2816.Idx) (j : S2x8192x2816.Idx) (h0 : (j 0).val = (i 0).val) (h1 : (j 1).val = 512 * t.val + (i 1).val)
    (h2 : (j 2).val = (i 2).val) :
    (outsAt0 m c t.val t.isLt).2.2.2.1 i = outP (inX m c) (inW m c) j := by
  rw [out_p, ← ix3_eta i]
  refine (parts_at _ _ (i 0) (i 1) (i 2)).trans ?_
  exact hid_at m c t (i 1) (j 1) h1 (i 0) (i 2) _ (by show 2816 * (j 0).val + (j 2).val = _; rw [h0, h2])

theorem arr4 (c : Dev nD) : (dats m 0 c).arrAt 4 (cfg0 : Pipeline.Cfg sig Λ₀).N = outE (inX m c) (inW m c) (inD m c) (inG m c) (inB m c) (inY m c) := by
  refine (dats m 0 c).arrAt_eq_of_covers 4 _ (by decide +kernel) fun t hfl y => ?_
  blk_simp
  rw [after0_4]
  refine cell4 m c t y _ ?_ ?_
  · blk_simp [idx4 t]; omega
  · blk_simp [idx4 t]
theorem arr5 (c : Dev nD) : (dats m 0 c).arrAt 5 (cfg0 : Pipeline.Cfg sig Λ₀).N = outL (inX m c) (inW m c) (inD m c) (inG m c) (inB m c) (inY m c) := by
  refine (dats m 0 c).arrAt_eq_of_covers 5 _ (by decide +kernel) fun t hfl y => ?_
  blk_simp
  rw [after0_5]
  exact cell5 m c t ((flush0_5 t).mp hfl) y _
theorem arr6 (c : Dev nD) : (dats m 0 c).arrAt 6 (cfg0 : Pipeline.Cfg sig Λ₀).N = outZ (inX m c) (inW m c) (inD m c) := by
  refine (dats m 0 c).arrAt_eq_of_covers 6 _ (by decide +kernel) fun t hfl y => ?_
  blk_simp
  rw [after0_6]
  refine cell6 m c t y _ ?_ ?_
  · blk_simp [idx6 t]; omega
  · blk_simp [idx6 t]
theorem arr7 (c : Dev nD) : (dats m 0 c).arrAt 7 (cfg0 : Pipeline.Cfg sig Λ₀).N = outP (inX m c) (inW m c) := by
  refine (dats m 0 c).arrAt_eq_of_covers 7 _ (by decide +kernel) fun t hfl y => ?_
  blk_simp
  rw [after0_7]
  refine cell7 m c t y _ ?_ ?_ ?_
  · blk_simp [idx7 t]
  · blk_simp [idx7 t]; omega
  · blk_simp [idx7 t]

theorem run (g : Dev nD → PrngReg) : θ_run defs (onTc (τ := τ) (main (F := Ideal))) ⟨m, fun _ => 0, g⟩ fun r => ∀ c : Dev nD,
      r.2.mem ((c.tc : Thread nD τ).loc main_v7_0) = outE (inX m c) (inW m c) (inD m c) (inG m c) (inB m c) (inY m c)
      ∧ r.2.mem ((c.tc : Thread nD τ).loc main_v7_1) = outL (inX m c) (inW m c) (inD m c) (inG m c) (inB m c) (inY m c)
      ∧ r.2.mem ((c.tc : Thread nD τ).loc main_v7_2) = outZ (inX m c) (inW m c) (inD m c)
      ∧ r.2.mem ((c.tc : Thread nD τ).loc main_v7_3) = outP (inX m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (arr4 m c), (h c).2.1.trans (arr5 m c), (h c).2.2.1.trans (arr6 m c),
    (h c).2.2.2.1.trans (arr7 m c), (h c).2.2.2.2⟩) (Value.run_blocks m g)

end Cert.Kernel8Ideal.Loss
end
-- ==== Proof.MixIn.lean ====
/- The mixer's input projection: what its call leaves in its results. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel9Ideal.Proj

open Idealize.ShloMosaic Idealize.ShloMosaic.TcCoe
open Cert.Kernel9Ideal.Gen

/-- `n` columns of the product, from column `o` on. -/
def cols (n o : ℕ) (h : o + n ≤ 2944) (x : S8192x1024.Idx → EReal) (w : S1024x2944.Idx → EReal) (i : (⟨2, ![8192, n]⟩ : Shape).Idx) : EReal :=
  ∑ k : Fin 1024, x (ix2 (i 0) k) * w (ix2 k ⟨o + (i 1).val, by have h1 : (i 1).val < n := (i 1).isLt; omega⟩)

variable (m : (ℓ : Loc nD τ sig) → Buf (Elt Ideal) ℓ)

abbrev inX (c : Dev nD) : S8192x1024.Idx → EReal := m ((c.tc : Thread nD τ).loc main_arg0)
abbrev inW (c : Dev nD) : S1024x2944.Idx → EReal := m ((c.tc : Thread nD τ).loc main_arg1)

theorem V_x (c : Dev nD) : V m c main_arg0 = m ((c.tc : Thread nD τ).loc main_arg0) := by
  unfold V; after_reads_simp
theorem V_w (c : Dev nD) : V m c main_v0 = truncf (F := Ideal) .bf16 (m ((c.tc : Thread nD τ).loc main_arg1)) bitsLt_bf16_f32 := by
  unfold V; after_reads_simp

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem blk0 (c : Dev nD) (t : Fin cfg0.N) (r : Fin 512) (l : Fin 1024) (r' : Fin 8192) (hr : r'.val = 512 * t.val + r.val) :
    iblk m c 0 t (ix2 r l) = inX m c (ix2 r' l) := by
  unfold iblk
  refine (congrArg (V m c main_arg0) (funext fun a => Fin.ext ?_)).trans (congrFun (V_x m c) (ix2 r' l))
  match a with
  | ⟨0, _⟩ => blk_simp [idx0 t]; omega
  | ⟨1, _⟩ => blk_simp [idx0 t]

theorem blk1 (c : Dev nD) (t : Fin cfg0.N) (k : Fin 1024) (l : Fin 2944) : iblk m c 1 t (ix2 k l) = inW m c (ix2 k l) := by
  unfold iblk
  refine (congrArg (V m c main_v0) (a₂ := ix2 k l) (funext fun a => Fin.ext ?_)).trans ?_
  · match a with
    | ⟨0, _⟩ => blk_simp [idx1 t]
    | ⟨1, _⟩ => blk_simp [idx1 t]
  · rw [V_w]; pointwise

theorem pay2_at (x : Vec Ideal S512x1024 .f32) (w : Vec Ideal S1024x768 .bf16) (r : Fin 512) (l : Fin 768) :
    k0_pay2 x w (ix2 r l) = ∑ k : Fin 1024, x (ix2 r k) * w (ix2 k l) := by
  pointwise [k0_pay2, k0_pay1]

theorem out2 (x : Vec Ideal S512x1024 .f32) (w : Vec Ideal S1024x2944 .bf16) :
    out0_2 x w = k0_pay2 x (View.ld w (Rect.unit ![0, 0] ![1024, 768] inb_S1024x2944_S1024x768_0_0)) := by
  unfold out0_2
  frame_out

theorem cell2 (c : Dev nD) (t : Fin cfg0.N) (i : S512x768.Idx) (j : S8192x768.Idx) (h0 : (j 0).val = 512 * t.val + (i 0).val) (h1 : (j 1).val = (i 1).val) :
    out0_2 (iblk m c 0 t) (iblk m c 1 t) i = cols 768 0 (by omega) (inX m c) (inW m c) j := by
  rw [out2, ← ix2_eta i]
  refine (pay2_at _ _ (i 0) (i 1)).trans (Finset.sum_congr rfl fun k _ => congrArg₂ (fun u v : EReal => u * v) (blk0 m c t (i 0) k (j 0) h0) ?_)
  refine Eq.trans ?_ (blk1 m c t k _)
  refine congrArg (iblk m c 1 t) (funext fun a => Fin.ext ?_)
  match a with
  | ⟨0, _⟩ => simp [LoadRect.idx, Rect.unit]
  | ⟨1, _⟩ => simp [LoadRect.idx, Rect.unit]; omega

theorem arr2 (c : Dev nD) : (dats m 0 c).arrAt 2 (cfg0 : Pipeline.Cfg sig Λ₀).N = cols 768 0 (by omega) (inX m c) (inW m c) := by
  refine (dats m 0 c).arrAt_eq_of_covers 2 _ (by decide +kernel) fun t hfl y => ?_
  blk_simp
  rw [after0_2]
  refine cell2 m c t y _ ?_ ?_
  · blk_simp [idx2 t]; omega
  · blk_simp [idx2 t]

theorem pay3_at (x : Vec Ideal S512x1024 .f32) (w : Vec Ideal S1024x1536 .bf16) (r : Fin 512) (l : Fin 1536) :
    k0_pay3 x w (ix2 r l) = ∑ k : Fin 1024, x (ix2 r k) * w (ix2 k l) := by
  pointwise [k0_pay3, k0_pay1]

theorem out3 (x : Vec Ideal S512x1024 .f32) (w : Vec Ideal S1024x2944 .bf16) :
    out0_3 x w = k0_pay3 x (View.ld w (Rect.unit ![0, 768] ![1024, 1536] inb_S1024x2944_S1024x1536_0_768)) := by
  unfold out0_3
  frame_out

theorem cell3 (c : Dev nD) (t : Fin cfg0.N) (i : S512x1536.Idx) (j : S8192x1536.Idx) (h0 : (j 0).val = 512 * t.val + (i 0).val) (h1 : (j 1).val = (i 1).val) :
    out0_3 (iblk m c 0 t) (iblk m c 1 t) i = cols 1536 768 (by omega) (inX m c) (inW m c) j := by
  rw [out3, ← ix2_eta i]
  refine (pay3_at _ _ (i 0) (i 1)).trans (Finset.sum_congr rfl fun k _ => congrArg₂ (fun u v : EReal => u * v) (blk0 m c t (i 0) k (j 0) h0) ?_)
  refine Eq.trans ?_ (blk1 m c t k _)
  refine congrArg (iblk m c 1 t) (funext fun a => Fin.ext ?_)
  match a with
  | ⟨0, _⟩ => simp [LoadRect.idx, Rect.unit]
  | ⟨1, _⟩ => simp [LoadRect.idx, Rect.unit]; omega

theorem arr3 (c : Dev nD) : (dats m 0 c).arrAt 3 (cfg0 : Pipeline.Cfg sig Λ₀).N = cols 1536 768 (by omega) (inX m c) (inW m c) := by
  refine (dats m 0 c).arrAt_eq_of_covers 3 _ (by decide +kernel) fun t hfl y => ?_
  blk_simp
  rw [after0_3]
  refine cell3 m c t y _ ?_ ?_
  · blk_simp [idx3 t]; omega
  · blk_simp [idx3 t]

theorem pay4_at (x : Vec Ideal S512x1024 .f32) (w : Vec Ideal S1024x512 .bf16) (r : Fin 512) (l : Fin 512) :
    k0_pay4 x w (ix2 r l) = ∑ k : Fin 1024, x (ix2 r k) * w (ix2 k l) := by
  pointwise [k0_pay4, k0_pay1]

theorem out4 (x : Vec Ideal S512x1024 .f32) (w : Vec Ideal S1024x2944 .bf16) :
    out0_4 x w = k0_pay4 x (View.ld w (Rect.unit ![0, 2304] ![1024, 512] inb_S1024x2944_S1024x512_0_2304)) := by
  unfold out0_4
  frame_out

theorem cell4 (c : Dev nD) (t : Fin cfg0.N) (i : S512x512.Idx) (j : S8192x512.Idx) (h0 : (j 0).val = 512 * t.val + (i 0).val) (h1 : (j 1).val = (i 1).val) :
    out0_4 (iblk m c 0 t) (iblk m c 1 t) i = cols 512 2304 (by omega) (inX m c) (inW m c) j := by
  rw [out4, ← ix2_eta i]
  refine (pay4_at _ _ (i 0) (i 1)).trans (Finset.sum_congr rfl fun k _ => congrArg₂ (fun u v : EReal => u * v) (blk0 m c t (i 0) k (j 0) h0) ?_)
  refine Eq.trans ?_ (blk1 m c t k _)
  refine congrArg (iblk m c 1 t) (funext fun a => Fin.ext ?_)
  match a with
  | ⟨0, _⟩ => simp [LoadRect.idx, Rect.unit]
  | ⟨1, _⟩ => simp [LoadRect.idx, Rect.unit]; omega

theorem arr4 (c : Dev nD) : (dats m 0 c).arrAt 4 (cfg0 : Pipeline.Cfg sig Λ₀).N = cols 512 2304 (by omega) (inX m c) (inW m c) := by
  refine (dats m 0 c).arrAt_eq_of_covers 4 _ (by decide +kernel) fun t hfl y => ?_
  blk_simp
  rw [after0_4]
  refine cell4 m c t y _ ?_ ?_
  · blk_simp [idx4 t]; omega
  · blk_simp [idx4 t]

theorem pay5_at (x : Vec Ideal S512x1024 .f32) (w : Vec Ideal S1024x128 .bf16) (r : Fin 512) (l : Fin 128) :
    k0_pay5 x w (ix2 r l) = ∑ k : Fin 1024, x (ix2 r k) * w (ix2 k l) := by
  pointwise [k0_pay5, k0_pay1]

theorem out5 (x : Vec Ideal S512x1024 .f32) (w : Vec Ideal S1024x2944 .bf16) :
    out0_5 x w = k0_pay5 x (View.ld w (Rect.unit ![0, 2816] ![1024, 128] inb_S1024x2944_S1024x128_0_2816)) := by
  unfold out0_5
  frame_out

theorem cell5 (c : Dev nD) (t : Fin cfg0.N) (i : S512x128.Idx) (j : S8192x128.Idx) (h0 : (j 0).val = 512 * t.val + (i 0).val) (h1 : (j 1).val = (i 1).val) :
    out0_5 (iblk m c 0 t) (iblk m c 1 t) i = cols 128 2816 (by omega) (inX m c) (inW m c) j := by
  rw [out5, ← ix2_eta i]
  refine (pay5_at _ _ (i 0) (i 1)).trans (Finset.sum_congr rfl fun k _ => congrArg₂ (fun u v : EReal => u * v) (blk0 m c t (i 0) k (j 0) h0) ?_)
  refine Eq.trans ?_ (blk1 m c t k _)
  refine congrArg (iblk m c 1 t) (funext fun a => Fin.ext ?_)
  match a with
  | ⟨0, _⟩ => simp [LoadRect.idx, Rect.unit]
  | ⟨1, _⟩ => simp [LoadRect.idx, Rect.unit]; omega

theorem arr5 (c : Dev nD) : (dats m 0 c).arrAt 5 (cfg0 : Pipeline.Cfg sig Λ₀).N = cols 128 2816 (by omega) (inX m c) (inW m c) := by
  refine (dats m 0 c).arrAt_eq_of_covers 5 _ (by decide +kernel) fun t hfl y => ?_
  blk_simp
  rw [after0_5]
  refine cell5 m c t y _ ?_ ?_
  · blk_simp [idx5 t]; omega
  · blk_simp [idx5 t]

theorem run (g : Dev nD → PrngReg) : θ_run defs (onTc (τ := τ) (main (F := Ideal))) ⟨m, fun _ => 0, g⟩ fun r => ∀ c : Dev nD,
      r.2.mem ((c.tc : Thread nD τ).loc main_v1_0) = cols 768 0 (by omega) (inX m c) (inW m c)
      ∧ r.2.mem ((c.tc : Thread nD τ).loc main_v1_1) = cols 1536 768 (by omega) (inX m c) (inW m c)
      ∧ r.2.mem ((c.tc : Thread nD τ).loc main_v1_2) = cols 512 2304 (by omega) (inX m c) (inW m c)
      ∧ r.2.mem ((c.tc : Thread nD τ).loc main_v1_3) = cols 128 2816 (by omega) (inX m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (arr2 m c), (h c).2.1.trans (arr3 m c), (h c).2.2.1.trans (arr4 m c),
    (h c).2.2.2.1.trans (arr5 m c), (h c).2.2.2.2⟩) (Value.run_blocks m g)

end Cert.Kernel9Ideal.Proj

namespace Cert.Proof

open Idealize.ShloMosaic Idealize.ShloMosaic.TcCoe Idealize.SL.Sem
open Cert.Reference9Ideal Cert.Reference9Ideal.Gen
open Cert.Kernel9Ideal.Proj (cols)

/-- The whole product. -/
abbrev prod9 (x : FVec Ideal S8192x1024 .f32) (w : FVec Ideal S1024x2944 .f32) : FVec Ideal S8192x2944 .f32 :=
  Host.dotGeneral dot_S8192x1024_S1024x2944_S8192x2944_1_0_0_1_n_n none x w

theorem cols9_2 (x : FVec Ideal S8192x1024 .f32) (w : FVec Ideal S1024x2944 .f32) :
    extractStridedSlice S8192x768 ![0, 0] (prod9 x w) slices_S8192x2944_S8192x768_0_0 = cols 768 0 (by omega) x w := by
  funext i
  rw [← ix2_eta i]
  pointwise [prod9, cols]

theorem cols9_3 (x : FVec Ideal S8192x1024 .f32) (w : FVec Ideal S1024x2944 .f32) :
    truncf .bf16 (extractStridedSlice S8192x1536 ![0, 768] (prod9 x w) slices_S8192x2944_S8192x1536_0_768) bitsLt_bf16_f32 = cols 1536 768 (by omega) x w := by
  funext i
  rw [← ix2_eta i]
  pointwise [prod9, cols]

theorem cols9_4 (x : FVec Ideal S8192x1024 .f32) (w : FVec Ideal S1024x2944 .f32) :
    extractStridedSlice S8192x512 ![0, 2304] (prod9 x w) slices_S8192x2944_S8192x512_0_2304 = cols 512 2304 (by omega) x w := by
  funext i
  rw [← ix2_eta i]
  pointwise [prod9, cols]

theorem cols9_5 (x : FVec Ideal S8192x1024 .f32) (w : FVec Ideal S1024x2944 .f32) :
    extractStridedSlice S8192x128 ![0, 2816] (prod9 x w) slices_S8192x2944_S8192x128_0_2816 = cols 128 2816 (by omega) x w := by
  funext i
  rw [← ix2_eta i]
  pointwise [prod9, cols]

theorem run_reference9 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1) = cols 768 0 (by omega) (m ((c.tc : Thread nD τ).loc main_arg0)) (m ((c.tc : Thread nD τ).loc main_arg1))
      ∧ r.2.mem ((c.tc : Thread nD τ).loc main_v5) = cols 1536 768 (by omega) (m ((c.tc : Thread nD τ).loc main_arg0)) (m ((c.tc : Thread nD τ).loc main_arg1))
      ∧ r.2.mem ((c.tc : Thread nD τ).loc main_v3) = cols 512 2304 (by omega) (m ((c.tc : Thread nD τ).loc main_arg0)) (m ((c.tc : Thread nD τ).loc main_arg1))
      ∧ r.2.mem ((c.tc : Thread nD τ).loc main_v4) = cols 128 2816 (by omega) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (cols9_2 _ _), (h c).2.1.trans (cols9_3 _ _), (h c).2.2.1.trans (cols9_4 _ _),
    (h c).2.2.2.1.trans (cols9_5 _ _), (h c).2.2.2.2⟩)
    (Cert.Reference9Ideal.Value.run (F := Ideal) m g)

end Cert.Proof
end
-- ==== Proof.MixOut.lean ====
/- The mixer's output projection with its residual and norm: what its call leaves in its results. -/
module

public import proofs.«01_k».proof.Proof.Gen.Kernel10Ideal.Value
public import proofs.«01_k».proof.Proof.Gen.Reference10Ideal.Run
public import proofs.«01_k».proof.Proof.FfnSpec
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Reference10Ideal.Mix

open Idealize.ShloMosaic Idealize.ShloMosaic.TcCoe
open Cert.Reference10Ideal.Gen
open _root_.Ffn

/-- One entry of the sum before the norm: the input times 1.4142135 plus the projection's product. -/
def zAt (a : S8192x1024.Idx → EReal) (x : S8192x1024.Idx → EReal) (w : S1024x1024.Idx → EReal) (t : Fin 8192) (l : Fin 1024) : EReal :=
  Ideal.ofBits .f32 0x3FB504F3#32 * x (ix2 t l) + ∑ k : Fin 1024, a (ix2 t k) * w (ix2 k l)

/-- The sum before the norm. -/
def resid (a : FVec Ideal S8192x1024 .bf16) (x : FVec Ideal S8192x1024 .f32) (w : FVec Ideal S1024x1024 .f32) : FVec Ideal S8192x1024 .f32 :=
  addf (mulf (broadcastInDim S8192x1024 ![] bcast_S_S8192x1024 (constant S_ .f32 0x3FB504F3#32)) x) (Host.dotGeneral dot_S8192x1024_S1024x1024_S8192x1024_1_0_0_1_n_n none (extf .f32 a bitsLt_bf16_f32) w)

theorem resid_at (a : FVec Ideal S8192x1024 .bf16) (x : FVec Ideal S8192x1024 .f32) (w : FVec Ideal S1024x1024 .f32) (t : Fin 8192) (l : Fin 1024) :
    resid a x w (ix2 t l) = zAt a x w t l := by
  pointwise [resid, zAt]

/-- The norm of every row. -/
def norm (z : FVec Ideal S8192x1024 .f32) (g b : FVec Ideal S1024 .f32) : FVec Ideal S8192x1024 .f32 :=
  addf (mulf (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32))))) (subf z (broadcastInDim S8192x1024 ![0, 1] bcast_S8192x1_S8192x1024_0_1 (Host.divf (broadcastInDim S8192x1 ![0] bcast_S8192_S8192x1_0 (Host.reduceAdd z (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 (broadcastInDim S1x1024 ![1] bcast_S1024_S1x1024_1 g))) (broadcastInDim S8192x1024 ![0, 1] bcast_S1x1024_S8192x1024_0_1 (broadcastInDim S1x1024 ![1] bcast_S1024_S1x1024_1 b))

theorem norm_at (z : FVec Ideal S8192x1024 .f32) (g b : FVec Ideal S1024 .f32) (t : Fin 8192) (l : Fin 1024) :
    norm z g b (ix2 t l) = lnorm (fun k => z (ix2 t k)) (g (ix1 l)) (b (ix1 l)) l := by
  pointwise [norm, lnorm]

/-- The normalized rows. -/
def outN (a : S8192x1024.Idx → EReal) (x : S8192x1024.Idx → EReal) (w : S1024x1024.Idx → EReal) (g b : S1024.Idx → EReal) : S8192x1024.Idx → EReal :=
  fun i => lnorm (zAt a x w (i 0)) (g (ix1 (i 1))) (b (ix1 (i 1))) (i 1)
/-- The rows before the norm. -/
def outZ (a : S8192x1024.Idx → EReal) (x : S8192x1024.Idx → EReal) (w : S1024x1024.Idx → EReal) : S8192x1024.Idx → EReal :=
  fun i => zAt a x w (i 0) (i 1)

theorem norm_eq (a : S8192x1024.Idx → EReal) (x : S8192x1024.Idx → EReal) (w : S1024x1024.Idx → EReal) (g b : S1024.Idx → EReal) :
    norm (resid a x w) g b = outN a x w g b := by
  funext i
  rw [← ix2_eta i]
  refine (norm_at _ g b (i 0) (i 1)).trans ?_
  exact congrArg (fun v => lnorm v (g (ix1 (i 1))) (b (ix1 (i 1))) (i 1)) (funext fun k => resid_at a x w (i 0) k)

theorem resid_eq (a : S8192x1024.Idx → EReal) (x : S8192x1024.Idx → EReal) (w : S1024x1024.Idx → EReal) : resid a x w = outZ a x w := by
  funext i
  rw [← ix2_eta i]
  exact resid_at a x w (i 0) (i 1)

end Cert.Reference10Ideal.Mix

namespace Cert.Kernel10Ideal.Mix

open Idealize.ShloMosaic Idealize.ShloMosaic.TcCoe
open Cert.Kernel10Ideal.Gen
open _root_.Ffn
open Cert.Reference10Ideal.Mix (outN outZ zAt)

theorem pay3_at (x : Vec Ideal S512x1024 .f32) (a : Vec Ideal S512x1024 .bf16) (w : Vec Ideal S1024x1024 .bf16) (r : Fin 512) (l : Fin 1024) :
    k0_pay3 x a w (ix2 r l) = Ideal.ofBits .f32 0x3FB504F3#32 * x (ix2 r l) + ∑ k : Fin 1024, a (ix2 r k) * w (ix2 k l) := by
  pointwise [k0_pay3]

theorem pay4_at (x : Vec Ideal S512x1024 .f32) (a : Vec Ideal S512x1024 .bf16) (w : Vec Ideal S1024x1024 .bf16) (g b : Vec Ideal S1x1024 .f32) (z : Fin 512 → Fin 1024 → EReal)
    (h : ∀ r l, k0_pay3 x a w (ix2 r l) = z r l) (r : Fin 512) (l : Fin 1024) :
    k0_pay4 x a w g b (ix2 r l) = lnorm (z r) (g (ix2 0 l)) (b (ix2 0 l)) l := by
  pointwise [k0_pay4, h, lnorm]

theorem out5 (a : Vec Ideal S512x1024 .bf16) (x : Vec Ideal S512x1024 .f32) (w : Vec Ideal S1024x1024 .bf16) (g b : Vec Ideal S1x1024 .f32) :
    out0_5 a x w g b = k0_pay1 (k0_pay4 x a w g b) := by
  unfold out0_5
  frame_out
  refine congrArg k0_pay1 ?_
  unfold k0_pay6
  frame_out
theorem out6 (a : Vec Ideal S512x1024 .bf16) (x : Vec Ideal S512x1024 .f32) (w : Vec Ideal S1024x1024 .bf16) (g b : Vec Ideal S1x1024 .f32) :
    out0_6 a x w g b = k0_pay2 (k0_pay4 x a w g b) := by
  unfold out0_6
  frame_out
  refine congrArg k0_pay2 ?_
  unfold k0_pay6
  frame_out
theorem out7 (a : Vec Ideal S512x1024 .bf16) (x : Vec Ideal S512x1024 .f32) (w : Vec Ideal S1024x1024 .bf16) (g b : Vec Ideal S1x1024 .f32) :
    out0_7 a x w g b = k0_pay5 x a w := by
  unfold out0_7
  frame_out

variable (m : (ℓ : Loc nD τ sig) → Buf (Elt Ideal) ℓ)

abbrev inA (c : Dev nD) : S8192x1024.Idx → EReal := m ((c.tc : Thread nD τ).loc main_arg0)
abbrev inX (c : Dev nD) : S8192x1024.Idx → EReal := m ((c.tc : Thread nD τ).loc main_arg1)
abbrev inW (c : Dev nD) : S1024x1024.Idx → EReal := m ((c.tc : Thread nD τ).loc main_arg2)
abbrev inG (c : Dev nD) : S1024.Idx → EReal := m ((c.tc : Thread nD τ).loc main_arg3)
abbrev inB (c : Dev nD) : S1024.Idx → EReal := m ((c.tc : Thread nD τ).loc main_arg4)

theorem V_a (c : Dev nD) : V m c main_arg0 = m ((c.tc : Thread nD τ).loc main_arg0) := by
  unfold V; after_reads_simp
theorem V_x (c : Dev nD) : V m c main_arg1 = m ((c.tc : Thread nD τ).loc main_arg1) := by
  unfold V; after_reads_simp
theorem V_w (c : Dev nD) : V m c main_v0 = truncf (F := Ideal) .bf16 (m ((c.tc : Thread nD τ).loc main_arg2)) bitsLt_bf16_f32 := by
  unfold V; after_reads_simp
theorem V_g (c : Dev nD) : V m c main_v1 = shapeCast S1x1024 (m ((c.tc : Thread nD τ).loc main_arg3)) shapeCasts_S1024_S1x1024 := by
  unfold V; after_reads_simp; rfl
theorem V_b (c : Dev nD) : V m c main_v2 = shapeCast S1x1024 (m ((c.tc : Thread nD τ).loc main_arg4)) shapeCasts_S1024_S1x1024 := by
  unfold V; after_reads_simp; rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (c : Dev nD) (t : Fin cfg0.N) (r : Fin 512) (l : Fin 1024) (r' : Fin 8192) (hr : r'.val = 512 * t.val + r.val) :
    iblk m c 0 t (ix2 r l) = inA m c (ix2 r' l) := by
  unfold iblk
  refine (congrArg (V m c main_arg0) (funext fun a => Fin.ext ?_)).trans (congrFun (V_a m c) (ix2 r' l))
  match a with
  | ⟨0, _⟩ => blk_simp [idx0 t]; omega
  | ⟨1, _⟩ => blk_simp [idx0 t]

theorem blk1 (c : Dev nD) (t : Fin cfg0.N) (r : Fin 512) (l : Fin 1024) (r' : Fin 8192) (hr : r'.val = 512 * t.val + r.val) :
    iblk m c 1 t (ix2 r l) = inX m c (ix2 r' l) := by
  unfold iblk
  refine (congrArg (V m c main_arg1) (funext fun a => Fin.ext ?_)).trans (congrFun (V_x m c) (ix2 r' l))
  match a with
  | ⟨0, _⟩ => blk_simp [idx1 t]; omega
  | ⟨1, _⟩ => blk_simp [idx1 t]

theorem blk2 (c : Dev nD) (t : Fin cfg0.N) (k l : Fin 1024) : iblk m c 2 t (ix2 k l) = inW m c (ix2 k l) := by
  unfold iblk
  refine (congrArg (V m c main_v0) (a₂ := ix2 k l) (funext fun a => Fin.ext ?_)).trans ?_
  · match a with
    | ⟨0, _⟩ => blk_simp [idx2 t]
    | ⟨1, _⟩ => blk_simp [idx2 t]
  · rw [V_w]; pointwise

theorem blk3 (c : Dev nD) (t : Fin cfg0.N) (l : Fin 1024) : iblk m c 3 t (ix2 0 l) = inG m c (ix1 l) := by
  unfold iblk
  refine (congrArg (V m c main_v1) (a₂ := ix2 0 l) (funext fun a => Fin.ext ?_)).trans ?_
  · match a with
    | ⟨0, _⟩ => blk_simp [idx3 t]
    | ⟨1, _⟩ => blk_simp [idx3 t]
  · rw [V_g]; pointwise

theorem blk4 (c : Dev nD) (t : Fin cfg0.N) (l : Fin 1024) : iblk m c 4 t (ix2 0 l) = inB m c (ix1 l) := by
  unfold iblk
  refine (congrArg (V m c main_v2) (a₂ := ix2 0 l) (funext fun a => Fin.ext ?_)).trans ?_
  · match a with
    | ⟨0, _⟩ => blk_simp [idx4 t]
    | ⟨1, _⟩ => blk_simp [idx4 t]
  · rw [V_b]; pointwise

theorem row_at (c : Dev nD) (t : Fin cfg0.N) (r : Fin 512) (r' : Fin 8192) (hr : r'.val = 512 * t.val + r.val) (l : Fin 1024) :
    k0_pay3 (iblk m c 1 t) (iblk m c 0 t) (iblk m c 2 t) (ix2 r l) = zAt (inA m c) (inX m c) (inW m c) r' l := by
  refine (pay3_at _ _ _ r l).trans ?_
  unfold zAt
  exact congrArg₂ (fun u v : EReal => Ideal.ofBits .f32 0x3FB504F3#32 * u + v) (blk1 m c t r l r' hr)
    (Finset.sum_congr rfl fun k _ => congrArg₂ (fun u v : EReal => u * v) (blk0 m c t r k r' hr) (blk2 m c t k l))

theorem norm_at (c : Dev nD) (t : Fin cfg0.N) (r : Fin 512) (r' : Fin 8192) (hr : r'.val = 512 * t.val + r.val) (l : Fin 1024) :
    k0_pay4 (iblk m c 1 t) (iblk m c 0 t) (iblk m c 2 t) (iblk m c 3 t) (iblk m c 4 t) (ix2 r l)
      = outN (inA m c) (inX m c) (inW m c) (inG m c) (inB m c) (ix2 r' l) := by
  refine (pay4_at _ _ _ _ _ (fun r l => k0_pay3 (iblk m c 1 t) (iblk m c 0 t) (iblk m c 2 t) (ix2 r l)) (fun _ _ => rfl) r l).trans ?_
  show lnorm _ _ _ l = lnorm _ _ _ l
  rw [blk3, blk4]
  exact congrArg (fun v => lnorm v _ _ l) (funext fun k => row_at m c t r r' hr k)

theorem cell5 (c : Dev nD) (t : Fin cfg0.N) (i : S512x1024.Idx) (j : S8192x1024.Idx) (h0 : (j 0).val = 512 * t.val + (i 0).val) (h1 : (j 1).val = (i 1).val) :
    out0_5 (iblk m c 0 t) (iblk m c 1 t) (iblk m c 2 t) (iblk m c 3 t) (iblk m c 4 t) i = outN (inA m c) (inX m c) (inW m c) (inG m c) (inB m c) j := by
  rw [out5, ← ix2_eta i, ← ix2_eta j, show i 1 = j 1 from Fin.ext h1.symm]
  refine Eq.trans ?_ (norm_at m c t (i 0) (j 0) h0 (j 1))
  pointwise [k0_pay1]

theorem arr5 (c : Dev nD) : (dats m 0 c).arrAt 5 (cfg0 : Pipeline.Cfg sig Λ₀).N = outN (inA m c) (inX m c) (inW m c) (inG m c) (inB m c) := by
  refine (dats m 0 c).arrAt_eq_of_covers 5 _ (by decide +kernel) fun t hfl y => ?_
  blk_simp
  rw [after0_5]
  refine cell5 m c t y _ ?_ ?_
  · blk_simp [idx5 t]; omega
  · blk_simp [idx5 t]

theorem cell6 (c : Dev nD) (t : Fin cfg0.N) (i : S512x1024.Idx) (j : S8192x1024.Idx) (h0 : (j 0).val = 512 * t.val + (i 0).val) (h1 : (j 1).val = (i 1).val) :
    out0_6 (iblk m c 0 t) (iblk m c 1 t) (iblk m c 2 t) (iblk m c 3 t) (iblk m c 4 t) i = outN (inA m c) (inX m c) (inW m c) (inG m c) (inB m c) j := by
  rw [out6, ← ix2_eta i, ← ix2_eta j, show i 1 = j 1 from Fin.ext h1.symm]
  refine Eq.trans ?_ (norm_at m c t (i 0) (j 0) h0 (j 1))
  pointwise [k0_pay2]

theorem arr6 (c : Dev nD) : (dats m 0 c).arrAt 6 (cfg0 : Pipeline.Cfg sig Λ₀).N = outN (inA m c) (inX m c) (inW m c) (inG m c) (inB m c) := by
  refine (dats m 0 c).arrAt_eq_of_covers 6 _ (by decide +kernel) fun t hfl y => ?_
  blk_simp
  rw [after0_6]
  refine cell6 m c t y _ ?_ ?_
  · blk_simp [idx6 t]; omega
  · blk_simp [idx6 t]

theorem cell7 (c : Dev nD) (t : Fin cfg0.N) (i : S512x1024.Idx) (j : S8192x1024.Idx) (h0 : (j 0).val = 512 * t.val + (i 0).val) (h1 : (j 1).val = (i 1).val) :
    out0_7 (iblk m c 0 t) (iblk m c 1 t) (iblk m c 2 t) (iblk m c 3 t) (iblk m c 4 t) i = outZ (inA m c) (inX m c) (inW m c) j := by
  rw [out7, ← ix2_eta i, ← ix2_eta j, show i 1 = j 1 from Fin.ext h1.symm]
  refine Eq.trans ?_ (row_at m c t (i 0) (j 0) h0 (j 1))
  pointwise [k0_pay5]

theorem arr7 (c : Dev nD) : (dats m 0 c).arrAt 7 (cfg0 : Pipeline.Cfg sig Λ₀).N = outZ (inA m c) (inX m c) (inW m c) := by
  refine (dats m 0 c).arrAt_eq_of_covers 7 _ (by decide +kernel) fun t hfl y => ?_
  blk_simp
  rw [after0_7]
  refine cell7 m c t y _ ?_ ?_
  · blk_simp [idx7 t]; omega
  · blk_simp [idx7 t]

theorem run (g : Dev nD → PrngReg) : θ_run defs (onTc (τ := τ) (main (F := Ideal))) ⟨m, fun _ => 0, g⟩ fun r => ∀ c : Dev nD,
      r.2.mem ((c.tc : Thread nD τ).loc main_v3_0) = outN (inA m c) (inX m c) (inW m c) (inG m c) (inB m c)
      ∧ r.2.mem ((c.tc : Thread nD τ).loc main_v3_1) = outN (inA m c) (inX m c) (inW m c) (inG m c) (inB m c)
      ∧ r.2.mem ((c.tc : Thread nD τ).loc main_v3_2) = outZ (inA m c) (inX m c) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (arr5 m c), (h c).2.1.trans (arr6 m c), (h c).2.2.1.trans (arr7 m c), (h c).2.2.2⟩) (Value.run_blocks m g)

end Cert.Kernel10Ideal.Mix

namespace Cert.Proof

open Idealize.ShloMosaic Idealize.ShloMosaic.TcCoe Idealize.SL.Sem
open Cert.Reference10Ideal Cert.Reference10Ideal.Mix

theorem run_reference10 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v26) = outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v27) = outN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v4) = outZ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (norm_eq _ _ _ _ _), (h c).2.1.trans (norm_eq _ _ _ _ _),
    (h c).2.2.1.trans (resid_eq _ _ _), (h c).2.2.2⟩)
    (Cert.Reference10Ideal.Value.run (F := Ideal) m g)

end Cert.Proof
end
-- ==== Proof.Layers2.lean ====
/- The last feed-forward layer with its loss, and the mixer's two projections: the programs run to their ends, and kernel and
   reference end with equal arrays. -/
module

public import proofs.«01_k».proof.Defs
public import proofs.«01_k».proof.Proof.Gen.Kernel8
public import proofs.«01_k».proof.Proof.Gen.Kernel9
public import proofs.«01_k».proof.Proof.Gen.Kernel10
public import proofs.«01_k».proof.Proof.LossFwd
public import proofs.«01_k».proof.Proof.MixIn
public import proofs.«01_k».proof.Proof.MixOut

@[expose] public section

set_option maxRecDepth 65536

noncomputable section

namespace Cert.Proof

open Idealize.ShloMosaic Idealize.ShloMosaic.TcCoe Idealize.SL.Sem

/-- The printed program and its idealization are one text. -/
theorem body_eq8 : Cert.Kernel8.defs₀ (F := Bits) = Cert.Kernel8Ideal.defs₀ (F := Bits) := by
  unfold Cert.Kernel8.defs₀ Cert.Kernel8Ideal.defs₀
  refine congrArg Defs.onTc (funext fun l => funext fun a => ?_)
  match l, a with
  | 0, (t, s) => with_unfolding_all rfl

theorem defs_eq8 : Cert.Kernel8.defs (F := Bits) = Cert.Kernel8Ideal.defs (F := Bits) := by
  unfold Cert.Kernel8.defs Cert.Kernel8Ideal.defs
  exact congrArg (Pipeline.defs Cert.Kernel8Ideal.pcfgs) body_eq8

theorem main_eq8 : Cert.Kernel8.main (F := Bits) = Cert.Kernel8Ideal.main (F := Bits) := by
  with_unfolding_all rfl

theorem frame_kernel8 : Cert.quiescent_Kernel8 := by
  intro m ρ _
  have h : ∀ D M, D = Cert.Kernel8Ideal.defs (F := Bits) → M = Cert.Kernel8Ideal.main (F := Bits) →
      θ_run D (onTc (τ := Cert.Kernel8Ideal.τ) M) ⟨m, fun _ => 0, ρ⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0) := by
    intro D M hD hM
    subst hD hM
    exact Cert.Kernel8Ideal.Gen.frame m ρ
  exact h _ _ defs_eq8 main_eq8
theorem frame_kernel8Ideal : Cert.quiescent_Kernel8Ideal := fun m ρ _ => Cert.Kernel8Ideal.Gen.frame (F := Ideal) m ρ
theorem frame_reference8 : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

theorem algebraic8 : Cert.algebraic_Kernel8Ideal_Reference8Ideal := by
  intro m g m' g' hpre hag
  refine ⟨_, _, _, _, Cert.Kernel8Ideal.Loss.run m g, ?_⟩
  refine (θ_run Cert.Reference8Ideal.defs _ _).mono (fun r h c => ?_) (run_reference8 m' g')
  obtain ⟨a0, a1, a2, a3, a4, a5⟩ := hag c
  obtain ⟨r0, r1, r2, r3, h'⟩ := h c
  rw [a0, a1, a2, a3, a4, a5] at r0 r1
  rw [a0, a1, a2] at r2
  rw [a0, a1] at r3
  exact ⟨r0, r1, r2, r3, h'⟩

/-- The printed program and its idealization are one text. -/
theorem body_eq9 : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | 0, (t, s) => with_unfolding_all rfl

theorem defs_eq9 : Cert.Kernel9.defs (F := Bits) = Cert.Kernel9Ideal.defs (F := Bits) := by
  unfold Cert.Kernel9.defs Cert.Kernel9Ideal.defs
  exact congrArg (Pipeline.defs Cert.Kernel9Ideal.pcfgs) body_eq9

theorem main_eq9 : Cert.Kernel9.main (F := Bits) = Cert.Kernel9Ideal.main (F := Bits) := by
  with_unfolding_all rfl

theorem frame_kernel9 : Cert.quiescent_Kernel9 := by
  intro m ρ _
  have h : ∀ D M, D = Cert.Kernel9Ideal.defs (F := Bits) → M = Cert.Kernel9Ideal.main (F := Bits) →
      θ_run D (onTc (τ := Cert.Kernel9Ideal.τ) M) ⟨m, fun _ => 0, ρ⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0) := by
    intro D M hD hM
    subst hD hM
    exact Cert.Kernel9Ideal.Gen.frame m ρ
  exact h _ _ defs_eq9 main_eq9
theorem frame_kernel9Ideal : Cert.quiescent_Kernel9Ideal := fun m ρ _ => Cert.Kernel9Ideal.Gen.frame (F := Ideal) m ρ
theorem frame_reference9 : Cert.quiescent_Reference9Ideal := fun m ρ _ =>
  (θ_run Cert.Reference9Ideal.defs _ _).mono (fun r h => ⟨fun c => (h c).2.2.2.2,
      Idealize.ShloMosaic.sem_eq_zero_of_no_sems (by decide) r.2⟩)
    (Cert.Reference9Ideal.Value.run (F := Ideal) m ρ)

theorem algebraic9 : Cert.algebraic_Kernel9Ideal_Reference9Ideal := by
  intro m g m' g' hpre hag
  refine ⟨_, _, _, _, Cert.Kernel9Ideal.Proj.run m g, ?_⟩
  refine (θ_run Cert.Reference9Ideal.defs _ _).mono (fun r h c => ?_) (run_reference9 m' g')
  obtain ⟨a0, a1⟩ := hag c
  obtain ⟨r0, r1, r2, r3, h'⟩ := h c
  rw [a0, a1] at r0 r1 r2 r3
  exact ⟨r0, r1, r2, r3, h'⟩

/-- The printed program and its idealization are one text. -/
theorem body_eq10 : Cert.Kernel10.defs₀ (F := Bits) = Cert.Kernel10Ideal.defs₀ (F := Bits) := by
  unfold Cert.Kernel10.defs₀ Cert.Kernel10Ideal.defs₀
  refine congrArg Defs.onTc (funext fun l => funext fun a => ?_)
  match l, a with
  | 0, (t, s) => with_unfolding_all rfl

theorem defs_eq10 : Cert.Kernel10.defs (F := Bits) = Cert.Kernel10Ideal.defs (F := Bits) := by
  unfold Cert.Kernel10.defs Cert.Kernel10Ideal.defs
  exact congrArg (Pipeline.defs Cert.Kernel10Ideal.pcfgs) body_eq10

theorem main_eq10 : Cert.Kernel10.main (F := Bits) = Cert.Kernel10Ideal.main (F := Bits) := by
  with_unfolding_all rfl

theorem frame_kernel10 : Cert.quiescent_Kernel10 := by
  intro m ρ _
  have h : ∀ D M, D = Cert.Kernel10Ideal.defs (F := Bits) → M = Cert.Kernel10Ideal.main (F := Bits) →
      θ_run D (onTc (τ := Cert.Kernel10Ideal.τ) M) ⟨m, fun _ => 0, ρ⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0) := by
    intro D M hD hM
    subst hD hM
    exact Cert.Kernel10Ideal.Gen.frame m ρ
  exact h _ _ defs_eq10 main_eq10
theorem frame_kernel10Ideal : Cert.quiescent_Kernel10Ideal := fun m ρ _ => Cert.Kernel10Ideal.Gen.frame (F := Ideal) m ρ
theorem frame_reference10 : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

theorem algebraic10 : Cert.algebraic_Kernel10Ideal_Reference10Ideal := by
  intro m g m' g' hpre hag
  refine ⟨_, _, _, Cert.Kernel10Ideal.Mix.run m g, ?_⟩
  refine (θ_run Cert.Reference10Ideal.defs _ _).mono (fun r h c => ?_) (run_reference10 m' g')
  obtain ⟨a0, a1, a2, a3, a4⟩ := hag c
  obtain ⟨r0, r1, r2, h'⟩ := h c
  rw [a0, a1, a2, a3, a4] at r0 r1
  rw [a0, a1, a2] at r2
  exact ⟨r0, r1, r2, h'⟩

end Cert.Proof

end
-- ==== Proof.lean ====
/- The claims of `Cert.Claim`: the FoX attention gradient kernel and the reference run to their ends, the idealized kernel
   is the printed one with its mask named, and the two end with equal arrays; and the same of the SwiGLU layer's two forward
   calls, of the mixer's input and output projections and of the products that give the weight gradients of the SwiGLU layer and of the mixer's projections. -/
module

public import proofs.«01_k».proof.Defs
public import proofs.«01_k».proof.Proof.Printed
public import proofs.«01_k».proof.Proof.Claims
public import proofs.«01_k».proof.Proof.Weights
public import proofs.«01_k».proof.Proof.Layers
public import proofs.«01_k».proof.Proof.Layers2

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, preFacts,
  fun m g _ => Cert.Printed.frame m g,
  fun m g _ => Cert.KernelIdeal.Fox.frame m g,
  fun m g _ => Cert.KernelIdeal.Fox.frame m g,
  frame_reference,
  fun m g _ => frame_reference m g trivial,
  frame_kernel2, frame_kernel2Ideal, frame_reference2,
  frame_kernel3, frame_kernel3Ideal, frame_reference3,
  frame_kernel5, frame_kernel5Ideal, frame_reference5,
  frame_kernel6, frame_kernel6Ideal, frame_reference6,
  frame_kernel7, frame_kernel7Ideal, frame_reference7,
  frame_kernel8, frame_kernel8Ideal, frame_reference8,
  frame_kernel9, frame_kernel9Ideal, frame_reference9,
  frame_kernel10, frame_kernel10Ideal, frame_reference10,
  preserves,
  algebraic,
  trivial, algebraic2,
  trivial, algebraic3,
  trivial, algebraic5,
  trivial, algebraic6,
  trivial, algebraic7,
  trivial, algebraic8,
  trivial, algebraic9,
  trivial, algebraic10⟩

end Cert.Proof

end
